-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonempty [hPre_nonempty : Cert.Pre_nonempty.Facts] (m : (ℓ : Loc Cert.KernelIdeal.nD Cert.KernelIdeal.τ Cert.KernelIdeal.sig) → Buf (Elt Ideal) ℓ) : Prop :=
  ∀ c : Dev Cert.KernelIdeal.nD,
    (Cert.Pre_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonempty [hPre_nonempty : Cert.Pre_nonempty.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonempty.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_nonempty [hKernelIdeal : Cert.KernelIdeal.Facts] [hPre_nonempty : Cert.Pre_nonempty.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonempty m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_nonempty [hReferenceIdeal : Cert.ReferenceIdeal.Facts] [hPre_nonempty : Cert.Pre_nonempty.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonempty m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.bf16_pair.PackStatement Cert.KernelIdeal.S64x128
  ∧ IdealRules.bf16_pair.Statement Cert.KernelIdeal.S128x128 Cert.KernelIdeal.S64x128

def algebraic_KernelIdeal_ReferenceIdeal_on_transform_results [hKernelIdeal : Cert.KernelIdeal.Facts] [hReferenceIdeal : Cert.ReferenceIdeal.Facts] [hOn_transform_results : Cert.On_transform_results.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v4_0)) (v5 : (c : Dev Cert.KernelIdeal.nD) → Buf (Elt Ideal) ((c.tc : Thread Cert.KernelIdeal.nD Cert.KernelIdeal.τ).loc Cert.KernelIdeal.main_v4_1)) (v6 : (c : Dev Cert.KernelIdeal.nD) → Buf (Elt Ideal) ((c.tc : Thread Cert.KernelIdeal.nD Cert.KernelIdeal.τ).loc Cert.KernelIdeal.main_v7_4)) (v7 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![12, 50368]⟩ : Shape).Idx, (Cert.On_transform_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.KernelIdeal.nD Cert.KernelIdeal.τ).loc Cert.KernelIdeal.main_v7_0) i = v0 c i)
          ∧ (∀ i : (⟨1, ![12]⟩ : Shape).Idx, (Cert.On_transform_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.KernelIdeal.nD Cert.KernelIdeal.τ).loc Cert.KernelIdeal.main_v8) i = v1 c i)
          ∧ (∀ i : (⟨1, ![50368]⟩ : Shape).Idx, (Cert.On_transform_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.KernelIdeal.nD Cert.KernelIdeal.τ).loc Cert.KernelIdeal.main_v9) i = v2 c i)
          ∧ (∀ i : (⟨0, ![]⟩ : Shape).Idx, (Cert.On_transform_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 i = 1#1 → r.2.mem ((c.tc : Thread Cert.KernelIdeal.nD Cert.KernelIdeal.τ).loc Cert.KernelIdeal.main_v10) i = v3 c i)
          ∧ (∀ i : (⟨3, ![12, 128, 1024]⟩ : Shape).Idx, (Cert.On_transform_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 i = 1#1 → r.2.mem ((c.tc : Thread Cert.KernelIdeal.nD Cert.KernelIdeal.τ).loc Cert.KernelIdeal.main_v4_0) i = v4 c i)
          ∧ (∀ i : (⟨2, ![12, 128]⟩ : Shape).Idx, (Cert.On_transform_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 i = 1#1 → r.2.mem ((c.tc : Thread Cert.KernelIdeal.nD Cert.KernelIdeal.τ).loc Cert.KernelIdeal.main_v4_1) i = v5 c i)
          ∧ (∀ i : (⟨2, ![12, 50368]⟩ : Shape).Idx, (Cert.On_transform_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 i = 1#1 → r.2.mem ((c.tc : Thread Cert.KernelIdeal.nD Cert.KernelIdeal.τ).loc Cert.KernelIdeal.main_v7_4) i = v6 c i)
          ∧ (∀ i : (⟨1, ![12]⟩ : Shape).Idx, (Cert.On_transform_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2 i = 1#1 → r.2.mem ((c.tc : Thread Cert.KernelIdeal.nD Cert.KernelIdeal.τ).loc Cert.KernelIdeal.main_v11) i = v7 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![12, 50368]⟩ : Shape).Idx, (Cert.On_transform_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.ReferenceIdeal.nD Cert.ReferenceIdeal.τ).loc Cert.ReferenceIdeal.main_v48) i = v0 c i)
          ∧ (∀ i : (⟨1, ![12]⟩ : Shape).Idx, (Cert.On_transform_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.ReferenceIdeal.nD Cert.ReferenceIdeal.τ).loc Cert.ReferenceIdeal.main_v62) i = v1 c i)
          ∧ (∀ i : (⟨1, ![50368]⟩ : Shape).Idx, (Cert.On_transform_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.ReferenceIdeal.nD Cert.ReferenceIdeal.τ).loc Cert.ReferenceIdeal.main_v65) i = v2 c i)
          ∧ (∀ i : (⟨0, ![]⟩ : Shape).Idx, (Cert.On_transform_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 i = 1#1 → r.2.mem ((c.tc : Thread Cert.ReferenceIdeal.nD Cert.ReferenceIdeal.τ).loc Cert.ReferenceIdeal.main_v67) i = v3 c i)
          ∧ (∀ i : (⟨3, ![12, 128, 1024]⟩ : Shape).Idx, (Cert.On_transform_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 i = 1#1 → r.2.mem ((c.tc : Thread Cert.ReferenceIdeal.nD Cert.ReferenceIdeal.τ).loc Cert.ReferenceIdeal.main_v5_0) i = v4 c i)
          ∧ (∀ i : (⟨2, ![12, 128]⟩ : Shape).Idx, (Cert.On_transform_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 i = 1#1 → r.2.mem ((c.tc : Thread Cert.ReferenceIdeal.nD Cert.ReferenceIdeal.τ).loc Cert.ReferenceIdeal.main_v68) i = v5 c i)
          ∧ (∀ i : (⟨2, ![12, 50368]⟩ : Shape).Idx, (Cert.On_transform_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 i = 1#1 → r.2.mem ((c.tc : Thread Cert.ReferenceIdeal.nD Cert.ReferenceIdeal.τ).loc Cert.ReferenceIdeal.main_v61) i = v6 c i)
          ∧ (∀ i : (⟨1, ![12]⟩ : Shape).Idx, (Cert.On_transform_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2 i = 1#1 → r.2.mem ((c.tc : Thread Cert.ReferenceIdeal.nD Cert.ReferenceIdeal.τ).loc Cert.ReferenceIdeal.main_v54) i = v7 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def algebraic_KernelIdeal_ReferenceIdeal_on_scored_results_pre_nonempty [hKernelIdeal : Cert.KernelIdeal.Facts] [hReferenceIdeal : Cert.ReferenceIdeal.Facts] [hPre_nonempty : Cert.Pre_nonempty.Facts] [hOn_scored_results : Cert.On_scored_results.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonempty m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v4_0)) (v5 : (c : Dev Cert.KernelIdeal.nD) → Buf (Elt Ideal) ((c.tc : Thread Cert.KernelIdeal.nD Cert.KernelIdeal.τ).loc Cert.KernelIdeal.main_v4_1)) (v6 : (c : Dev Cert.KernelIdeal.nD) → Buf (Elt Ideal) ((c.tc : Thread Cert.KernelIdeal.nD Cert.KernelIdeal.τ).loc Cert.KernelIdeal.main_v7_4)) (v7 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![12, 50368]⟩ : Shape).Idx, (Cert.On_scored_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.KernelIdeal.nD Cert.KernelIdeal.τ).loc Cert.KernelIdeal.main_v7_0) i = v0 c i)
          ∧ (∀ i : (⟨1, ![12]⟩ : Shape).Idx, (Cert.On_scored_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.KernelIdeal.nD Cert.KernelIdeal.τ).loc Cert.KernelIdeal.main_v8) i = v1 c i)
          ∧ (∀ i : (⟨1, ![50368]⟩ : Shape).Idx, (Cert.On_scored_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.KernelIdeal.nD Cert.KernelIdeal.τ).loc Cert.KernelIdeal.main_v9) i = v2 c i)
          ∧ (∀ i : (⟨0, ![]⟩ : Shape).Idx, (Cert.On_scored_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 i = 1#1 → r.2.mem ((c.tc : Thread Cert.KernelIdeal.nD Cert.KernelIdeal.τ).loc Cert.KernelIdeal.main_v10) i = v3 c i)
          ∧ (∀ i : (⟨3, ![12, 128, 1024]⟩ : Shape).Idx, (Cert.On_scored_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 i = 1#1 → r.2.mem ((c.tc : Thread Cert.KernelIdeal.nD Cert.KernelIdeal.τ).loc Cert.KernelIdeal.main_v4_0) i = v4 c i)
          ∧ (∀ i : (⟨2, ![12, 128]⟩ : Shape).Idx, (Cert.On_scored_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 i = 1#1 → r.2.mem ((c.tc : Thread Cert.KernelIdeal.nD Cert.KernelIdeal.τ).loc Cert.KernelIdeal.main_v4_1) i = v5 c i)
          ∧ (∀ i : (⟨2, ![12, 50368]⟩ : Shape).Idx, (Cert.On_scored_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 i = 1#1 → r.2.mem ((c.tc : Thread Cert.KernelIdeal.nD Cert.KernelIdeal.τ).loc Cert.KernelIdeal.main_v7_4) i = v6 c i)
          ∧ (∀ i : (⟨1, ![12]⟩ : Shape).Idx, (Cert.On_scored_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2 i = 1#1 → r.2.mem ((c.tc : Thread Cert.KernelIdeal.nD Cert.KernelIdeal.τ).loc Cert.KernelIdeal.main_v11) i = v7 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![12, 50368]⟩ : Shape).Idx, (Cert.On_scored_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.ReferenceIdeal.nD Cert.ReferenceIdeal.τ).loc Cert.ReferenceIdeal.main_v48) i = v0 c i)
          ∧ (∀ i : (⟨1, ![12]⟩ : Shape).Idx, (Cert.On_scored_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.ReferenceIdeal.nD Cert.ReferenceIdeal.τ).loc Cert.ReferenceIdeal.main_v62) i = v1 c i)
          ∧ (∀ i : (⟨1, ![50368]⟩ : Shape).Idx, (Cert.On_scored_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.ReferenceIdeal.nD Cert.ReferenceIdeal.τ).loc Cert.ReferenceIdeal.main_v65) i = v2 c i)
          ∧ (∀ i : (⟨0, ![]⟩ : Shape).Idx, (Cert.On_scored_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 i = 1#1 → r.2.mem ((c.tc : Thread Cert.ReferenceIdeal.nD Cert.ReferenceIdeal.τ).loc Cert.ReferenceIdeal.main_v67) i = v3 c i)
          ∧ (∀ i : (⟨3, ![12, 128, 1024]⟩ : Shape).Idx, (Cert.On_scored_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 i = 1#1 → r.2.mem ((c.tc : Thread Cert.ReferenceIdeal.nD Cert.ReferenceIdeal.τ).loc Cert.ReferenceIdeal.main_v5_0) i = v4 c i)
          ∧ (∀ i : (⟨2, ![12, 128]⟩ : Shape).Idx, (Cert.On_scored_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 i = 1#1 → r.2.mem ((c.tc : Thread Cert.ReferenceIdeal.nD Cert.ReferenceIdeal.τ).loc Cert.ReferenceIdeal.main_v68) i = v5 c i)
          ∧ (∀ i : (⟨2, ![12, 50368]⟩ : Shape).Idx, (Cert.On_scored_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 i = 1#1 → r.2.mem ((c.tc : Thread Cert.ReferenceIdeal.nD Cert.ReferenceIdeal.τ).loc Cert.ReferenceIdeal.main_v61) i = v6 c i)
          ∧ (∀ i : (⟨1, ![12]⟩ : Shape).Idx, (Cert.On_scored_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2 i = 1#1 → r.2.mem ((c.tc : Thread Cert.ReferenceIdeal.nD Cert.ReferenceIdeal.τ).loc Cert.ReferenceIdeal.main_v54) i = v7 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_nonempty : Cert.Pre_nonempty.Facts) (hOn_transform_results : Cert.On_transform_results.Facts) (hOn_scored_results : Cert.On_scored_results.Facts),
    quiescent_Kernel (hKernel := hKernel)
    ∧ quiescent_KernelIdeal (hKernelIdeal := hKernelIdeal)
    ∧ quiescent_KernelIdeal_pre_nonempty (hKernelIdeal := hKernelIdeal) (hPre_nonempty := hPre_nonempty)
    ∧ quiescent_ReferenceIdeal (hReferenceIdeal := hReferenceIdeal)
    ∧ quiescent_ReferenceIdeal_pre_nonempty (hReferenceIdeal := hReferenceIdeal) (hPre_nonempty := hPre_nonempty)
    ∧ preserves_Kernel_KernelIdeal
    ∧ algebraic_KernelIdeal_ReferenceIdeal_on_transform_results (hKernelIdeal := hKernelIdeal) (hReferenceIdeal := hReferenceIdeal) (hOn_transform_results := hOn_transform_results)
    ∧ algebraic_KernelIdeal_ReferenceIdeal_on_scored_results_pre_nonempty (hKernelIdeal := hKernelIdeal) (hReferenceIdeal := hReferenceIdeal) (hPre_nonempty := hPre_nonempty) (hOn_scored_results := hOn_scored_results)
-- ==== On_scored_results.lean ====
abbrev S12x128x1024 : Shape := ⟨3, ![12, 128, 1024]⟩
abbrev S12x128 : Shape := ⟨2, ![12, 128]⟩
abbrev S12 : Shape := ⟨1, ![12]⟩
abbrev S1024x1024 : Shape := ⟨2, ![1024, 1024]⟩
abbrev S1024 : Shape := ⟨1, ![1024]⟩
abbrev S50368x512 : Shape := ⟨2, ![50368, 512]⟩
abbrev S50368x8 : Shape := ⟨2, ![50368, 8]⟩
abbrev S50368 : Shape := ⟨1, ![50368]⟩
abbrev S_ : Shape := ⟨0, ![]⟩
abbrev S12x50368 : Shape := ⟨2, ![12, 50368]⟩

class Facts : Prop where
  bcast_S_S12x50368 : S_.BroadcastsInDim S12x50368 (![] : Fin 0 → Fin S12x50368.rank)
  bcast_S_S12 : S_.BroadcastsInDim S12 (![] : Fin 0 → Fin S12.rank)
  bcast_S_S50368 : S_.BroadcastsInDim S50368 (![] : Fin 0 → Fin S50368.rank)
  bcast_S_S12x128x1024 : S_.BroadcastsInDim S12x128x1024 (![] : Fin 0 → Fin S12x128x1024.rank)
  bcast_S_S12x128 : S_.BroadcastsInDim S12x128 (![] : Fin 0 → Fin S12x128.rank)

variable [Facts]

def fn {F : FTy → Type} [FloatOps F] (main_arg0 : FVec F S12x128x1024 .fp8e4m3) (main_arg1 : FVec F S12x128 .f32) (main_arg2 : IVec S12 32) (main_arg3 : FVec F S1024x1024 .fp8e4m3) (main_arg4 : FVec F S1024 .f32) (main_arg5 : FVec F S1024 .f32) (main_arg6 : FVec F S1024 .f32) (main_arg7 : FVec F S1024 .f32) (main_arg8 : IVec S50368x512 8) (main_arg9 : FVec F S50368x8 .f32) (main_arg10 : FVec F S50368 .f32) : IVec S12x50368 1 × IVec S12 1 × IVec S50368 1 × IVec S_ 1 × IVec S12x128x1024 1 × IVec S12x128 1 × IVec S12x50368 1 × IVec S12 1 :=
  let main_c : IVec S_ 1 := constantI S_ 1 1#1
  let main_v0 : IVec S12x50368 1 := broadcastInDim S12x50368 ![] bcast_S_S12x50368 main_c
  let main_c_0 : IVec S_ 1 := constantI S_ 1 0#1
  let main_v1 : IVec S12 1 := broadcastInDim S12 ![] bcast_S_S12 main_c_0
  let main_c_1 : IVec S_ 1 := constantI S_ 1 1#1
  let main_v2 : IVec S50368 1 := broadcastInDim S50368 ![] bcast_S_S50368 main_c_1
  let main_c_2 : IVec S_ 1 := constantI S_ 1 1#1
  let main_v3 : IVec S12x128x1024 1 := broadcastInDim S12x128x1024 ![] bcast_S_S12x128x1024 main_c_2
  let main_c_3 : IVec S_ 1 := constantI S_ 1 1#1
  let main_v4 : IVec S12x128 1 := broadcastInDim S12x128 ![] bcast_S_S12x128 main_c_3
  let main_c_4 : IVec S_ 1 := constantI S_ 1 0#1
  let main_v5 : IVec S12x50368 1 := broadcastInDim S12x50368 ![] bcast_S_S12x50368 main_c_4
  let main_c_5 : IVec S_ 1 := constantI S_ 1 0#1
  let main_v6 : IVec S12 1 := broadcastInDim S12 ![] bcast_S_S12 main_c_5
  let main_c_6 : IVec S_ 1 := constantI S_ 1 0#1
  (main_v0, main_v1, main_v2, main_c_6, main_v3, main_v4, main_v5, main_v6)
-- ==== On_transform_results.lean ====
abbrev S12x128x1024 : Shape := ⟨3, ![12, 128, 1024]⟩
abbrev S12x128 : Shape := ⟨2, ![12, 128]⟩
abbrev S12 : Shape := ⟨1, ![12]⟩
abbrev S1024x1024 : Shape := ⟨2, ![1024, 1024]⟩
abbrev S1024 : Shape := ⟨1, ![1024]⟩
abbrev S50368x512 : Shape := ⟨2, ![50368, 512]⟩
abbrev S50368x8 : Shape := ⟨2, ![50368, 8]⟩
abbrev S50368 : Shape := ⟨1, ![50368]⟩
abbrev S_ : Shape := ⟨0, ![]⟩
abbrev S12x50368 : Shape := ⟨2, ![12, 50368]⟩

class Facts : Prop where
  bcast_S_S12x50368 : S_.BroadcastsInDim S12x50368 (![] : Fin 0 → Fin S12x50368.rank)
  bcast_S_S12 : S_.BroadcastsInDim S12 (![] : Fin 0 → Fin S12.rank)
  bcast_S_S50368 : S_.BroadcastsInDim S50368 (![] : Fin 0 → Fin S50368.rank)
  bcast_S_S12x128x1024 : S_.BroadcastsInDim S12x128x1024 (![] : Fin 0 → Fin S12x128x1024.rank)
  bcast_S_S12x128 : S_.BroadcastsInDim S12x128 (![] : Fin 0 → Fin S12x128.rank)

variable [Facts]

def fn {F : FTy → Type} [FloatOps F] (main_arg0 : FVec F S12x128x1024 .fp8e4m3) (main_arg1 : FVec F S12x128 .f32) (main_arg2 : IVec S12 32) (main_arg3 : FVec F S1024x1024 .fp8e4m3) (main_arg4 : FVec F S1024 .f32) (main_arg5 : FVec F S1024 .f32) (main_arg6 : FVec F S1024 .f32) (main_arg7 : FVec F S1024 .f32) (main_arg8 : IVec S50368x512 8) (main_arg9 : FVec F S50368x8 .f32) (main_arg10 : FVec F S50368 .f32) : IVec S12x50368 1 × IVec S12 1 × IVec S50368 1 × IVec S_ 1 × IVec S12x128x1024 1 × IVec S12x128 1 × IVec S12x50368 1 × IVec S12 1 :=
  let main_c : IVec S_ 1 := constantI S_ 1 0#1
  let main_v0 : IVec S12x50368 1 := broadcastInDim S12x50368 ![] bcast_S_S12x50368 main_c
  let main_c_0 : IVec S_ 1 := constantI S_ 1 0#1
  let main_v1 : IVec S12 1 := broadcastInDim S12 ![] bcast_S_S12 main_c_0
  let main_c_1 : IVec S_ 1 := constantI S_ 1 0#1
  let main_v2 : IVec S50368 1 := broadcastInDim S50368 ![] bcast_S_S50368 main_c_1
  let main_c_2 : IVec S_ 1 := constantI S_ 1 1#1
  let main_v3 : IVec S12x128x1024 1 := broadcastInDim S12x128x1024 ![] bcast_S_S12x128x1024 main_c_2
  let main_c_3 : IVec S_ 1 := constantI S_ 1 1#1
  let main_v4 : IVec S12x128 1 := broadcastInDim S12x128 ![] bcast_S_S12x128 main_c_3
  let main_c_4 : IVec S_ 1 := constantI S_ 1 0#1
  let main_v5 : IVec S12x50368 1 := broadcastInDim S12x50368 ![] bcast_S_S12x50368 main_c_4
  let main_c_5 : IVec S_ 1 := constantI S_ 1 0#1
  let main_v6 : IVec S12 1 := broadcastInDim S12 ![] bcast_S_S12 main_c_5
  let main_c_6 : IVec S_ 1 := constantI S_ 1 0#1
  (main_v0, main_v1, main_v2, main_c_6, main_v3, main_v4, main_v5, main_v6)
-- ==== Pre_nonempty.lean ====
abbrev S12x128x1024 : Shape := ⟨3, ![12, 128, 1024]⟩
abbrev S12x128 : Shape := ⟨2, ![12, 128]⟩
abbrev S12 : Shape := ⟨1, ![12]⟩
abbrev S1024x1024 : Shape := ⟨2, ![1024, 1024]⟩
abbrev S1024 : Shape := ⟨1, ![1024]⟩
abbrev S50368x512 : Shape := ⟨2, ![50368, 512]⟩
abbrev S50368x8 : Shape := ⟨2, ![50368, 8]⟩
abbrev S50368 : Shape := ⟨1, ![50368]⟩
abbrev S_ : Shape := ⟨0, ![]⟩

class Facts : Prop where
  bcast_S_S12 : S_.BroadcastsInDim S12 (![] : Fin 0 → Fin S12.rank)
  reducesTo_S12_S_d0 : S12.ReducesTo [0] S_
  h_S_ : 0 < S_.numel

variable [Facts]

def fn {F : FTy → Type} [FloatOps F] (main_arg0 : FVec F S12x128x1024 .fp8e4m3) (main_arg1 : FVec F S12x128 .f32) (main_arg2 : IVec S12 32) (main_arg3 : FVec F S1024x1024 .fp8e4m3) (main_arg4 : FVec F S1024 .f32) (main_arg5 : FVec F S1024 .f32) (main_arg6 : FVec F S1024 .f32) (main_arg7 : FVec F S1024 .f32) (main_arg8 : IVec S50368x512 8) (main_arg9 : FVec F S50368x8 .f32) (main_arg10 : FVec F S50368 .f32) : IVec S_ 1 :=
  let main_c : IVec S_ 32 := constantI S_ 32 1#32
  let main_v0 : IVec S12 32 := broadcastInDim S12 ![] bcast_S_S12 main_c
  let main_v1 : IVec S12 1 := cmpi .sge main_arg2 main_v0
  let main_c_0 : IVec S_ 1 := constantI S_ 1 1#1
  let main_v2 : IVec S_ 1 := (fun x v => Host.reduce IntOp.andi x v reducesTo_S12_S_d0 h_S_) main_v1 main_c_0
  main_v2
-- ==== Kernel.lean ====
abbrev S12x128x1024 : Shape := ⟨3, ![12, 128, 1024]⟩
abbrev S12x128 : Shape := ⟨2, ![12, 128]⟩
abbrev S12 : Shape := ⟨1, ![12]⟩
abbrev S1024x1024 : Shape := ⟨2, ![1024, 1024]⟩
abbrev S1024 : Shape := ⟨1, ![1024]⟩
abbrev S50368x512 : Shape := ⟨2, ![50368, 512]⟩
abbrev S50368x8 : Shape := ⟨2, ![50368, 8]⟩
abbrev S50368 : Shape := ⟨1, ![50368]⟩
abbrev S1x1024 : Shape := ⟨2, ![1, 1024]⟩
abbrev S12x128x128 : Shape := ⟨3, ![12, 128, 128]⟩
abbrev S1x128x1024 : Shape := ⟨3, ![1, 128, 1024]⟩
abbrev S1x128x128 : Shape := ⟨3, ![1, 128, 128]⟩
abbrev S1 : Shape := ⟨1, ![1]⟩
abbrev S1x128 : Shape := ⟨2, ![1, 128]⟩
abbrev S128x128 : Shape := ⟨2, ![128, 128]⟩
abbrev S128x1 : Shape := ⟨2, ![128, 1]⟩
abbrev S128x1024 : Shape := ⟨2, ![128, 1024]⟩
abbrev S128 : Shape := ⟨1, ![128]⟩
abbrev S256x256 : Shape := ⟨2, ![256, 256]⟩
abbrev S128x256 : Shape := ⟨2, ![128, 256]⟩
abbrev S1x256 : Shape := ⟨2, ![1, 256]⟩
abbrev S1x128x256 : Shape := ⟨3, ![1, 128, 256]⟩
abbrev S8x50368 : Shape := ⟨2, ![8, 50368]⟩
abbrev S1x50368 : Shape := ⟨2, ![1, 50368]⟩
abbrev S12x50368 : Shape := ⟨2, ![12, 50368]⟩
abbrev S12x1 : Shape := ⟨2, ![12, 1]⟩
abbrev S1x1 : Shape := ⟨2, ![1, 1]⟩
abbrev S256x512 : Shape := ⟨2, ![256, 512]⟩
abbrev S8x256 : Shape := ⟨2, ![8, 256]⟩
abbrev S12x256 : Shape := ⟨2, ![12, 256]⟩
abbrev S16x50432 : Shape := ⟨2, ![16, 50432]⟩
abbrev S16x256 : Shape := ⟨2, ![16, 256]⟩
abbrev S64x512 : Shape := ⟨2, ![64, 512]⟩
abbrev S256x128 : Shape := ⟨2, ![256, 128]⟩
abbrev S64x4x128 : Shape := ⟨3, ![64, 4, 128]⟩
abbrev S64x128 : Shape := ⟨2, ![64, 128]⟩
abbrev S64x1x128 : Shape := ⟨3, ![64, 1, 128]⟩
abbrev S64x128x1 : Shape := ⟨3, ![64, 128, 1]⟩
abbrev S256x1024 : Shape := ⟨2, ![256, 1024]⟩
abbrev S1x128x1 : Shape := ⟨3, ![1, 128, 1]⟩
abbrev S256 : Shape := ⟨1, ![256]⟩
abbrev S16x128 : Shape := ⟨2, ![16, 128]⟩
abbrev S16x128x1 : Shape := ⟨3, ![16, 128, 1]⟩
abbrev S16 : Shape := ⟨1, ![16]⟩
abbrev S16x1 : Shape := ⟨2, ![16, 1]⟩
abbrev S16x50368 : Shape := ⟨2, ![16, 50368]⟩
abbrev S_ : Shape := ⟨0, ![]⟩

abbrev nBuf : Space → Nat
  | .hbm => 30
  | .vmem => 36
  | .smem => 1
  | _ => 0

abbrev bufTy : (tb : Table) → Fin (tcTables nBuf tb) → BufTy
  | .hbm, ⟨0, _⟩ => ⟨S12x128x1024, .fp8e4m3⟩
  | .hbm, ⟨1, _⟩ => ⟨S12x128, .f32⟩
  | .hbm, ⟨2, _⟩ => ⟨S1024x1024, .fp8e4m3⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S50368x512, .i8⟩
  | .hbm, ⟨8, _⟩ => ⟨S50368x8, .f32⟩
  | .hbm, ⟨9, _⟩ => ⟨S50368, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S12x128x1024, .fp8e4m3⟩
  | .hbm, ⟨15, _⟩ => ⟨S12x128, .f32⟩
  | .hbm, ⟨16, _⟩ => ⟨S12x128x1024, .bf16⟩
  | .hbm, ⟨17, _⟩ => ⟨S12x128x128, .f32⟩
  | .hbm, ⟨18, _⟩ => ⟨S8x50368, .f32⟩
  | .hbm, ⟨19, _⟩ => ⟨S1x50368, .f32⟩
  | .hbm, ⟨20, _⟩ => ⟨S12x50368, .f32⟩
  | .hbm, ⟨21, _⟩ => ⟨S1x50368, .f32⟩
  | .hbm, ⟨22, _⟩ => ⟨S12x1, .f32⟩
  | .hbm, ⟨23, _⟩ => ⟨S1x1, .f32⟩
  | .hbm, ⟨24, _⟩ => ⟨S12x50368, .i8⟩
  | .hbm, ⟨25, _⟩ => ⟨S12x1, .f32⟩
  | .hbm, ⟨26, _⟩ => ⟨S12, .f32⟩
  | .hbm, ⟨27, _⟩ => ⟨S50368, .f32⟩
  | .hbm, ⟨28, _⟩ => ⟨S_, .f32⟩
  | .hbm, ⟨29, _⟩ => ⟨S12, .f32⟩
  | .local _ .vmem, ⟨0, _⟩ => ⟨S1x128x1024, .fp8e4m3⟩
  | .local _ .vmem, ⟨1, _⟩ => ⟨S1x128x1024, .fp8e4m3⟩
  | .local _ .vmem, ⟨2, _⟩ => ⟨S12x128, .f32⟩
  | .local _ .vmem, ⟨3, _⟩ => ⟨S1024x1024, .fp8e4m3⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x128x1024, .fp8e4m3⟩
  | .local _ .vmem, ⟨9, _⟩ => ⟨S1x128x1024, .fp8e4m3⟩
  | .local _ .vmem, ⟨10, _⟩ => ⟨S12x128, .f32⟩
  | .local _ .vmem, ⟨11, _⟩ => ⟨S1x128x1024, .bf16⟩
  | .local _ .vmem, ⟨12, _⟩ => ⟨S1x128x1024, .bf16⟩
  | .local _ .vmem, ⟨13, _⟩ => ⟨S1x128x128, .f32⟩
  | .local _ .vmem, ⟨14, _⟩ => ⟨S1x128x128, .f32⟩
  | .local _ .vmem, ⟨15, _⟩ => ⟨S12x128x1024, .bf16⟩
  | .local _ .vmem, ⟨16, _⟩ => ⟨S12x128x128, .f32⟩
  | .local _ .vmem, ⟨17, _⟩ => ⟨S256x512, .i8⟩
  | .local _ .vmem, ⟨18, _⟩ => ⟨S256x512, .i8⟩
  | .local _ .vmem, ⟨19, _⟩ => ⟨S8x256, .f32⟩
  | .local _ .vmem, ⟨20, _⟩ => ⟨S8x256, .f32⟩
  | .local _ .vmem, ⟨21, _⟩ => ⟨S1x256, .f32⟩
  | .local _ .vmem, ⟨22, _⟩ => ⟨S1x256, .f32⟩
  | .local _ .vmem, ⟨23, _⟩ => ⟨S12x256, .f32⟩
  | .local _ .vmem, ⟨24, _⟩ => ⟨S12x256, .f32⟩
  | .local _ .vmem, ⟨25, _⟩ => ⟨S1x256, .f32⟩
  | .local _ .vmem, ⟨26, _⟩ => ⟨S1x256, .f32⟩
  | .local _ .vmem, ⟨27, _⟩ => ⟨S12x1, .f32⟩
  | .local _ .vmem, ⟨28, _⟩ => ⟨S1x1, .f32⟩
  | .local _ .vmem, ⟨29, _⟩ => ⟨S12x50368, .i8⟩
  | .local _ .vmem, ⟨30, _⟩ => ⟨S12x1, .f32⟩
  | .local _ .vmem, ⟨31, _⟩ => ⟨S16x50432, .f32⟩
  | .local _ .vmem, ⟨32, _⟩ => ⟨S16x256, .f32⟩
  | .local _ .vmem, ⟨33, _⟩ => ⟨S16x256, .f32⟩
  | .local _ .vmem, ⟨34, _⟩ => ⟨S16x256, .f32⟩
  | .local _ .vmem, ⟨35, _⟩ => ⟨S1x256, .f32⟩
  | .local _ .smem, ⟨0, _⟩ => ⟨S12, .i32⟩
  | _, _ => ⟨S12x128x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev main_v7_4 : Ref sig .tc := ⟨.hbm, 24, rfl⟩
abbrev main_v7_5 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_scratch0 : Ref sig .tc := ⟨.vmem, 31, rfl⟩
abbrev cc1_scratch1 : Ref sig .tc := ⟨.vmem, 32, rfl⟩
abbrev cc1_scratch2 : Ref sig .tc := ⟨.vmem, 33, rfl⟩
abbrev cc1_scratch3 : Ref sig .tc := ⟨.vmem, 34, rfl⟩
abbrev cc1_scratch4 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem8_0 : DmaSem sig := 28
abbrev cc1_sem9_0 : DmaSem sig := 29
abbrev cc1_sem10_0 : DmaSem sig := 30

abbrev nD : Nat := 1
abbrev τ : Topo := Topo.v7x

variable {F : FTy → Type} [BitOps F]

abbrev grid0 : Pipeline.Grid := ⟨1, ![12], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let arg0 : BitVec 32 := BitVec.ofNat 32 (i 0).val
  let v2 : Index := Scalar.indexCast arg0
  let c0 : Index := 0#32
  ![v2.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S12x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![197], ![false]⟩

def k1_mult1 (i : grid1.Coords) : BitVec 32 :=
  let arg0 : BitVec 32 := BitVec.ofNat 32 (i 0).val
  let c256_i32_296 : BitVec 32 := 256#32
  let v804 : BitVec 32 := Scalar.muli arg0 c256_i32_296
  v804
def k1_off1 (i : grid1.Coords) : Fin 2 → Nat :=
  let c0_297 : Index := 0#32
  let arg0 : BitVec 32 := BitVec.ofNat 32 (i 0).val
  let c256_i32_296 : BitVec 32 := 256#32
  let v804 : BitVec 32 := Scalar.muli arg0 c256_i32_296
  let v805 : BitVec 32 := v804
  let v806 : Index := Scalar.indexCast v805
  ![0, v806.toNat]
def k1_cond2 (i : grid1.Coords) : BitVec 1 :=
  let arg0 : BitVec 32 := BitVec.ofNat 32 (i 0).val
  let c196_i32 : BitVec 32 := 196#32
  let v831 : BitVec 1 := Scalar.cmpi .eq arg0 c196_i32
  let v832 : BitVec 32 := Scalar.extui v831
  let c0_i32_314 : BitVec 32 := 0#32
  let v833 : BitVec 1 := Scalar.cmpi .ne v832 c0_i32_314
  v833

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S12x128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S12x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S12x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S12x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S12x50368 .i8 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S12x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]
-- ==== KernelIdeal.lean ====
variable {F : FTy → Type} [FloatOps F]
-- ==== ReferenceIdeal.lean ====
abbrev S12x128x1024 : Shape := ⟨3, ![12, 128, 1024]⟩
abbrev S12x128 : Shape := ⟨2, ![12, 128]⟩
abbrev S12 : Shape := ⟨1, ![12]⟩
abbrev S1024x1024 : Shape := ⟨2, ![1024, 1024]⟩
abbrev S1024 : Shape := ⟨1, ![1024]⟩
abbrev S50368x512 : Shape := ⟨2, ![50368, 512]⟩
abbrev S50368x8 : Shape := ⟨2, ![50368, 8]⟩
abbrev S50368 : Shape := ⟨1, ![50368]⟩
abbrev S12x128x1 : Shape := ⟨3, ![12, 128, 1]⟩
abbrev S1x1x1024 : Shape := ⟨3, ![1, 1, 1024]⟩
abbrev S1536x1024 : Shape := ⟨2, ![1536, 1024]⟩
abbrev S_ : Shape := ⟨0, ![]⟩
abbrev S12x128x512 : Shape := ⟨3, ![12, 128, 512]⟩
abbrev S50368x8x64 : Shape := ⟨3, ![50368, 8, 64]⟩
abbrev S50368x8x1 : Shape := ⟨3, ![50368, 8, 1]⟩
abbrev S12x128x50368 : Shape := ⟨3, ![12, 128, 50368]⟩
abbrev S1x1x50368 : Shape := ⟨3, ![1, 1, 50368]⟩
abbrev S128 : Shape := ⟨1, ![128]⟩
abbrev S1x128x1 : Shape := ⟨3, ![1, 128, 1]⟩
abbrev S12x1x1 : Shape := ⟨3, ![12, 1, 1]⟩
abbrev S12x50368 : Shape := ⟨2, ![12, 50368]⟩
abbrev S12x1 : Shape := ⟨2, ![12, 1]⟩

abbrev nBuf : Space → Nat
  | .hbm => 108
  | .vmem => 10
  | .smem => 0
  | _ => 0

abbrev bufTy : (tb : Table) → Fin (tcTables nBuf tb) → BufTy
  | .hbm, ⟨0, _⟩ => ⟨S12x128x1024, .fp8e4m3⟩
  | .hbm, ⟨1, _⟩ => ⟨S12x128, .f32⟩
  | .hbm, ⟨2, _⟩ => ⟨S12, .i32⟩
  | .hbm, ⟨3, _⟩ => ⟨S1024x1024, .fp8e4m3⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S50368x512, .i8⟩
  | .hbm, ⟨9, _⟩ => ⟨S50368x8, .f32⟩
  | .hbm, ⟨10, _⟩ => ⟨S50368, .f32⟩
  | .hbm, ⟨11, _⟩ => ⟨S12x128x1, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S12x128x1024, .fp8e4m3⟩
  | .hbm, ⟨17, _⟩ => ⟨S12x128x1, .f32⟩
  | .hbm, ⟨18, _⟩ => ⟨S12x128x1024, .bf16⟩
  | .hbm, ⟨19, _⟩ => ⟨S50368x512, .i8⟩
  | .hbm, ⟨20, _⟩ => ⟨S50368x512, .i32⟩
  | .hbm, ⟨21, _⟩ => ⟨S_, .i32⟩
  | .hbm, ⟨22, _⟩ => ⟨S50368x512, .i32⟩
  | .hbm, ⟨23, _⟩ => ⟨S50368x512, .i32⟩
  | .hbm, ⟨24, _⟩ => ⟨S_, .i32⟩
  | .hbm, ⟨25, _⟩ => ⟨S50368x512, .i32⟩
  | .hbm, ⟨26, _⟩ => ⟨S50368x512, .i32⟩
  | .hbm, ⟨27, _⟩ => ⟨S_, .i32⟩
  | .hbm, ⟨28, _⟩ => ⟨S50368x512, .i32⟩
  | .hbm, ⟨29, _⟩ => ⟨S50368x512, .i32⟩
  | .hbm, ⟨30, _⟩ => ⟨S12x128x512, .bf16⟩
  | .hbm, ⟨31, _⟩ => ⟨S50368x512, .bf16⟩
  | .hbm, ⟨32, _⟩ => ⟨S50368x8x64, .bf16⟩
  | .hbm, ⟨33, _⟩ => ⟨S50368x8, .bf16⟩
  | .hbm, ⟨34, _⟩ => ⟨S50368x8x1, .bf16⟩
  | .hbm, ⟨35, _⟩ => ⟨S50368x8x64, .bf16⟩
  | .hbm, ⟨36, _⟩ => ⟨S50368x8x64, .bf16⟩
  | .hbm, ⟨37, _⟩ => ⟨S50368x512, .bf16⟩
  | .hbm, ⟨38, _⟩ => ⟨S12x128x50368, .f32⟩
  | .hbm, ⟨39, _⟩ => ⟨S12x128x512, .bf16⟩
  | .hbm, ⟨40, _⟩ => ⟨S50368x512, .bf16⟩
  | .hbm, ⟨41, _⟩ => ⟨S50368x8x64, .bf16⟩
  | .hbm, ⟨42, _⟩ => ⟨S50368x8, .bf16⟩
  | .hbm, ⟨43, _⟩ => ⟨S50368x8x1, .bf16⟩
  | .hbm, ⟨44, _⟩ => ⟨S50368x8x64, .bf16⟩
  | .hbm, ⟨45, _⟩ => ⟨S50368x8x64, .bf16⟩
  | .hbm, ⟨46, _⟩ => ⟨S50368x512, .bf16⟩
  | .hbm, ⟨47, _⟩ => ⟨S12x128x50368, .f32⟩
  | .hbm, ⟨48, _⟩ => ⟨S12x128x50368, .f32⟩
  | .hbm, ⟨49, _⟩ => ⟨S12x128x50368, .f32⟩
  | .hbm, ⟨50, _⟩ => ⟨S12x128x50368, .f32⟩
  | .hbm, ⟨51, _⟩ => ⟨S1x1x50368, .f32⟩
  | .hbm, ⟨52, _⟩ => ⟨S12x128x50368, .f32⟩
  | .hbm, ⟨53, _⟩ => ⟨S12x128x50368, .f32⟩
  | .hbm, ⟨54, _⟩ => ⟨S128, .i32⟩
  | .hbm, ⟨55, _⟩ => ⟨S1x128x1, .i32⟩
  | .hbm, ⟨56, _⟩ => ⟨S12x1x1, .i32⟩
  | .hbm, ⟨57, _⟩ => ⟨S12x128x1, .i32⟩
  | .hbm, ⟨58, _⟩ => ⟨S12x128x1, .i32⟩
  | .hbm, ⟨59, _⟩ => ⟨S12x128x1, .i1⟩
  | .hbm, ⟨60, _⟩ => ⟨S_, .f32⟩
  | .hbm, ⟨61, _⟩ => ⟨S_, .f32⟩
  | .hbm, ⟨62, _⟩ => ⟨S12x128x50368, .i1⟩
  | .hbm, ⟨63, _⟩ => ⟨S12x128x50368, .f32⟩
  | .hbm, ⟨64, _⟩ => ⟨S12x128x50368, .f32⟩
  | .hbm, ⟨65, _⟩ => ⟨S_, .f32⟩
  | .hbm, ⟨66, _⟩ => ⟨S12x50368, .f32⟩
  | .hbm, ⟨67, _⟩ => ⟨S_, .f32⟩
  | .hbm, ⟨68, _⟩ => ⟨S12x50368, .f32⟩
  | .hbm, ⟨69, _⟩ => ⟨S12x50368, .f32⟩
  | .hbm, ⟨70, _⟩ => ⟨S12x50368, .f32⟩
  | .hbm, ⟨71, _⟩ => ⟨S_, .f32⟩
  | .hbm, ⟨72, _⟩ => ⟨S12, .f32⟩
  | .hbm, ⟨73, _⟩ => ⟨S_, .f32⟩
  | .hbm, ⟨74, _⟩ => ⟨S12, .f32⟩
  | .hbm, ⟨75, _⟩ => ⟨S12, .i1⟩
  | .hbm, ⟨76, _⟩ => ⟨S_, .f32⟩
  | .hbm, ⟨77, _⟩ => ⟨S12, .f32⟩
  | .hbm, ⟨78, _⟩ => ⟨S12, .f32⟩
  | .hbm, ⟨79, _⟩ => ⟨S_, .f32⟩
  | .hbm, ⟨80, _⟩ => ⟨S_, .f32⟩
  | .hbm, ⟨81, _⟩ => ⟨S12, .f32⟩
  | .hbm, ⟨82, _⟩ => ⟨S12, .f32⟩
  | .hbm, ⟨83, _⟩ => ⟨S12x1, .f32⟩
  | .hbm, ⟨84, _⟩ => ⟨S12x50368, .f32⟩
  | .hbm, ⟨85, _⟩ => ⟨S12x50368, .f32⟩
  | .hbm, ⟨86, _⟩ => ⟨S12x50368, .f32⟩
  | .hbm, ⟨87, _⟩ => ⟨S_, .i32⟩
  | .hbm, ⟨88, _⟩ => ⟨S_, .f32⟩
  | .hbm, ⟨89, _⟩ => ⟨S_, .f32⟩
  | .hbm, ⟨90, _⟩ => ⟨S12x50368, .f32⟩
  | .hbm, ⟨91, _⟩ => ⟨S12x50368, .f32⟩
  | .hbm, ⟨92, _⟩ => ⟨S_, .f32⟩
  | .hbm, ⟨93, _⟩ => ⟨S12x50368, .f32⟩
  | .hbm, ⟨94, _⟩ => ⟨S12x50368, .f32⟩
  | .hbm, ⟨95, _⟩ => ⟨S12x50368, .i32⟩
  | .hbm, ⟨96, _⟩ => ⟨S12x50368, .i8⟩
  | .hbm, ⟨97, _⟩ => ⟨S_, .f32⟩
  | .hbm, ⟨98, _⟩ => ⟨S12, .f32⟩
  | .hbm, ⟨99, _⟩ => ⟨S_, .f32⟩
  | .hbm, ⟨100, _⟩ => ⟨S50368, .f32⟩
  | .hbm, ⟨101, _⟩ => ⟨S_, .f32⟩
  | .hbm, ⟨102, _⟩ => ⟨S50368, .f32⟩
  | .hbm, ⟨103, _⟩ => ⟨S50368, .f32⟩
  | .hbm, ⟨104, _⟩ => ⟨S50368, .f32⟩
  | .hbm, ⟨105, _⟩ => ⟨S_, .f32⟩
  | .hbm, ⟨106, _⟩ => ⟨S_, .f32⟩
  | .hbm, ⟨107, _⟩ => ⟨S12x128, .f32⟩
  | .local _ .vmem, ⟨0, _⟩ => ⟨S12x128x1024, .fp8e4m3⟩
  | .local _ .vmem, ⟨1, _⟩ => ⟨S12x128x1, .f32⟩
  | .local _ .vmem, ⟨2, _⟩ => ⟨S1024x1024, .fp8e4m3⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S12x128x1024, .fp8e4m3⟩
  | .local _ .vmem, ⟨8, _⟩ => ⟨S12x128x1, .f32⟩
  | .local _ .vmem, ⟨9, _⟩ => ⟨S12x128x1024, .bf16⟩
  | _, _ => ⟨S12x128x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v44 : Ref sig .tc := ⟨.hbm, 64, rfl⟩
abbrev main_cst_2 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_cst_6 : Ref sig .tc := ⟨.hbm, 76, rfl⟩
abbrev main_v52 : Ref sig .tc := ⟨.hbm, 77, rfl⟩
abbrev main_v53 : Ref sig .tc := ⟨.hbm, 78, rfl⟩
abbrev main_cst_7 : Ref sig .tc := ⟨.hbm, 79, rfl⟩
abbrev main_call1_v0 : Ref sig .tc := ⟨.hbm, 80, rfl⟩
abbrev main_call1_v1 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_8 : Ref sig .tc := ⟨.hbm, 87, rfl⟩
abbrev main_cst_9 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_10 : Ref sig .tc := ⟨.hbm, 97, rfl⟩
abbrev main_v62 : Ref sig .tc := ⟨.hbm, 98, rfl⟩
abbrev main_cst_11 : Ref sig .tc := ⟨.hbm, 99, rfl⟩
abbrev main_v63 : Ref sig .tc := ⟨.hbm, 100, rfl⟩
abbrev main_cst_12 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_13 : Ref sig .tc := ⟨.hbm, 105, rfl⟩
abbrev main_v67 : Ref sig .tc := ⟨.hbm, 106, rfl⟩
abbrev main_v68 : Ref sig .tc := ⟨.hbm, 107, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S12x128x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x128x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.VocabPure.lean ====
/-
  The vocabulary call, one grid point, as plain functions of the blocks it reads and of the scratch buffers it carries:
  `wTile` (the 256 dequantised vocabulary rows, even channels then odd), `rowOf` (one document's maxima over its
  positions), `mxStep` (the twelve documents' maxima written over the scratch), `logitT` (lanes put back in vocabulary
  order, bias added), and `step` (what the point leaves in the five scratch buffers).
-/
module

public import proofs.«01_k».proof.Proof.Gen.KernelIdeal.Skeleton
public import Idealize.ShloMosaic.Lib.VecWindow

@[expose] public section

set_option maxRecDepth 16384

noncomputable section

namespace Cert.KernelIdeal.Vocab

open Cert.KernelIdeal Cert.KernelIdeal.Gen
open Idealize.ShloMosaic Idealize.SL.Sem

variable {F : FTy → Type} [FloatOps F]

/-! ## The dequantised rows: the values the body names on the way, each over the packed block and the scales block -/

def wq0 (x3 : Vec F S256x512 .i8) : IVec S64x512 32 := k1_pay10 x3
def wq1 (x4 : Vec F S8x256 .f32) : FVec F S64x4x128 .f32 := k1_pay11 x4
def wq2 (x4 : Vec F S8x256 .f32) : FVec F S64x128 .f32 := k1_pay13 x4
def wq3 (x3 : Vec F S256x512 .i8) (x4 : Vec F S8x256 .f32) : FVec F S128x256 .bf16 := k1_pay17 (wq0 x3) (wq1 x4) k1_pay12 (wq2 x4) k1_pay14 k1_pay15 k1_pay16
def wq4 (x4 : Vec F S8x256 .f32) : FVec F S64x128 .f32 := k1_pay18 (wq1 x4)
def wq5 (x3 : Vec F S256x512 .i8) (x4 : Vec F S8x256 .f32) : FVec F S256x256 .bf16 := k1_pay21 (wq0 x3) (wq1 x4) k1_pay12 (wq3 x3 x4) (wq4 x4) (k1_pay19 k1_pay12) k1_pay20
def wq6 (x4 : Vec F S8x256 .f32) : FVec F S64x128 .f32 := k1_pay22 (wq1 x4)
def wq7 (x3 : Vec F S256x512 .i8) (x4 : Vec F S8x256 .f32) : FVec F S128x256 .bf16 := k1_pay23 (wq0 x3) (wq1 x4) k1_pay12 (wq6 x4) 2#32
def wq8 (x4 : Vec F S8x256 .f32) : FVec F S128x128 .bf16 := k1_pay24 (wq1 x4) k1_pay12
def wq9 (x3 : Vec F S256x512 .i8) (x4 : Vec F S8x256 .f32) : FVec F S128x128 .bf16 := k1_pay26 (wq0 x3) (wq1 x4) k1_pay12
def wq10 (x3 : Vec F S256x512 .i8) : FVec F S128x128 .bf16 := k1_pay27 (wq0 x3)
def wq11 (x3 : Vec F S256x512 .i8) (x4 : Vec F S8x256 .f32) : FVec F S256x256 .bf16 := k1_pay29 (wq7 x3 x4) (wq8 x4) (wq9 x3 x4) (wq10 x3) k1_pay28
def wq12 (x4 : Vec F S8x256 .f32) : FVec F S128x128 .bf16 := k1_pay30 (wq1 x4) k1_pay12
def wq13 (x3 : Vec F S256x512 .i8) (x4 : Vec F S8x256 .f32) : FVec F S128x128 .bf16 := k1_pay32 (wq0 x3) (wq1 x4) k1_pay12
def wq14 (x3 : Vec F S256x512 .i8) : IVec S64x128 32 := k1_pay33 (wq0 x3)
def wq15 (x3 : Vec F S256x512 .i8) (x4 : Vec F S8x256 .f32) : FVec F S128x256 .bf16 := k1_pay35 (wq12 x4) (wq13 x3 x4) (wq14 x3) k1_pay34
def wq16 (x4 : Vec F S8x256 .f32) : FVec F S128x128 .bf16 := k1_pay36 (wq1 x4) k1_pay12
def wq17 (x3 : Vec F S256x512 .i8) (x4 : Vec F S8x256 .f32) : FVec F S128x128 .bf16 := k1_pay38 (wq0 x3) (wq1 x4) k1_pay12
def wq18 (x3 : Vec F S256x512 .i8) : IVec S64x128 32 := k1_pay39 (wq0 x3)
def wq19 (x3 : Vec F S256x512 .i8) (x4 : Vec F S8x256 .f32) : FVec F S256x256 .bf16 := k1_pay41 (wq15 x3 x4) (wq16 x4) (wq17 x3 x4) (wq18 x3) k1_pay40
def wq20 (x4 : Vec F S8x256 .f32) : FVec F S128x128 .bf16 := k1_pay42 (wq1 x4) k1_pay12
def wq21 (x3 : Vec F S256x512 .i8) : IVec S64x128 32 := k1_pay43 (wq0 x3)
def wq22 (x3 : Vec F S256x512 .i8) (x4 : Vec F S8x256 .f32) : FVec F S128x128 .bf16 := k1_pay44 (wq0 x3) (wq1 x4) k1_pay12
def wq23 (x3 : Vec F S256x512 .i8) (x4 : Vec F S8x256 .f32) : FVec F S128x256 .bf16 := k1_pay45 (wq20 x4) (wq21 x3) (wq22 x3 x4) 4#32
def wq24 (x4 : Vec F S8x256 .f32) : FVec F S128x128 .bf16 := k1_pay46 (wq1 x4) k1_pay12
def wq25 (x3 : Vec F S256x512 .i8) : IVec S64x128 32 := k1_pay47 (wq0 x3)
def wq26 (x3 : Vec F S256x512 .i8) : FVec F S128x128 .bf16 := k1_pay48 (wq0 x3)
def wq27 (x3 : Vec F S256x512 .i8) (x4 : Vec F S8x256 .f32) : FVec F S256x1024 .bf16 := k1_pay50 (wq5 x3 x4) (wq11 x3 x4) (wq19 x3 x4) (wq23 x3 x4) (wq24 x4) (wq25 x3) (wq26 x3) k1_pay49

/-- The tile of 256 dequantised rows, 1024 channels (even ones first), from the packed block and the group scales. -/
abbrev wTile (x3 : Vec F S256x512 .i8) (x4 : Vec F S8x256 .f32) : FVec F S256x1024 .bf16 := wq27 x3 x4

/-- One document's largest logit per tile row over its 128 positions, before the bias. -/
abbrev rowOf (w : FVec F S256x1024 .bf16) (z : Vec F S1x128x1024 .bf16) (s : Vec F S1x128x1 .f32) : FVec F S1x256 .f32 := k1_pay54 w z s

/-- The maxima scratch after the twelve documents: rows 0 to 11 replaced. -/
def mxStep (x1 : Vec F S12x128x1024 .bf16) (x2 : Vec F S12x128x128 .f32) (w : FVec F S256x1024 .bf16) (mx : Vec F S16x256 .f32) : Vec F S16x256 .f32 :=
  VecWindow.put (VecWindow.put (VecWindow.put (VecWindow.put (VecWindow.put (VecWindow.put (VecWindow.put (VecWindow.put (VecWindow.put (VecWindow.put (VecWindow.put (VecWindow.put mx
    ![0, 0] S1x256.size (rowOf w (VecWindow.window x1 ![0, 0, 0] S1x128x1024.size inb_S12x128x1024_S1x128x1024_0_0_0) (VecWindow.window x2 ![0, 0, 0] S1x128x1.size inb_S12x128x128_S1x128x1_0_0_0)))
    ![1, 0] S1x256.size (rowOf w (VecWindow.window x1 ![1, 0, 0] S1x128x1024.size inb_S12x128x1024_S1x128x1024_1_0_0) (VecWindow.window x2 ![1, 0, 0] S1x128x1.size inb_S12x128x128_S1x128x1_1_0_0)))
    ![2, 0] S1x256.size (rowOf w (VecWindow.window x1 ![2, 0, 0] S1x128x1024.size inb_S12x128x1024_S1x128x1024_2_0_0) (VecWindow.window x2 ![2, 0, 0] S1x128x1.size inb_S12x128x128_S1x128x1_2_0_0)))
    ![3, 0] S1x256.size (rowOf w (VecWindow.window x1 ![3, 0, 0] S1x128x1024.size inb_S12x128x1024_S1x128x1024_3_0_0) (VecWindow.window x2 ![3, 0, 0] S1x128x1.size inb_S12x128x128_S1x128x1_3_0_0)))
    ![4, 0] S1x256.size (rowOf w (VecWindow.window x1 ![4, 0, 0] S1x128x1024.size inb_S12x128x1024_S1x128x1024_4_0_0) (VecWindow.window x2 ![4, 0, 0] S1x128x1.size inb_S12x128x128_S1x128x1_4_0_0)))
    ![5, 0] S1x256.size (rowOf w (VecWindow.window x1 ![5, 0, 0] S1x128x1024.size inb_S12x128x1024_S1x128x1024_5_0_0) (VecWindow.window x2 ![5, 0, 0] S1x128x1.size inb_S12x128x128_S1x128x1_5_0_0)))
    ![6, 0] S1x256.size (rowOf w (VecWindow.window x1 ![6, 0, 0] S1x128x1024.size inb_S12x128x1024_S1x128x1024_6_0_0) (VecWindow.window x2 ![6, 0, 0] S1x128x1.size inb_S12x128x128_S1x128x1_6_0_0)))
    ![7, 0] S1x256.size (rowOf w (VecWindow.window x1 ![7, 0, 0] S1x128x1024.size inb_S12x128x1024_S1x128x1024_7_0_0) (VecWindow.window x2 ![7, 0, 0] S1x128x1.size inb_S12x128x128_S1x128x1_7_0_0)))
    ![8, 0] S1x256.size (rowOf w (VecWindow.window x1 ![8, 0, 0] S1x128x1024.size inb_S12x128x1024_S1x128x1024_8_0_0) (VecWindow.window x2 ![8, 0, 0] S1x128x1.size inb_S12x128x128_S1x128x1_8_0_0)))
    ![9, 0] S1x256.size (rowOf w (VecWindow.window x1 ![9, 0, 0] S1x128x1024.size inb_S12x128x1024_S1x128x1024_9_0_0) (VecWindow.window x2 ![9, 0, 0] S1x128x1.size inb_S12x128x128_S1x128x1_9_0_0)))
    ![10, 0] S1x256.size (rowOf w (VecWindow.window x1 ![10, 0, 0] S1x128x1024.size inb_S12x128x1024_S1x128x1024_10_0_0) (VecWindow.window x2 ![10, 0, 0] S1x128x1.size inb_S12x128x128_S1x128x1_10_0_0)))
    ![11, 0] S1x256.size (rowOf w (VecWindow.window x1 ![11, 0, 0] S1x128x1024.size inb_S12x128x1024_S1x128x1024_11_0_0) (VecWindow.window x2 ![11, 0, 0] S1x128x1.size inb_S12x128x128_S1x128x1_11_0_0))

def laneIota : IVec S16x128 32 := iota .tc S16x128 32 [1] iota_S16x128_d1_w32
def lq32 := k1_pay66 laneIota 4#32
def lq36 := k1_pay75 laneIota (k1_pay74 laneIota) 4#32
def lq33 (mx : Vec F S16x256 .f32) : FVec F S16x128 .f32 := k1_pay70 (mx) lq32 (k1_pay67 laneIota) (2#32) k1_pay68
def lq34 (mx : Vec F S16x256 .f32) : FVec F S16x128 .f32 := k1_pay71 (mx) lq32 (k1_pay67 laneIota) (2#32) k1_pay68
def lq35 (mx : Vec F S16x256 .f32) : FVec F S16x128 .f32 := k1_pay73 (lq33 mx) (lq34 mx) (2#32) (k1_pay72 laneIota) 0#32
def lq37 (mx : Vec F S16x256 .f32) : FVec F S16x128 .f32 := k1_pay76 (mx) laneIota (k1_pay74 laneIota) 4#32

/-- The logits of the block in vocabulary order with the bias added, sixteen rows. -/
def logitT (mx : Vec F S16x256 .f32) (x5 : Vec F S1x256 .f32) := k1_pay78 (mx) laneIota (lq35 mx) lq36 (lq37 mx) x5

/-- Which of the block's elements stand for a vocabulary row of one of the twelve documents. -/
abbrev liveT (i : grid1.Coords) := k1_pay77 (BitVec.ofNat 32 (i 0).val)

/-! ## The scratch buffers, and what one point makes of them -/

/-- The five scratch buffers: all representations so far, the maxima, the sums, the largest values, the sums of squares. -/
structure St (F : FTy → Type) where
  rep : Vec F S16x50432 .f32
  mx : Vec F S16x256 .f32
  l1 : Vec F S16x256 .f32
  top : Vec F S16x256 .f32
  sq : Vec F S1x256 .f32

/-- The first point's initialisation: all but the representations. -/
def St.reset (s : St F) : St F := ⟨s.rep, k1_pay9, k1_pay6, k1_pay7, k1_pay8⟩

/-- The logits point `i` computes. -/
def lgOf (x1 : Vec F S12x128x1024 .bf16) (x2 : Vec F S12x128x128 .f32) (x3 : Vec F S256x512 .i8) (x4 : Vec F S8x256 .f32) (x5 : Vec F S1x256 .f32) (s : St F) :=
  logitT (mxStep x1 x2 (wTile x3 x4) s.mx) x5

/-- What the body leaves in the scratch buffers, from what it finds after the initialisation. -/
def St.next (i : grid1.Coords) (x1 : Vec F S12x128x1024 .bf16) (x2 : Vec F S12x128x128 .f32) (x3 : Vec F S256x512 .i8) (x4 : Vec F S8x256 .f32) (x5 : Vec F S1x256 .f32) (s : St F) : St F where
  rep := VecWindow.put s.rep (k1_off1 i) S16x256.size (k1_pay81 (liveT i) (lgOf x1 x2 x3 x4 x5 s))
  mx := mxStep x1 x2 (wTile x3 x4) s.mx
  l1 := k1_pay83 (liveT i) (lgOf x1 x2 x3 x4 x5 s) s.l1
  top := k1_pay84 (liveT i) (lgOf x1 x2 x3 x4 x5 s) s.top
  sq := k1_pay85 (liveT i) (lgOf x1 x2 x3 x4 x5 s) s.sq

end Cert.KernelIdeal.Vocab

end
-- ==== Proof.VocabRun.lean ====
/-
  The vocabulary call's body, run once per case of its two conditions (first point, a point between, last point), and
  what each run leaves in the buffers, read as the functions of VocabPure.lean.
-/
module

public import proofs.«01_k».proof.Proof.Gen.KernelIdeal.Launch
public import proofs.«01_k».proof.Proof.VocabPure
public import Idealize.ShloMosaic.Lib.Tactic

@[expose] public section

set_option maxRecDepth 16384

noncomputable section

namespace Cert.KernelIdeal.Vocab

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × Counters
local notation "𝕄" => MT nD τ sig Unit (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body's first condition: the first grid point. -/
abbrev First (i : grid1.Coords) : Prop := Scalar.cmpi .ne (Scalar.extui (Scalar.cmpi .eq (BitVec.ofNat 32 (i 0).val) 0#32) : BitVec 32) 0#32 = 1#1

set_option maxHeartbeats 4000000 in
/-- The body at the first point: what it leaves in each buffer it writes, with the run itself. -/
noncomputable def runFirst (c : Dev nD) (i : grid1.Coords) (M1 : Memref sig .tc .vmem S12x128x1024 .bf16) (h1 : M1.IsWhole) (M2 : Memref sig .tc .vmem S12x128x128 .f32) (h2 : M2.IsWhole) (M3 : Memref sig .tc .vmem S256x512 .i8) (h3 : M3.IsWhole) (M4 : Memref sig .tc .vmem S8x256 .f32) (h4 : M4.IsWhole) (M5 : Memref sig .tc .vmem S1x256 .f32) (h5 : M5.IsWhole) (M6 : Memref sig .tc .vmem S12x256 .f32) (h6 : M6.IsWhole) (M7 : Memref sig .tc .vmem S1x256 .f32) (h7 : M7.IsWhole) (M8 : Memref sig .tc .vmem S12x1 .f32) (h8 : M8.IsWhole) (M9 : Memref sig .tc .vmem S1x1 .f32) (h9 : M9.IsWhole) (M10 : Memref sig .tc .vmem S12x50368 .i8) (h10 : M10.IsWhole) (M11 : Memref sig .tc .vmem S12x1 .f32) (h11 : M11.IsWhole) (M12 : Memref sig .tc .vmem S16x50432 .f32) (h12 : M12.IsWhole) (M13 : Memref sig .tc .vmem S16x256 .f32) (h13 : M13.IsWhole) (M14 : Memref sig .tc .vmem S16x256 .f32) (h14 : M14.IsWhole) (M15 : Memref sig .tc .vmem S16x256 .f32) (h15 : M15.IsWhole) (M16 : Memref sig .tc .vmem S1x256 .f32) (h16 : M16.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (hc1 : First i) (hc2 : ¬k1_cond2 i = 1#1) :
    { W : Bf (F := F) c M6 × Bf (F := F) c M7 × Bf (F := F) c M12 × Bf (F := F) c M13 × Bf (F := F) c M14 × Bf (F := F) c M15 × Bf (F := F) c M16 // ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ (iprop(pt c M1 f1 ∗ pt c M2 f2 ∗ pt c M3 f3 ∗ pt c M4 f4 ∗ pt c M5 f5 ∗ pt c M6 W.1 ∗ pt c M7 W.2.1 ∗ pt c M8 f8 ∗ pt c M9 f9 ∗ pt c M10 f10 ∗ pt c M11 f11 ∗ pt c M12 W.2.2.1 ∗ pt c M13 W.2.2.2.1 ∗ pt c M14 W.2.2.2.2.1 ∗ pt c M15 W.2.2.2.2.2.1 ∗ pt c M16 W.2.2.2.2.2.2) -∗ Q ⟨⟩))
          ⊢ wp frame (wpE (defs₀ (F := F)) Variants.none c none) E (cc1_vocab i M1 h1 M2 h2 M3 h3 M4 h4 M5 h5 M6 h6 M7 h7 M8 h8 M9 h9 M10 h10 M11 h11 M12 h12 M13 h13 M14 h14 M15 h15 M16 h16) Q } := by
  refine ⟨⟨?_, ?_, ?_, ?_, ?_, ?_, ?_⟩, fun E Q => ?run⟩
  case run =>
    simp only [cc1_vocab_eq_skeleton]; unfold cc1_vocab_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton]
    iintro ⟨H1, H2, H3, H4, H5, H6, H7, H8, H9, H10, H11, H12, H13, H14, H15, H16, Hk⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

set_option maxHeartbeats 4000000 in
/-- The body at a point that is neither the first nor the last: what it leaves in each buffer it writes, with the run itself. -/
noncomputable def runMid (c : Dev nD) (i : grid1.Coords) (M1 : Memref sig .tc .vmem S12x128x1024 .bf16) (h1 : M1.IsWhole) (M2 : Memref sig .tc .vmem S12x128x128 .f32) (h2 : M2.IsWhole) (M3 : Memref sig .tc .vmem S256x512 .i8) (h3 : M3.IsWhole) (M4 : Memref sig .tc .vmem S8x256 .f32) (h4 : M4.IsWhole) (M5 : Memref sig .tc .vmem S1x256 .f32) (h5 : M5.IsWhole) (M6 : Memref sig .tc .vmem S12x256 .f32) (h6 : M6.IsWhole) (M7 : Memref sig .tc .vmem S1x256 .f32) (h7 : M7.IsWhole) (M8 : Memref sig .tc .vmem S12x1 .f32) (h8 : M8.IsWhole) (M9 : Memref sig .tc .vmem S1x1 .f32) (h9 : M9.IsWhole) (M10 : Memref sig .tc .vmem S12x50368 .i8) (h10 : M10.IsWhole) (M11 : Memref sig .tc .vmem S12x1 .f32) (h11 : M11.IsWhole) (M12 : Memref sig .tc .vmem S16x50432 .f32) (h12 : M12.IsWhole) (M13 : Memref sig .tc .vmem S16x256 .f32) (h13 : M13.IsWhole) (M14 : Memref sig .tc .vmem S16x256 .f32) (h14 : M14.IsWhole) (M15 : Memref sig .tc .vmem S16x256 .f32) (h15 : M15.IsWhole) (M16 : Memref sig .tc .vmem S1x256 .f32) (h16 : M16.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (hc1 : ¬First i) (hc2 : ¬k1_cond2 i = 1#1) :
    { W : Bf (F := F) c M6 × Bf (F := F) c M7 × Bf (F := F) c M12 × Bf (F := F) c M13 × Bf (F := F) c M14 × Bf (F := F) c M15 × Bf (F := F) c M16 // ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ (iprop(pt c M1 f1 ∗ pt c M2 f2 ∗ pt c M3 f3 ∗ pt c M4 f4 ∗ pt c M5 f5 ∗ pt c M6 W.1 ∗ pt c M7 W.2.1 ∗ pt c M8 f8 ∗ pt c M9 f9 ∗ pt c M10 f10 ∗ pt c M11 f11 ∗ pt c M12 W.2.2.1 ∗ pt c M13 W.2.2.2.1 ∗ pt c M14 W.2.2.2.2.1 ∗ pt c M15 W.2.2.2.2.2.1 ∗ pt c M16 W.2.2.2.2.2.2) -∗ Q ⟨⟩))
          ⊢ wp frame (wpE (defs₀ (F := F)) Variants.none c none) E (cc1_vocab i M1 h1 M2 h2 M3 h3 M4 h4 M5 h5 M6 h6 M7 h7 M8 h8 M9 h9 M10 h10 M11 h11 M12 h12 M13 h13 M14 h14 M15 h15 M16 h16) Q } := by
  refine ⟨⟨?_, ?_, ?_, ?_, ?_, ?_, ?_⟩, fun E Q => ?run⟩
  case run =>
    simp only [cc1_vocab_eq_skeleton]; unfold cc1_vocab_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton]
    iintro ⟨H1, H2, H3, H4, H5, H6, H7, H8, H9, H10, H11, H12, H13, H14, H15, H16, Hk⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

set_option maxHeartbeats 4000000 in
/-- The body at the last point: what it leaves in each buffer it writes, with the run itself. -/
noncomputable def runLast (c : Dev nD) (i : grid1.Coords) (M1 : Memref sig .tc .vmem S12x128x1024 .bf16) (h1 : M1.IsWhole) (M2 : Memref sig .tc .vmem S12x128x128 .f32) (h2 : M2.IsWhole) (M3 : Memref sig .tc .vmem S256x512 .i8) (h3 : M3.IsWhole) (M4 : Memref sig .tc .vmem S8x256 .f32) (h4 : M4.IsWhole) (M5 : Memref sig .tc .vmem S1x256 .f32) (h5 : M5.IsWhole) (M6 : Memref sig .tc .vmem S12x256 .f32) (h6 : M6.IsWhole) (M7 : Memref sig .tc .vmem S1x256 .f32) (h7 : M7.IsWhole) (M8 : Memref sig .tc .vmem S12x1 .f32) (h8 : M8.IsWhole) (M9 : Memref sig .tc .vmem S1x1 .f32) (h9 : M9.IsWhole) (M10 : Memref sig .tc .vmem S12x50368 .i8) (h10 : M10.IsWhole) (M11 : Memref sig .tc .vmem S12x1 .f32) (h11 : M11.IsWhole) (M12 : Memref sig .tc .vmem S16x50432 .f32) (h12 : M12.IsWhole) (M13 : Memref sig .tc .vmem S16x256 .f32) (h13 : M13.IsWhole) (M14 : Memref sig .tc .vmem S16x256 .f32) (h14 : M14.IsWhole) (M15 : Memref sig .tc .vmem S16x256 .f32) (h15 : M15.IsWhole) (M16 : Memref sig .tc .vmem S1x256 .f32) (h16 : M16.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (hc1 : ¬First i) (hc2 : k1_cond2 i = 1#1) :
    { W : Bf (F := F) c M6 × Bf (F := F) c M7 × Bf (F := F) c M8 × Bf (F := F) c M9 × Bf (F := F) c M10 × Bf (F := F) c M11 × Bf (F := F) c M12 × Bf (F := F) c M13 × Bf (F := F) c M14 × Bf (F := F) c M15 × Bf (F := F) c M16 // ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ (iprop(pt c M1 f1 ∗ pt c M2 f2 ∗ pt c M3 f3 ∗ pt c M4 f4 ∗ pt c M5 f5 ∗ pt c M6 W.1 ∗ pt c M7 W.2.1 ∗ pt c M8 W.2.2.1 ∗ pt c M9 W.2.2.2.1 ∗ pt c M10 W.2.2.2.2.1 ∗ pt c M11 W.2.2.2.2.2.1 ∗ pt c M12 W.2.2.2.2.2.2.1 ∗ pt c M13 W.2.2.2.2.2.2.2.1 ∗ pt c M14 W.2.2.2.2.2.2.2.2.1 ∗ pt c M15 W.2.2.2.2.2.2.2.2.2.1 ∗ pt c M16 W.2.2.2.2.2.2.2.2.2.2) -∗ Q ⟨⟩))
          ⊢ wp frame (wpE (defs₀ (F := F)) Variants.none c none) E (cc1_vocab i M1 h1 M2 h2 M3 h3 M4 h4 M5 h5 M6 h6 M7 h7 M8 h8 M9 h9 M10 h10 M11 h11 M12 h12 M13 h13 M14 h14 M15 h15 M16 h16) Q } := by
  refine ⟨⟨?_, ?_, ?_, ?_, ?_, ?_, ?_, ?_, ?_, ?_, ?_⟩, fun E Q => ?run⟩
  case run =>
    simp only [cc1_vocab_eq_skeleton]; unfold cc1_vocab_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton]
    iintro ⟨H1, H2, H3, H4, H5, H6, H7, H8, H9, H10, H11, H12, H13, H14, H15, H16, Hk⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

theorem read_writes_put {s : Shape} {e : EltTy} {κ : Kind} {sp : Space} (v : View sig κ sp s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

section Reads

variable (c : Dev nD) (i : grid1.Coords) (M1 : Memref sig .tc .vmem S12x128x1024 .bf16) (h1 : M1.IsWhole) (M2 : Memref sig .tc .vmem S12x128x128 .f32) (h2 : M2.IsWhole) (M3 : Memref sig .tc .vmem S256x512 .i8) (h3 : M3.IsWhole) (M4 : Memref sig .tc .vmem S8x256 .f32) (h4 : M4.IsWhole) (M5 : Memref sig .tc .vmem S1x256 .f32) (h5 : M5.IsWhole) (M6 : Memref sig .tc .vmem S12x256 .f32) (h6 : M6.IsWhole) (M7 : Memref sig .tc .vmem S1x256 .f32) (h7 : M7.IsWhole) (M8 : Memref sig .tc .vmem S12x1 .f32) (h8 : M8.IsWhole) (M9 : Memref sig .tc .vmem S1x1 .f32) (h9 : M9.IsWhole) (M10 : Memref sig .tc .vmem S12x50368 .i8) (h10 : M10.IsWhole) (M11 : Memref sig .tc .vmem S12x1 .f32) (h11 : M11.IsWhole) (M12 : Memref sig .tc .vmem S16x50432 .f32) (h12 : M12.IsWhole) (M13 : Memref sig .tc .vmem S16x256 .f32) (h13 : M13.IsWhole) (M14 : Memref sig .tc .vmem S16x256 .f32) (h14 : M14.IsWhole) (M15 : Memref sig .tc .vmem S16x256 .f32) (h15 : M15.IsWhole) (M16 : Memref sig .tc .vmem S1x256 .f32) (h16 : M16.IsWhole)
  (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16)

/-- The scratch buffers' contents as the views read them. -/
abbrev stOf : St F := ⟨M12.view.read (Elt F) f12, M13.view.read (Elt F) f13, M14.view.read (Elt F) f14, M15.view.read (Elt F) f15, M16.view.read (Elt F) f16⟩

theorem runFirst_q0 : (runFirst.sl.r c M3 f3) = wq0 (M3.view.read (Elt F) f3) := congrArg k1_pay10 (View.readAt_full M3.view f3 _)
theorem runFirst_q1 : (runFirst.sl.r_1 c M4 f4) = wq1 (M4.view.read (Elt F) f4) := congrArg k1_pay11 (View.readAt_full M4.view f4 _)
theorem runFirst_q2 : (runFirst.sl.r_2 c M4 f4) = wq2 (M4.view.read (Elt F) f4) := congrArg k1_pay13 (View.readAt_full M4.view f4 _)
theorem runFirst_w : (runFirst.sl.r_27 c M3 M4 f3 f4) = wTile (M3.view.read (Elt F) f3) (M4.view.read (Elt F) f4) := by
  simp only [wTile, wq3, wq4, wq5, wq6, wq7, wq8, wq9, wq10, wq11, wq12, wq13, wq14, wq15, wq16, wq17, wq18, wq19, wq20, wq21, wq22, wq23, wq24, wq25, wq26, wq27]
  rw [← runFirst_q0 c M3 f3, ← runFirst_q1 c M4 f4, ← runFirst_q2 c M4 f4]
  rfl

theorem runFirst_rows : M13.view.read (Elt F) (M13.view.writes (Elt F) M13.view.junk (runFirst.sl.H13_13 c M1 M2 M3 M4 f1 f2 f3 f4)) = mxStep (M1.view.read (Elt F) f1) (M2.view.read (Elt F) f2) (wTile (M3.view.read (Elt F) f3) (M4.view.read (Elt F) f4)) k1_pay9 := by
  rw [← runFirst_w c M3 M4 f3 f4]
  unfold runFirst.sl.H13_13
  rw [read_writes_put, read_writes_put, read_writes_put, read_writes_put, read_writes_put, read_writes_put, read_writes_put, read_writes_put, read_writes_put, read_writes_put, read_writes_put, read_writes_put, View.read_writes_full]
  rfl
theorem runFirst_mx : (runFirst.sl.v568 c M1 M2 M3 M4 M13 f1 f2 f3 f4) = mxStep (M1.view.read (Elt F) f1) (M2.view.read (Elt F) f2) (wTile (M3.view.read (Elt F) f3) (M4.view.read (Elt F) f4)) k1_pay9 := by
  rw [← runFirst_rows c M1 M2 M3 M4 M13 f1 f2 f3 f4]
  exact View.readAt_full M13.view _ _
theorem runFirst_lg : (runFirst.sl.r_38 c M1 M2 M3 M4 M5 M13 f1 f2 f3 f4 f5) = lgOf (M1.view.read (Elt F) f1) (M2.view.read (Elt F) f2) (M3.view.read (Elt F) f3) (M4.view.read (Elt F) f4) (M5.view.read (Elt F) f5) (St.reset (stOf c M12 M13 M14 M15 M16 f12 f13 f14 f15 f16)) := by
  have e : (runFirst.sl.r_38 c M1 M2 M3 M4 M5 M13 f1 f2 f3 f4 f5) = logitT (runFirst.sl.v568 c M1 M2 M3 M4 M13 f1 f2 f3 f4) (View.readAt (Elt F) M5.view (Rect.unit ![0, 0] S1x256.size inb_S1x256_S1x256_0_0).toLoadRect f5) := rfl
  rw [e, runFirst_mx, View.readAt_full M5.view f5]; rfl

theorem runFirst_6 (hc1 : First i) (hc2 : ¬k1_cond2 i = 1#1) : M6.view.read (Elt F) (runFirst c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.1 = k1_pay80 (liveT i) (lgOf (M1.view.read (Elt F) f1) (M2.view.read (Elt F) f2) (M3.view.read (Elt F) f3) (M4.view.read (Elt F) f4) (M5.view.read (Elt F) f5) (St.reset (stOf c M12 M13 M14 M15 M16 f12 f13 f14 f15 f16))) := by
  unfold runFirst; dsimp only
  unfold runFirst.sl.H6_1; rw [View.read_writes_full, runFirst_lg c M1 M2 M3 M4 M5 M12 M13 M14 M15 M16 f1 f2 f3 f4 f5 f12 f13 f14 f15 f16]; rfl

theorem runFirst_7 (hc1 : First i) (hc2 : ¬k1_cond2 i = 1#1) : M7.view.read (Elt F) (runFirst c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.1 = k1_pay82 (liveT i) (lgOf (M1.view.read (Elt F) f1) (M2.view.read (Elt F) f2) (M3.view.read (Elt F) f3) (M4.view.read (Elt F) f4) (M5.view.read (Elt F) f5) (St.reset (stOf c M12 M13 M14 M15 M16 f12 f13 f14 f15 f16))) := by
  unfold runFirst; dsimp only
  unfold runFirst.sl.H7_1; rw [View.read_writes_full, runFirst_lg c M1 M2 M3 M4 M5 M12 M13 M14 M15 M16 f1 f2 f3 f4 f5 f12 f13 f14 f15 f16]; rfl

theorem runFirst_12 (hc1 : First i) (hc2 : ¬k1_cond2 i = 1#1) : M12.view.read (Elt F) (runFirst c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.2.1 = (St.next i (M1.view.read (Elt F) f1) (M2.view.read (Elt F) f2) (M3.view.read (Elt F) f3) (M4.view.read (Elt F) f4) (M5.view.read (Elt F) f5) (St.reset (stOf c M12 M13 M14 M15 M16 f12 f13 f14 f15 f16))).rep := by
  unfold runFirst; dsimp only
  rw [read_writes_put, View.writes_nil, runFirst_lg c M1 M2 M3 M4 M5 M12 M13 M14 M15 M16 f1 f2 f3 f4 f5 f12 f13 f14 f15 f16]; rfl

theorem runFirst_13 (hc1 : First i) (hc2 : ¬k1_cond2 i = 1#1) : M13.view.read (Elt F) (runFirst c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.2.2.1 = (St.next i (M1.view.read (Elt F) f1) (M2.view.read (Elt F) f2) (M3.view.read (Elt F) f3) (M4.view.read (Elt F) f4) (M5.view.read (Elt F) f5) (St.reset (stOf c M12 M13 M14 M15 M16 f12 f13 f14 f15 f16))).mx := by
  unfold runFirst; dsimp only
  show M13.view.read (Elt F) (M13.view.writes (Elt F) M13.view.junk _) = _; rw [runFirst_rows]; rfl

theorem runFirst_14 (hc1 : First i) (hc2 : ¬k1_cond2 i = 1#1) : M14.view.read (Elt F) (runFirst c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.2.2.2.1 = (St.next i (M1.view.read (Elt F) f1) (M2.view.read (Elt F) f2) (M3.view.read (Elt F) f3) (M4.view.read (Elt F) f4) (M5.view.read (Elt F) f5) (St.reset (stOf c M12 M13 M14 M15 M16 f12 f13 f14 f15 f16))).l1 := by
  unfold runFirst; dsimp only
  unfold runFirst.sl.H14_2; rw [View.read_writes_full, runFirst_lg c M1 M2 M3 M4 M5 M12 M13 M14 M15 M16 f1 f2 f3 f4 f5 f12 f13 f14 f15 f16]; unfold runFirst.sl.v815 runFirst.sl.H14_1; rw [View.readCov_full]; rfl

theorem runFirst_15 (hc1 : First i) (hc2 : ¬k1_cond2 i = 1#1) : M15.view.read (Elt F) (runFirst c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.2.2.2.2.1 = (St.next i (M1.view.read (Elt F) f1) (M2.view.read (Elt F) f2) (M3.view.read (Elt F) f3) (M4.view.read (Elt F) f4) (M5.view.read (Elt F) f5) (St.reset (stOf c M12 M13 M14 M15 M16 f12 f13 f14 f15 f16))).top := by
  unfold runFirst; dsimp only
  unfold runFirst.sl.H15_2; rw [View.read_writes_full, runFirst_lg c M1 M2 M3 M4 M5 M12 M13 M14 M15 M16 f1 f2 f3 f4 f5 f12 f13 f14 f15 f16]; unfold runFirst.sl.v820 runFirst.sl.H15_1; rw [View.readCov_full]; rfl

theorem runFirst_16 (hc1 : First i) (hc2 : ¬k1_cond2 i = 1#1) : M16.view.read (Elt F) (runFirst c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.2.2.2.2.2 = (St.next i (M1.view.read (Elt F) f1) (M2.view.read (Elt F) f2) (M3.view.read (Elt F) f3) (M4.view.read (Elt F) f4) (M5.view.read (Elt F) f5) (St.reset (stOf c M12 M13 M14 M15 M16 f12 f13 f14 f15 f16))).sq := by
  unfold runFirst; dsimp only
  unfold runFirst.sl.H16_2; rw [View.read_writes_full, runFirst_lg c M1 M2 M3 M4 M5 M12 M13 M14 M15 M16 f1 f2 f3 f4 f5 f12 f13 f14 f15 f16]; unfold runFirst.sl.v825 runFirst.sl.H16_1; rw [View.readCov_full]; rfl

theorem runMid_q0 : (runMid.sl.r c M3 f3) = wq0 (M3.view.read (Elt F) f3) := congrArg k1_pay10 (View.readAt_full M3.view f3 _)
theorem runMid_q1 : (runMid.sl.r_1 c M4 f4) = wq1 (M4.view.read (Elt F) f4) := congrArg k1_pay11 (View.readAt_full M4.view f4 _)
theorem runMid_q2 : (runMid.sl.r_2 c M4 f4) = wq2 (M4.view.read (Elt F) f4) := congrArg k1_pay13 (View.readAt_full M4.view f4 _)
theorem runMid_w : (runMid.sl.r_27 c M3 M4 f3 f4) = wTile (M3.view.read (Elt F) f3) (M4.view.read (Elt F) f4) := by
  simp only [wTile, wq3, wq4, wq5, wq6, wq7, wq8, wq9, wq10, wq11, wq12, wq13, wq14, wq15, wq16, wq17, wq18, wq19, wq20, wq21, wq22, wq23, wq24, wq25, wq26, wq27]
  rw [← runMid_q0 c M3 f3, ← runMid_q1 c M4 f4, ← runMid_q2 c M4 f4]
  rfl

theorem runMid_rows : M13.view.read (Elt F) (M13.view.writes (Elt F) f13 (runMid.sl.H13_12 c M1 M2 M3 M4 f1 f2 f3 f4)) = mxStep (M1.view.read (Elt F) f1) (M2.view.read (Elt F) f2) (wTile (M3.view.read (Elt F) f3) (M4.view.read (Elt F) f4)) (M13.view.read (Elt F) f13) := by
  rw [← runMid_w c M3 M4 f3 f4]
  unfold runMid.sl.H13_12
  rw [read_writes_put, read_writes_put, read_writes_put, read_writes_put, read_writes_put, read_writes_put, read_writes_put, read_writes_put, read_writes_put, read_writes_put, read_writes_put, read_writes_put, View.writes_nil]
  rfl
theorem runMid_mx : (runMid.sl.r_31 c M1 M2 M3 M4 M13 f1 f2 f3 f4 f13) = mxStep (M1.view.read (Elt F) f1) (M2.view.read (Elt F) f2) (wTile (M3.view.read (Elt F) f3) (M4.view.read (Elt F) f4)) (M13.view.read (Elt F) f13) := by
  rw [← runMid_rows c M1 M2 M3 M4 M13 f1 f2 f3 f4 f13]
  exact View.readAt_full M13.view _ _
theorem runMid_lg : (runMid.sl.r_39 c M1 M2 M3 M4 M5 M13 f1 f2 f3 f4 f5 f13) = lgOf (M1.view.read (Elt F) f1) (M2.view.read (Elt F) f2) (M3.view.read (Elt F) f3) (M4.view.read (Elt F) f4) (M5.view.read (Elt F) f5) (stOf c M12 M13 M14 M15 M16 f12 f13 f14 f15 f16) := by
  have e : (runMid.sl.r_39 c M1 M2 M3 M4 M5 M13 f1 f2 f3 f4 f5 f13) = logitT (runMid.sl.r_31 c M1 M2 M3 M4 M13 f1 f2 f3 f4 f13) (View.readAt (Elt F) M5.view (Rect.unit ![0, 0] S1x256.size inb_S1x256_S1x256_0_0).toLoadRect f5) := rfl
  rw [e, runMid_mx, View.readAt_full M5.view f5]; rfl

theorem runMid_6 (hc1 : ¬First i) (hc2 : ¬k1_cond2 i = 1#1) : M6.view.read (Elt F) (runMid c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.1 = k1_pay80 (liveT i) (lgOf (M1.view.read (Elt F) f1) (M2.view.read (Elt F) f2) (M3.view.read (Elt F) f3) (M4.view.read (Elt F) f4) (M5.view.read (Elt F) f5) (stOf c M12 M13 M14 M15 M16 f12 f13 f14 f15 f16)) := by
  unfold runMid; dsimp only
  unfold runMid.sl.H6_1; rw [View.read_writes_full, runMid_lg c M1 M2 M3 M4 M5 M12 M13 M14 M15 M16 f1 f2 f3 f4 f5 f12 f13 f14 f15 f16]; rfl

theorem runMid_7 (hc1 : ¬First i) (hc2 : ¬k1_cond2 i = 1#1) : M7.view.read (Elt F) (runMid c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.1 = k1_pay82 (liveT i) (lgOf (M1.view.read (Elt F) f1) (M2.view.read (Elt F) f2) (M3.view.read (Elt F) f3) (M4.view.read (Elt F) f4) (M5.view.read (Elt F) f5) (stOf c M12 M13 M14 M15 M16 f12 f13 f14 f15 f16)) := by
  unfold runMid; dsimp only
  unfold runMid.sl.H7_1; rw [View.read_writes_full, runMid_lg c M1 M2 M3 M4 M5 M12 M13 M14 M15 M16 f1 f2 f3 f4 f5 f12 f13 f14 f15 f16]; rfl

theorem runMid_12 (hc1 : ¬First i) (hc2 : ¬k1_cond2 i = 1#1) : M12.view.read (Elt F) (runMid c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.2.1 = (St.next i (M1.view.read (Elt F) f1) (M2.view.read (Elt F) f2) (M3.view.read (Elt F) f3) (M4.view.read (Elt F) f4) (M5.view.read (Elt F) f5) (stOf c M12 M13 M14 M15 M16 f12 f13 f14 f15 f16)).rep := by
  unfold runMid; dsimp only
  rw [read_writes_put, View.writes_nil, runMid_lg c M1 M2 M3 M4 M5 M12 M13 M14 M15 M16 f1 f2 f3 f4 f5 f12 f13 f14 f15 f16]; rfl

theorem runMid_13 (hc1 : ¬First i) (hc2 : ¬k1_cond2 i = 1#1) : M13.view.read (Elt F) (runMid c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.2.2.1 = (St.next i (M1.view.read (Elt F) f1) (M2.view.read (Elt F) f2) (M3.view.read (Elt F) f3) (M4.view.read (Elt F) f4) (M5.view.read (Elt F) f5) (stOf c M12 M13 M14 M15 M16 f12 f13 f14 f15 f16)).mx := by
  unfold runMid; dsimp only
  rw [runMid_rows]; rfl

theorem runMid_14 (hc1 : ¬First i) (hc2 : ¬k1_cond2 i = 1#1) : M14.view.read (Elt F) (runMid c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.2.2.2.1 = (St.next i (M1.view.read (Elt F) f1) (M2.view.read (Elt F) f2) (M3.view.read (Elt F) f3) (M4.view.read (Elt F) f4) (M5.view.read (Elt F) f5) (stOf c M12 M13 M14 M15 M16 f12 f13 f14 f15 f16)).l1 := by
  unfold runMid; dsimp only
  unfold runMid.sl.H14_1; rw [View.read_writes_full, runMid_lg c M1 M2 M3 M4 M5 M12 M13 M14 M15 M16 f1 f2 f3 f4 f5 f12 f13 f14 f15 f16, View.readAt_full M14.view f14]; rfl

theorem runMid_15 (hc1 : ¬First i) (hc2 : ¬k1_cond2 i = 1#1) : M15.view.read (Elt F) (runMid c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.2.2.2.2.1 = (St.next i (M1.view.read (Elt F) f1) (M2.view.read (Elt F) f2) (M3.view.read (Elt F) f3) (M4.view.read (Elt F) f4) (M5.view.read (Elt F) f5) (stOf c M12 M13 M14 M15 M16 f12 f13 f14 f15 f16)).top := by
  unfold runMid; dsimp only
  unfold runMid.sl.H15_1; rw [View.read_writes_full, runMid_lg c M1 M2 M3 M4 M5 M12 M13 M14 M15 M16 f1 f2 f3 f4 f5 f12 f13 f14 f15 f16, View.readAt_full M15.view f15]; rfl

theorem runMid_16 (hc1 : ¬First i) (hc2 : ¬k1_cond2 i = 1#1) : M16.view.read (Elt F) (runMid c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.2.2.2.2.2 = (St.next i (M1.view.read (Elt F) f1) (M2.view.read (Elt F) f2) (M3.view.read (Elt F) f3) (M4.view.read (Elt F) f4) (M5.view.read (Elt F) f5) (stOf c M12 M13 M14 M15 M16 f12 f13 f14 f15 f16)).sq := by
  unfold runMid; dsimp only
  unfold runMid.sl.H16_1; rw [View.read_writes_full, runMid_lg c M1 M2 M3 M4 M5 M12 M13 M14 M15 M16 f1 f2 f3 f4 f5 f12 f13 f14 f15 f16, View.readAt_full M16.view f16]; rfl

theorem runLast_q0 : (runLast.sl.r c M3 f3) = wq0 (M3.view.read (Elt F) f3) := congrArg k1_pay10 (View.readAt_full M3.view f3 _)
theorem runLast_q1 : (runLast.sl.r_1 c M4 f4) = wq1 (M4.view.read (Elt F) f4) := congrArg k1_pay11 (View.readAt_full M4.view f4 _)
theorem runLast_q2 : (runLast.sl.r_2 c M4 f4) = wq2 (M4.view.read (Elt F) f4) := congrArg k1_pay13 (View.readAt_full M4.view f4 _)
theorem runLast_w : (runLast.sl.r_27 c M3 M4 f3 f4) = wTile (M3.view.read (Elt F) f3) (M4.view.read (Elt F) f4) := by
  simp only [wTile, wq3, wq4, wq5, wq6, wq7, wq8, wq9, wq10, wq11, wq12, wq13, wq14, wq15, wq16, wq17, wq18, wq19, wq20, wq21, wq22, wq23, wq24, wq25, wq26, wq27]
  rw [← runLast_q0 c M3 f3, ← runLast_q1 c M4 f4, ← runLast_q2 c M4 f4]
  rfl

theorem runLast_rows : M13.view.read (Elt F) (M13.view.writes (Elt F) f13 (runLast.sl.H13_12 c M1 M2 M3 M4 f1 f2 f3 f4)) = mxStep (M1.view.read (Elt F) f1) (M2.view.read (Elt F) f2) (wTile (M3.view.read (Elt F) f3) (M4.view.read (Elt F) f4)) (M13.view.read (Elt F) f13) := by
  rw [← runLast_w c M3 M4 f3 f4]
  unfold runLast.sl.H13_12
  rw [read_writes_put, read_writes_put, read_writes_put, read_writes_put, read_writes_put, read_writes_put, read_writes_put, read_writes_put, read_writes_put, read_writes_put, read_writes_put, read_writes_put, View.writes_nil]
  rfl
theorem runLast_mx : (runLast.sl.r_31 c M1 M2 M3 M4 M13 f1 f2 f3 f4 f13) = mxStep (M1.view.read (Elt F) f1) (M2.view.read (Elt F) f2) (wTile (M3.view.read (Elt F) f3) (M4.view.read (Elt F) f4)) (M13.view.read (Elt F) f13) := by
  rw [← runLast_rows c M1 M2 M3 M4 M13 f1 f2 f3 f4 f13]
  exact View.readAt_full M13.view _ _
theorem runLast_lg : (runLast.sl.r_39 c M1 M2 M3 M4 M5 M13 f1 f2 f3 f4 f5 f13) = lgOf (M1.view.read (Elt F) f1) (M2.view.read (Elt F) f2) (M3.view.read (Elt F) f3) (M4.view.read (Elt F) f4) (M5.view.read (Elt F) f5) (stOf c M12 M13 M14 M15 M16 f12 f13 f14 f15 f16) := by
  have e : (runLast.sl.r_39 c M1 M2 M3 M4 M5 M13 f1 f2 f3 f4 f5 f13) = logitT (runLast.sl.r_31 c M1 M2 M3 M4 M13 f1 f2 f3 f4 f13) (View.readAt (Elt F) M5.view (Rect.unit ![0, 0] S1x256.size inb_S1x256_S1x256_0_0).toLoadRect f5) := rfl
  rw [e, runLast_mx, View.readAt_full M5.view f5]; rfl

theorem runLast_j14 : M14.view.read (Elt F) (M14.view.writes (Elt F) M14.view.junk (runLast.sl.H14_1 c i M1 M2 M3 M4 M5 M13 M14 f1 f2 f3 f4 f5 f13 f14)) = (St.next i (M1.view.read (Elt F) f1) (M2.view.read (Elt F) f2) (M3.view.read (Elt F) f3) (M4.view.read (Elt F) f4) (M5.view.read (Elt F) f5) (stOf c M12 M13 M14 M15 M16 f12 f13 f14 f15 f16)).l1 := by
  unfold runLast.sl.H14_1; rw [View.read_writes_full, runLast_lg c M1 M2 M3 M4 M5 M12 M13 M14 M15 M16 f1 f2 f3 f4 f5 f12 f13 f14 f15 f16, View.readAt_full M14.view f14]; rfl

theorem runLast_j15 : M15.view.read (Elt F) (M15.view.writes (Elt F) M15.view.junk (runLast.sl.H15_1 c i M1 M2 M3 M4 M5 M13 M15 f1 f2 f3 f4 f5 f13 f15)) = (St.next i (M1.view.read (Elt F) f1) (M2.view.read (Elt F) f2) (M3.view.read (Elt F) f3) (M4.view.read (Elt F) f4) (M5.view.read (Elt F) f5) (stOf c M12 M13 M14 M15 M16 f12 f13 f14 f15 f16)).top := by
  unfold runLast.sl.H15_1; rw [View.read_writes_full, runLast_lg c M1 M2 M3 M4 M5 M12 M13 M14 M15 M16 f1 f2 f3 f4 f5 f12 f13 f14 f15 f16, View.readAt_full M15.view f15]; rfl

theorem runLast_j16 : M16.view.read (Elt F) (M16.view.writes (Elt F) M16.view.junk (runLast.sl.H16_1 c i M1 M2 M3 M4 M5 M13 M16 f1 f2 f3 f4 f5 f13 f16)) = (St.next i (M1.view.read (Elt F) f1) (M2.view.read (Elt F) f2) (M3.view.read (Elt F) f3) (M4.view.read (Elt F) f4) (M5.view.read (Elt F) f5) (stOf c M12 M13 M14 M15 M16 f12 f13 f14 f15 f16)).sq := by
  unfold runLast.sl.H16_1; rw [View.read_writes_full, runLast_lg c M1 M2 M3 M4 M5 M12 M13 M14 M15 M16 f1 f2 f3 f4 f5 f12 f13 f14 f15 f16, View.readAt_full M16.view f16]; rfl

theorem runLast_j12 : M12.view.read (Elt F) (M12.view.writes (Elt F) f12 (runLast.sl.H12_1 c i M1 M2 M3 M4 M5 M13 f1 f2 f3 f4 f5 f13)) = (St.next i (M1.view.read (Elt F) f1) (M2.view.read (Elt F) f2) (M3.view.read (Elt F) f3) (M4.view.read (Elt F) f4) (M5.view.read (Elt F) f5) (stOf c M12 M13 M14 M15 M16 f12 f13 f14 f15 f16)).rep := by
  unfold runLast.sl.H12_1; rw [read_writes_put, View.writes_nil, runLast_lg c M1 M2 M3 M4 M5 M12 M13 M14 M15 M16 f1 f2 f3 f4 f5 f12 f13 f14 f15 f16]; rfl

theorem runLast_6 (hc1 : ¬First i) (hc2 : k1_cond2 i = 1#1) : M6.view.read (Elt F) (runLast c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.1 = k1_pay80 (liveT i) (lgOf (M1.view.read (Elt F) f1) (M2.view.read (Elt F) f2) (M3.view.read (Elt F) f3) (M4.view.read (Elt F) f4) (M5.view.read (Elt F) f5) (stOf c M12 M13 M14 M15 M16 f12 f13 f14 f15 f16)) := by
  unfold runLast; dsimp only
  unfold runLast.sl.H6_1; rw [View.read_writes_full, runLast_lg c M1 M2 M3 M4 M5 M12 M13 M14 M15 M16 f1 f2 f3 f4 f5 f12 f13 f14 f15 f16]; rfl

theorem runLast_7 (hc1 : ¬First i) (hc2 : k1_cond2 i = 1#1) : M7.view.read (Elt F) (runLast c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.1 = k1_pay82 (liveT i) (lgOf (M1.view.read (Elt F) f1) (M2.view.read (Elt F) f2) (M3.view.read (Elt F) f3) (M4.view.read (Elt F) f4) (M5.view.read (Elt F) f5) (stOf c M12 M13 M14 M15 M16 f12 f13 f14 f15 f16)) := by
  unfold runLast; dsimp only
  unfold runLast.sl.H7_1; rw [View.read_writes_full, runLast_lg c M1 M2 M3 M4 M5 M12 M13 M14 M15 M16 f1 f2 f3 f4 f5 f12 f13 f14 f15 f16]; rfl

theorem runLast_8 (hc1 : ¬First i) (hc2 : k1_cond2 i = 1#1) : M8.view.read (Elt F) (runLast c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.2.1 = k1_pay1 (St.next i (M1.view.read (Elt F) f1) (M2.view.read (Elt F) f2) (M3.view.read (Elt F) f3) (M4.view.read (Elt F) f4) (M5.view.read (Elt F) f5) (stOf c M12 M13 M14 M15 M16 f12 f13 f14 f15 f16)).l1 := by
  unfold runLast; dsimp only
  unfold runLast.sl.H8_1 runLast.sl.v834; rw [View.read_writes_full]; exact congrArg k1_pay1 ((View.readAt_full M14.view _ _).trans (runLast_j14 ..))

theorem runLast_9 (hc1 : ¬First i) (hc2 : k1_cond2 i = 1#1) : M9.view.read (Elt F) (runLast c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.2.2.1 = k1_pay2 (St.next i (M1.view.read (Elt F) f1) (M2.view.read (Elt F) f2) (M3.view.read (Elt F) f3) (M4.view.read (Elt F) f4) (M5.view.read (Elt F) f5) (stOf c M12 M13 M14 M15 M16 f12 f13 f14 f15 f16)).sq := by
  unfold runLast; dsimp only
  unfold runLast.sl.H9_1 runLast.sl.v839; rw [View.read_writes_full]; exact congrArg k1_pay2 ((View.readAt_full M16.view _ _).trans (runLast_j16 ..))

theorem runLast_10 (hc1 : ¬First i) (hc2 : k1_cond2 i = 1#1) : M10.view.read (Elt F) (runLast c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.2.2.2.1 = k1_pay5 (St.next i (M1.view.read (Elt F) f1) (M2.view.read (Elt F) f2) (M3.view.read (Elt F) f3) (M4.view.read (Elt F) f4) (M5.view.read (Elt F) f5) (stOf c M12 M13 M14 M15 M16 f12 f13 f14 f15 f16)).top (VecWindow.window (St.next i (M1.view.read (Elt F) f1) (M2.view.read (Elt F) f2) (M3.view.read (Elt F) f3) (M4.view.read (Elt F) f4) (M5.view.read (Elt F) f5) (stOf c M12 M13 M14 M15 M16 f12 f13 f14 f15 f16)).rep ![0, 0] S16x50368.size inb_S16x50432_S16x50368_0_0) := by
  unfold runLast; dsimp only
  unfold runLast.sl.H10_1 runLast.sl.r_40 runLast.sl.v843
  have e : M12.view.readAt (Elt F) (Rect.unit (s := S16x50432) ![0, 0] S16x50368.size inb_S16x50432_S16x50368_0_0).toLoadRect (M12.view.writes (Elt F) f12 (runLast.sl.H12_1 c i M1 M2 M3 M4 M5 M13 f1 f2 f3 f4 f5 f13))
      = VecWindow.window (St.next i (M1.view.read (Elt F) f1) (M2.view.read (Elt F) f2) (M3.view.read (Elt F) f3) (M4.view.read (Elt F) f4) (M5.view.read (Elt F) f5) (stOf c M12 M13 M14 M15 M16 f12 f13 f14 f15 f16)).rep ![0, 0] S16x50368.size inb_S16x50432_S16x50368_0_0 := by
    rw [← runLast_j12 c i M1 M2 M3 M4 M5 M12 M13 M14 M15 M16 f1 f2 f3 f4 f5 f12 f13 f14 f15 f16]; rfl
  rw [View.read_writes_full, e]
  exact congrArg (k1_pay5 · _) ((View.readAt_full M15.view _ _).trans (runLast_j15 ..))

theorem runLast_11 (hc1 : ¬First i) (hc2 : k1_cond2 i = 1#1) : M11.view.read (Elt F) (runLast c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.2.2.2.2.1 = k1_pay4 (St.next i (M1.view.read (Elt F) f1) (M2.view.read (Elt F) f2) (M3.view.read (Elt F) f3) (M4.view.read (Elt F) f4) (M5.view.read (Elt F) f5) (stOf c M12 M13 M14 M15 M16 f12 f13 f14 f15 f16)).top := by
  unfold runLast; dsimp only
  unfold runLast.sl.H11_1 runLast.sl.v843; rw [View.read_writes_full]; exact congrArg k1_pay4 ((View.readAt_full M15.view _ _).trans (runLast_j15 ..))

theorem runLast_12 (hc1 : ¬First i) (hc2 : k1_cond2 i = 1#1) : M12.view.read (Elt F) (runLast c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.2.2.2.2.2.1 = (St.next i (M1.view.read (Elt F) f1) (M2.view.read (Elt F) f2) (M3.view.read (Elt F) f3) (M4.view.read (Elt F) f4) (M5.view.read (Elt F) f5) (stOf c M12 M13 M14 M15 M16 f12 f13 f14 f15 f16)).rep := by
  unfold runLast; dsimp only
  unfold runLast.sl.H12_1; rw [read_writes_put, View.writes_nil, runLast_lg c M1 M2 M3 M4 M5 M12 M13 M14 M15 M16 f1 f2 f3 f4 f5 f12 f13 f14 f15 f16]; rfl

theorem runLast_13 (hc1 : ¬First i) (hc2 : k1_cond2 i = 1#1) : M13.view.read (Elt F) (runLast c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.2.2.2.2.2.2.1 = (St.next i (M1.view.read (Elt F) f1) (M2.view.read (Elt F) f2) (M3.view.read (Elt F) f3) (M4.view.read (Elt F) f4) (M5.view.read (Elt F) f5) (stOf c M12 M13 M14 M15 M16 f12 f13 f14 f15 f16)).mx := by
  unfold runLast; dsimp only
  rw [runLast_rows]; rfl

theorem runLast_14 (hc1 : ¬First i) (hc2 : k1_cond2 i = 1#1) : M14.view.read (Elt F) (runLast c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.2.2.2.2.2.2.2.1 = (St.next i (M1.view.read (Elt F) f1) (M2.view.read (Elt F) f2) (M3.view.read (Elt F) f3) (M4.view.read (Elt F) f4) (M5.view.read (Elt F) f5) (stOf c M12 M13 M14 M15 M16 f12 f13 f14 f15 f16)).l1 := by
  unfold runLast; dsimp only
  unfold runLast.sl.H14_1; rw [View.read_writes_full, runLast_lg c M1 M2 M3 M4 M5 M12 M13 M14 M15 M16 f1 f2 f3 f4 f5 f12 f13 f14 f15 f16, View.readAt_full M14.view f14]; rfl

theorem runLast_15 (hc1 : ¬First i) (hc2 : k1_cond2 i = 1#1) : M15.view.read (Elt F) (runLast c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.2.2.2.2.2.2.2.2.1 = (St.next i (M1.view.read (Elt F) f1) (M2.view.read (Elt F) f2) (M3.view.read (Elt F) f3) (M4.view.read (Elt F) f4) (M5.view.read (Elt F) f5) (stOf c M12 M13 M14 M15 M16 f12 f13 f14 f15 f16)).top := by
  unfold runLast; dsimp only
  unfold runLast.sl.H15_1; rw [View.read_writes_full, runLast_lg c M1 M2 M3 M4 M5 M12 M13 M14 M15 M16 f1 f2 f3 f4 f5 f12 f13 f14 f15 f16, View.readAt_full M15.view f15]; rfl

theorem runLast_16 (hc1 : ¬First i) (hc2 : k1_cond2 i = 1#1) : M16.view.read (Elt F) (runLast c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).1.2.2.2.2.2.2.2.2.2.2 = (St.next i (M1.view.read (Elt F) f1) (M2.view.read (Elt F) f2) (M3.view.read (Elt F) f3) (M4.view.read (Elt F) f4) (M5.view.read (Elt F) f5) (stOf c M12 M13 M14 M15 M16 f12 f13 f14 f15 f16)).sq := by
  unfold runLast; dsimp only
  unfold runLast.sl.H16_1; rw [View.read_writes_full, runLast_lg c M1 M2 M3 M4 M5 M12 M13 M14 M15 M16 f1 f2 f3 f4 f5 f12 f13 f14 f15 f16, View.readAt_full M16.view f16]; rfl

end Reads

end Cert.KernelIdeal.Vocab

end
-- ==== Proof.TransformRun.lean ====
/-
  The transform call's body: what it computes from the blocks it finds, its run, and what the run leaves in the buffers.
-/
module

public import proofs.«01_k».proof.Proof.Gen.KernelIdeal.Launch
public import proofs.«01_k».proof.Proof.Gen.KernelIdeal.Skeleton
public import proofs.«01_k».proof.Proof.VocabRun
public import Idealize.ShloMosaic.Lib.VecWindow
public import Idealize.ShloMosaic.Lib.Tactic

@[expose] public section

set_option maxRecDepth 16384

noncomputable section

namespace Cert.KernelIdeal.Transform

open Cert.KernelIdeal Cert.KernelIdeal.Gen Cert.KernelIdeal.Vocab
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The blocks that the body finds at a point, and the document's length. -/
structure TIn (F : FTy → Type) where
  len : Elt F .i32
  x : Vec F S1x128x1024 .fp8e4m3
  xs : Vec F S1x128 .f32
  w : Vec F S1024x1024 .fp8e4m3
  ws : Vec F S1x1024 .f32
  bt : Vec F S1x1024 .f32
  gamma : Vec F S1x1024 .f32
  beta : Vec F S1x1024 .f32

namespace TIn
variable (b : TIn F)
/-- The activations less their mean. -/
def centred : FVec F S128x1024 .f32 := k0_pay4 b.xs b.x b.w b.ws b.bt
/-- Their sums of squares. -/
def sumSq : FVec F S128x1 .f32 := k0_pay5 b.xs b.x b.w b.ws b.bt
/-- The codes, as the products read them. -/
def codes : FVec F S128x1024 .fp8e4m3 := k0_pay8 b.centred b.sumSq b.gamma b.beta
/-- The block of codes. -/
def codesBlk : FVec F S1x128x1024 .fp8e4m3 := k0_pay9 b.centred b.sumSq b.gamma b.beta
/-- The row of scales. -/
def scaleRow : FVec F S1x128 .f32 := k0_pay11 b.centred b.sumSq b.gamma b.beta
/-- The block of scales of the vocabulary call. -/
def zsBlk : FVec F S1x128x128 .f32 := k0_pay15 (k0_pay10 b.centred b.sumSq b.gamma b.beta) (k0_pay13 b.centred b.sumSq b.gamma b.beta) (k0_pay14 b.len)
/-- The block of codes of the vocabulary call, its four tiles of channels put one after the other. -/
def zBlk : S1x128x1024.Idx → Elt F .bf16 :=
  VecWindow.put (VecWindow.put (VecWindow.put (VecWindow.put (fun _ => k0_pay17 b.codes (k0_pay12 b.len) (Shape.Idx.first h_S1x128x256)) ![0, 0, 0] S1x128x256.size (k0_pay17 b.codes (k0_pay12 b.len))) ![0, 0, 256] S1x128x256.size (k0_pay1 (k0_pay18 b.codes (k0_pay12 b.len)))) ![0, 0, 512] S1x128x256.size (k0_pay2 b.codes (k0_pay12 b.len) k0_pay16)) ![0, 0, 768] S1x128x256.size (k0_pay3 b.codes (k0_pay12 b.len) k0_pay16)
end TIn

/-- The blocks the body reads, of what the table and the first seven windows hold. -/
def tin (i : grid0.Coords) (X1 : S12.Idx → Elt F .i32) (X2 : S1x128x1024.Idx → Elt F .fp8e4m3) (X3 : S12x128.Idx → Elt F .f32) (X4 : S1024x1024.Idx → Elt F .fp8e4m3) (X5 X6 X7 X8 : S1x1024.Idx → Elt F .f32) : TIn F :=
  ⟨VecWindow.window X1 (k0_off1 i) S1.size (k0_off1_inb i) (Shape.Idx.first (numel1_S1.symm ▸ Nat.one_pos)), X2, VecWindow.window X3 (k0_off2 i) S1x128.size (k0_off2_inb i), X4, X5, X6, X7, X8⟩

/-- Four tiles that cover a block of channels hide what was there before. -/
theorem tiles_cover {α : Type} (y y' : S1x128x1024.Idx → α) (w0 w1 w2 w3 : S1x128x256.Idx → α) :
    VecWindow.put (VecWindow.put (VecWindow.put (VecWindow.put y ![0, 0, 0] S1x128x256.size w0) ![0, 0, 256] S1x128x256.size w1) ![0, 0, 512] S1x128x256.size w2) ![0, 0, 768] S1x128x256.size w3
      = VecWindow.put (VecWindow.put (VecWindow.put (VecWindow.put y' ![0, 0, 0] S1x128x256.size w0) ![0, 0, 256] S1x128x256.size w1) ![0, 0, 512] S1x128x256.size w2) ![0, 0, 768] S1x128x256.size w3 := by
  funext j
  have h0 : (j 0).val < 1 := (j 0).isLt
  have h1 : (j 1).val < 128 := (j 1).isLt
  have h2 : (j 2).val < 1024 := (j 2).isLt
  have key : ∀ o : ℕ, (∀ a : Fin 3, (![0, 0, o] : Fin 3 → ℕ) a ≤ (j a).val ∧ (j a).val < (![0, 0, o] : Fin 3 → ℕ) a + S1x128x256.size a) ↔ o ≤ (j 2).val ∧ (j 2).val < o + 256 := fun o => by
    constructor
    · intro h; exact h 2
    · intro h a
      match a with
      | 0 => exact ⟨Nat.zero_le _, by show (j 0).val < 0 + 1; omega⟩
      | 1 => exact ⟨Nat.zero_le _, by show (j 1).val < 0 + 128; omega⟩
      | 2 => exact h
  unfold VecWindow.put
  split
  · rfl
  · split
    · rfl
    · split
      · rfl
      · split
        · rfl
        · rename_i a3 a2 a1 a0
          rw [key] at a0 a1 a2 a3; omega

set_option maxHeartbeats 4000000 in
/-- The body's run, with what it leaves in each buffer it writes. -/
noncomputable def runT (c : Dev nD) (i : grid0.Coords) (M1 : Memref sig .tc .smem S12 .i32) (h1 : M1.IsWhole) (M2 : Memref sig .tc .vmem S1x128x1024 .fp8e4m3) (h2 : M2.IsWhole) (M3 : Memref sig .tc .vmem S12x128 .f32) (h3 : M3.IsWhole) (M4 : Memref sig .tc .vmem S1024x1024 .fp8e4m3) (h4 : M4.IsWhole) (M5 : Memref sig .tc .vmem S1x1024 .f32) (h5 : M5.IsWhole) (M6 : Memref sig .tc .vmem S1x1024 .f32) (h6 : M6.IsWhole) (M7 : Memref sig .tc .vmem S1x1024 .f32) (h7 : M7.IsWhole) (M8 : Memref sig .tc .vmem S1x1024 .f32) (h8 : M8.IsWhole) (M9 : Memref sig .tc .vmem S1x128x1024 .fp8e4m3) (h9 : M9.IsWhole) (M10 : Memref sig .tc .vmem S12x128 .f32) (h10 : M10.IsWhole) (M11 : Memref sig .tc .vmem S1x128x1024 .bf16) (h11 : M11.IsWhole) (M12 : Memref sig .tc .vmem S1x128x128 .f32) (h12 : M12.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) :
    { W : Bf (F := F) c M9 × Bf (F := F) c M10 × Bf (F := F) c M11 × Bf (F := F) c M12 // ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ (iprop(pt c M1 f1 ∗ pt c M2 f2 ∗ pt c M3 f3 ∗ pt c M4 f4 ∗ pt c M5 f5 ∗ pt c M6 f6 ∗ pt c M7 f7 ∗ pt c M8 f8 ∗ pt c M9 W.1 ∗ pt c M10 W.2.1 ∗ pt c M11 W.2.2.1 ∗ pt c M12 W.2.2.2) -∗ Q ⟨⟩))
          ⊢ wp frame (wpE (defs₀ (F := F)) Variants.none c none) E (cc0_transform i M1 h1 M2 h2 M3 h3 M4 h4 M5 h5 M6 h6 M7 h7 M8 h8 M9 h9 M10 h10 M11 h11 M12 h12) Q } := by
  refine ⟨⟨?_, ?_, ?_, ?_⟩, fun E Q => ?run⟩
  case run =>
    simp only [cc0_transform_eq_skeleton]; unfold cc0_transform_skel
    simp only [k0_part1_eq_skeleton, k0_part2_eq_skeleton, k0_part3_eq_skeleton]
    iintro ⟨H1, H2, H3, H4, H5, H6, H7, H8, H9, H10, H11, H12, Hk⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

section Reads

variable (c : Dev nD) (i : grid0.Coords) (M1 : Memref sig .tc .smem S12 .i32) (h1 : M1.IsWhole) (M2 : Memref sig .tc .vmem S1x128x1024 .fp8e4m3) (h2 : M2.IsWhole) (M3 : Memref sig .tc .vmem S12x128 .f32) (h3 : M3.IsWhole) (M4 : Memref sig .tc .vmem S1024x1024 .fp8e4m3) (h4 : M4.IsWhole) (M5 : Memref sig .tc .vmem S1x1024 .f32) (h5 : M5.IsWhole) (M6 : Memref sig .tc .vmem S1x1024 .f32) (h6 : M6.IsWhole) (M7 : Memref sig .tc .vmem S1x1024 .f32) (h7 : M7.IsWhole) (M8 : Memref sig .tc .vmem S1x1024 .f32) (h8 : M8.IsWhole) (M9 : Memref sig .tc .vmem S1x128x1024 .fp8e4m3) (h9 : M9.IsWhole) (M10 : Memref sig .tc .vmem S12x128 .f32) (h10 : M10.IsWhole) (M11 : Memref sig .tc .vmem S1x128x1024 .bf16) (h11 : M11.IsWhole) (M12 : Memref sig .tc .vmem S1x128x128 .f32) (h12 : M12.IsWhole)
  (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12)

theorem runT_r : runT.sl.r c i M1 f1 = (tin i (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)).len := rfl
theorem runT_r1 : runT.sl.r_1 c i M2 M3 M4 M5 M6 f2 f3 f4 f5 f6 = (tin i (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)).centred := by
  unfold runT.sl.r_1; rw [View.readAt_full M2.view f2, View.readAt_full M4.view f4, View.readAt_full M5.view f5, View.readAt_full M6.view f6]; rfl
theorem runT_r2 : runT.sl.r_2 c i M2 M3 M4 M5 M6 f2 f3 f4 f5 f6 = (tin i (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)).sumSq := by
  unfold runT.sl.r_2; rw [View.readAt_full M2.view f2, View.readAt_full M4.view f4, View.readAt_full M5.view f5, View.readAt_full M6.view f6]; rfl
theorem runT_r3 : runT.sl.r_3 c i M2 M3 M4 M5 M6 M7 M8 f2 f3 f4 f5 f6 f7 f8 = (tin i (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)).codes := by
  unfold runT.sl.r_3; rw [runT_r1 c i M1 M2 M3 M4 M5 M6 M7 M8 f1 f2 f3 f4 f5 f6 f7 f8, runT_r2 c i M1 M2 M3 M4 M5 M6 M7 M8 f1 f2 f3 f4 f5 f6 f7 f8, View.readAt_full M7.view f7, View.readAt_full M8.view f8]; rfl
theorem runT_9 : M9.view.read (Elt F) (runT c i M1 h1 M2 h2 M3 h3 M4 h4 M5 h5 M6 h6 M7 h7 M8 h8 M9 h9 M10 h10 M11 h11 M12 h12 f1 f2 f3 f4 f5 f6 f7 f8 f9 f10 f11 f12).1.1 = (tin i (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)).codesBlk := by
  unfold runT; dsimp only; unfold runT.sl.H9_1; rw [View.read_writes_full, runT_r1 c i M1 M2 M3 M4 M5 M6 M7 M8 f1 f2 f3 f4 f5 f6 f7 f8, runT_r2 c i M1 M2 M3 M4 M5 M6 M7 M8 f1 f2 f3 f4 f5 f6 f7 f8, View.readAt_full M7.view f7, View.readAt_full M8.view f8]; rfl
theorem runT_10 : M10.view.read (Elt F) (runT c i M1 h1 M2 h2 M3 h3 M4 h4 M5 h5 M6 h6 M7 h7 M8 h8 M9 h9 M10 h10 M11 h11 M12 h12 f1 f2 f3 f4 f5 f6 f7 f8 f9 f10 f11 f12).1.2.1 = VecWindow.put (M10.view.read (Elt F) f10) (k0_off2 i) S1x128.size (tin i (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)).scaleRow := by
  unfold runT; dsimp only; rw [read_writes_put, View.writes_nil, runT_r1 c i M1 M2 M3 M4 M5 M6 M7 M8 f1 f2 f3 f4 f5 f6 f7 f8, runT_r2 c i M1 M2 M3 M4 M5 M6 M7 M8 f1 f2 f3 f4 f5 f6 f7 f8, View.readAt_full M7.view f7, View.readAt_full M8.view f8]; rfl
theorem runT_12 : M12.view.read (Elt F) (runT c i M1 h1 M2 h2 M3 h3 M4 h4 M5 h5 M6 h6 M7 h7 M8 h8 M9 h9 M10 h10 M11 h11 M12 h12 f1 f2 f3 f4 f5 f6 f7 f8 f9 f10 f11 f12).1.2.2.2 = (tin i (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)).zsBlk := by
  unfold runT; dsimp only; unfold runT.sl.H12_1 runT.sl.r_4 runT.sl.r_6; rw [View.read_writes_full, runT_r1 c i M1 M2 M3 M4 M5 M6 M7 M8 f1 f2 f3 f4 f5 f6 f7 f8, runT_r2 c i M1 M2 M3 M4 M5 M6 M7 M8 f1 f2 f3 f4 f5 f6 f7 f8, View.readAt_full M7.view f7, View.readAt_full M8.view f8]; rfl
theorem runT_11 : M11.view.read (Elt F) (runT c i M1 h1 M2 h2 M3 h3 M4 h4 M5 h5 M6 h6 M7 h7 M8 h8 M9 h9 M10 h10 M11 h11 M12 h12 f1 f2 f3 f4 f5 f6 f7 f8 f9 f10 f11 f12).1.2.2.1 = (tin i (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)).zBlk := by
  unfold runT; dsimp only; unfold runT.sl.H11_4 runT.sl.r_8; rw [read_writes_put, read_writes_put, read_writes_put, read_writes_put, View.writes_nil, runT_r3 c i M1 M2 M3 M4 M5 M6 M7 M8 f1 f2 f3 f4 f5 f6 f7 f8]; exact tiles_cover _ _ _ _ _ _

end Reads

/-- A whole buffer owned at contents `X` is its points-to at some raw contents that read as `X`. -/
theorem owns_pt' (c : Dev nD) {sp : Space} {S : Shape} {e : EltTy} {M : Memref sig .tc sp S e} (h : M.IsWhole) (X : S.Idx → Elt F e) :
    (owns (c : Thread nD τ) M fullShare X : sProp 𝕄) = iprop(∃ f, ⌜M.view.read (Elt F) f = X⌝ ∗ pt c M f) := by
  unfold owns pt; rw [h.set_eq_univ]

set_option maxHeartbeats 4000000 in
/-- The body at any point: from the table and the windows at `X1 … X12`, to the four results at their values. -/
theorem transform_wp (c : Dev nD) (i : grid0.Coords) (M1 : Memref sig .tc .smem S12 .i32) (h1 : M1.IsWhole) (M2 : Memref sig .tc .vmem S1x128x1024 .fp8e4m3) (h2 : M2.IsWhole) (M3 : Memref sig .tc .vmem S12x128 .f32) (h3 : M3.IsWhole) (M4 : Memref sig .tc .vmem S1024x1024 .fp8e4m3) (h4 : M4.IsWhole) (M5 : Memref sig .tc .vmem S1x1024 .f32) (h5 : M5.IsWhole) (M6 : Memref sig .tc .vmem S1x1024 .f32) (h6 : M6.IsWhole) (M7 : Memref sig .tc .vmem S1x1024 .f32) (h7 : M7.IsWhole) (M8 : Memref sig .tc .vmem S1x1024 .f32) (h8 : M8.IsWhole) (M9 : Memref sig .tc .vmem S1x128x1024 .fp8e4m3) (h9 : M9.IsWhole) (M10 : Memref sig .tc .vmem S12x128 .f32) (h10 : M10.IsWhole) (M11 : Memref sig .tc .vmem S1x128x1024 .bf16) (h11 : M11.IsWhole) (M12 : Memref sig .tc .vmem S1x128x128 .f32) (h12 : M12.IsWhole)
    (X1 : S12.Idx → Elt F .i32) (X2 : S1x128x1024.Idx → Elt F .fp8e4m3) (X3 : S12x128.Idx → Elt F .f32) (X4 : S1024x1024.Idx → Elt F .fp8e4m3) (X5 : S1x1024.Idx → Elt F .f32) (X6 : S1x1024.Idx → Elt F .f32) (X7 : S1x1024.Idx → Elt F .f32) (X8 : S1x1024.Idx → Elt F .f32) (X9 : S1x128x1024.Idx → Elt F .fp8e4m3) (X10 : S12x128.Idx → Elt F .f32) (X11 : S1x128x1024.Idx → Elt F .bf16) (X12 : S1x128x128.Idx → Elt F .f32) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare (tin i X1 X2 X3 X4 X5 X6 X7 X8).codesBlk ∗ owns (c : Thread nD τ) M10 fullShare (VecWindow.put X10 (k0_off2 i) S1x128.size (tin i X1 X2 X3 X4 X5 X6 X7 X8).scaleRow) ∗ owns (c : Thread nD τ) M11 fullShare (tin i X1 X2 X3 X4 X5 X6 X7 X8).zBlk ∗ owns (c : Thread nD τ) M12 fullShare (tin i X1 X2 X3 X4 X5 X6 X7 X8).zsBlk) -∗ Q ⟨⟩))
      ⊢ wp frame (wpE (defs₀ (F := F)) Variants.none c none) E (cc0_transform i M1 h1 M2 h2 M3 h3 M4 h4 M5 h5 M6 h6 M7 h7 M8 h8 M9 h9 M10 h10 M11 h11 M12 h12) Q := by
  simp only [owns_pt' c h1, owns_pt' c h2, owns_pt' c h3, owns_pt' c h4, owns_pt' c h5, owns_pt' c h6, owns_pt' c h7, owns_pt' c h8, owns_pt' c h9, owns_pt' c h10, owns_pt' c h11, owns_pt' c h12]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, Hk⟩
  subst e1 e2 e3 e4 e5 e6 e7 e8 e9 e10 e11 e12
  iapply (runT c i M1 h1 M2 h2 M3 h3 M4 h4 M5 h5 M6 h6 M7 h7 M8 h8 M9 h9 M10 h10 M11 h11 M12 h12 f1 f2 f3 f4 f5 f6 f7 f8 f9 f10 f11 f12).2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  iapply Hk
  isplitl [H1]
  · iexists _; isplitr [H1]
    · ipureintro; rfl
    · iexact H1
  isplitl [H2]
  · iexists _; isplitr [H2]
    · ipureintro; rfl
    · iexact H2
  isplitl [H3]
  · iexists _; isplitr [H3]
    · ipureintro; rfl
    · iexact H3
  isplitl [H4]
  · iexists _; isplitr [H4]
    · ipureintro; rfl
    · iexact H4
  isplitl [H5]
  · iexists _; isplitr [H5]
    · ipureintro; rfl
    · iexact H5
  isplitl [H6]
  · iexists _; isplitr [H6]
    · ipureintro; rfl
    · iexact H6
  isplitl [H7]
  · iexists _; isplitr [H7]
    · ipureintro; rfl
    · iexact H7
  isplitl [H8]
  · iexists _; isplitr [H8]
    · ipureintro; rfl
    · iexact H8
  isplitl [H9]
  · iexists _; isplitr [H9]
    · ipureintro; exact runT_9 c i M1 h1 M2 h2 M3 h3 M4 h4 M5 h5 M6 h6 M7 h7 M8 h8 M9 h9 M10 h10 M11 h11 M12 h12 f1 f2 f3 f4 f5 f6 f7 f8 f9 f10 f11 f12
    · iexact H9
  isplitl [H10]
  · iexists _; isplitr [H10]
    · ipureintro; exact runT_10 c i M1 h1 M2 h2 M3 h3 M4 h4 M5 h5 M6 h6 M7 h7 M8 h8 M9 h9 M10 h10 M11 h11 M12 h12 f1 f2 f3 f4 f5 f6 f7 f8 f9 f10 f11 f12
    · iexact H10
  isplitl [H11]
  · iexists _; isplitr [H11]
    · ipureintro; exact runT_11 c i M1 h1 M2 h2 M3 h3 M4 h4 M5 h5 M6 h6 M7 h7 M8 h8 M9 h9 M10 h10 M11 h11 M12 h12 f1 f2 f3 f4 f5 f6 f7 f8 f9 f10 f11 f12
    · iexact H11
  iexists _; isplitr [H12]
  · ipureintro; exact runT_12 c i M1 h1 M2 h2 M3 h3 M4 h4 M5 h5 M6 h6 M7 h7 M8 h8 M9 h9 M10 h10 M11 h11 M12 h12 f1 f2 f3 f4 f5 f6 f7 f8 f9 f10 f11 f12
  · iexact H12

end Cert.KernelIdeal.Transform
-- ==== Proof.TransformRegion.lean ====
/-
  The transform call's region: what each grid point computes from the arrays and the table, and the body's obligation.
-/
module

public import proofs.«01_k».proof.Proof.TransformRun
public import Idealize.ShloMosaic.Lib.Pipeline.FrameBody
public import Idealize.ShloMosaic.Lib.Pipeline.Regions

@[expose] public section

set_option maxRecDepth 16384

noncomputable section

namespace Cert.KernelIdeal.Transform

open Cert.KernelIdeal Cert.KernelIdeal.Gen Cert.KernelIdeal.Vocab
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

/-- Point `t` of the grid is document `t`. -/
theorem coords_val : ∀ t : Fin grid0.N, ((grid0.coords t) 0).val = t.val := by decide +kernel

/-- The arrays the call's windows name, on core `c`. -/
abbrev Arrs (a : (pcfg0 (F := F)).Adm) (c : Dev nD) : Type := (w : Fin (cfg0 a).W) → Buf (Elt F) (((cfg0 a).win w).arr.view.loc (c.tc : Thread nD τ))

variable (a : (pcfg0 (F := F)).Adm) (c : Dev nD) (A : Arrs a c)

/-- The table of lengths. -/
abbrev tbl : S12.Idx → Elt F .i32 := a.1 0

/-- Window `w`'s block at point `t`. -/
abbrev blk0 (w : Fin (cfg0 a).W) (t : Fin (cfg0 a).N) : (((cfg0 a).win w).xblock ((cfg0 a).grid.coords t)).Idx → Elt F ((cfg0 a).win w).elt :=
  (((cfg0 a).win w).blk t).view.read (Elt F) (A w)

/-- What the body finds at point `t`. -/
def inT (t : Fin (cfg0 a).N) : TIn F :=
  tin (grid0.coords t) (tbl a) (blk0 a c A 0 t) (blk0 a c A 1 t) (blk0 a c A 2 t) (blk0 a c A 3 t) (blk0 a c A 4 t) (blk0 a c A 5 t) (blk0 a c A 6 t)

/-- The call's proof data: the inputs are left as found, the results are those of the point, and one row of the scales is put. -/
def rd0 : RDat τ (Elt F) Unit ℕ UU ℕ (cfg0 a) c where
  A := A
  after := fun w t => match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = (inT a c A t).codesBlk
    | ⟨8, _⟩ => fun Y X => X = VecWindow.put (s := S12x128) Y (k0_off2 (grid0.coords t)) S1x128.size (inT a c A t).scaleRow
    | ⟨9, _⟩ => fun Y X => X = (inT a c A t).zBlk
    | ⟨10, _⟩ => fun Y X => X = (inT a c A t).zsBlk
    | ⟨n + 11, h⟩ => absurd h (Nat.not_lt.2 (Nat.le_add_left _ _))
  Φ t := iprop(owns (c : Thread nD τ) (Memref.whole main_arg2) fullShare (tbl a) ∗ Pipeline.scopedRest spec0 c)
  q _ := fullShare
  owed _ := 0

/-- A window of an input is left as found. -/
theorem keep0 (w : Fin (cfg0 a).W) (h : w.val < 7) (t : Fin (cfg0 a).N) (Y X) (hR : (rd0 a c A).after w t Y X) : X = Y := by
  match w, h, Y, X, hR with
  | ⟨0, _⟩, _, _, _, hR => exact hR
  | ⟨1, _⟩, _, _, _, hR => exact hR
  | ⟨2, _⟩, _, _, _, hR => exact hR
  | ⟨3, _⟩, _, _, _, hR => exact hR
  | ⟨4, _⟩, _, _, _, hR => exact hR
  | ⟨5, _⟩, _, _, _, hR => exact hR
  | ⟨6, _⟩, _, _, _, hR => exact hR

/-- The body finds an input's block at every point. -/
theorem finds0_0 (t : Fin (cfg0 a).N) (Y) (h : (rd0 a c A).Finds 0 t Y) : Y = blk0 a c A 0 t := by
  obtain ⟨d, e⟩ := (rd0 a c A).finds_in_eq_fetched 0 rfl (fun _ _ _ => rfl) (fun t Y X h => keep0 a c A 0 (show 0 < 7 by decide) t Y X h) t Y h
  rw [e]; rfl
theorem finds0_1 (t : Fin (cfg0 a).N) (Y) (h : (rd0 a c A).Finds 1 t Y) : Y = blk0 a c A 1 t := by
  obtain ⟨d, e⟩ := (rd0 a c A).finds_in_eq_fetched 1 rfl (fun _ _ _ => rfl) (fun t Y X h => keep0 a c A 1 (show 1 < 7 by decide) t Y X h) t Y h
  rw [e]; rfl
theorem finds0_2 (t : Fin (cfg0 a).N) (Y) (h : (rd0 a c A).Finds 2 t Y) : Y = blk0 a c A 2 t := by
  obtain ⟨d, e⟩ := (rd0 a c A).finds_in_eq_fetched 2 rfl (fun _ _ _ => rfl) (fun t Y X h => keep0 a c A 2 (show 2 < 7 by decide) t Y X h) t Y h
  rw [e]; rfl
theorem finds0_3 (t : Fin (cfg0 a).N) (Y) (h : (rd0 a c A).Finds 3 t Y) : Y = blk0 a c A 3 t := by
  obtain ⟨d, e⟩ := (rd0 a c A).finds_in_eq_fetched 3 rfl (fun _ _ _ => rfl) (fun t Y X h => keep0 a c A 3 (show 3 < 7 by decide) t Y X h) t Y h
  rw [e]; rfl
theorem finds0_4 (t : Fin (cfg0 a).N) (Y) (h : (rd0 a c A).Finds 4 t Y) : Y = blk0 a c A 4 t := by
  obtain ⟨d, e⟩ := (rd0 a c A).finds_in_eq_fetched 4 rfl (fun _ _ _ => rfl) (fun t Y X h => keep0 a c A 4 (show 4 < 7 by decide) t Y X h) t Y h
  rw [e]; rfl
theorem finds0_5 (t : Fin (cfg0 a).N) (Y) (h : (rd0 a c A).Finds 5 t Y) : Y = blk0 a c A 5 t := by
  obtain ⟨d, e⟩ := (rd0 a c A).finds_in_eq_fetched 5 rfl (fun _ _ _ => rfl) (fun t Y X h => keep0 a c A 5 (show 5 < 7 by decide) t Y X h) t Y h
  rw [e]; rfl
theorem finds0_6 (t : Fin (cfg0 a).N) (Y) (h : (rd0 a c A).Finds 6 t Y) : Y = blk0 a c A 6 t := by
  obtain ⟨d, e⟩ := (rd0 a c A).finds_in_eq_fetched 6 rfl (fun _ _ _ => rfl) (fun t Y X h => keep0 a c A 6 (show 6 < 7 by decide) t Y X h) t Y h
  rw [e]; rfl

/-- What the call keeps between its points. -/
theorem phi0 (t : Fin ((cfg0 a).N + 1)) : (rd0 a c A).Φ t = iprop(owns (c : Thread nD τ) (Memref.whole main_arg2) fullShare (tbl a) ∗ Pipeline.scopedRest spec0 c) := rfl

set_option maxHeartbeats 4000000 in
/-- The body's obligation at every point. -/
theorem obligation0 : (rd0 a c A).BodyObligation (defs₀ (F := F)) Variants.none () Set.univ := by
  intro t Y hY
  have hin : tin (grid0.coords t) (tbl a) (Y 0) (Y 1) (Y 2) (Y 3) (Y 4) (Y 5) (Y 6) = inT a c A t := by
    rw [finds0_0 a c A t _ (hY 0), finds0_1 a c A t _ (hY 1), finds0_2 a c A t _ (hY 2), finds0_3 a c A t _ (hY 3), finds0_4 a c A t _ (hY 4), finds0_5 a c A t _ (hY 5), finds0_6 a c A t _ (hY 6)]; rfl
  rw [bigSep_W0 (fun w => owns (c : Thread nD τ) (((cfg0 a).win w).stage ((cfg0 a).slots t w)) fullShare (Y w)),
    bigSep_W0 (fun w => iprop(∃ X, ⌜(rd0 a c A).after w t (Y w) X⌝ ∗ owns (c : Thread nD τ) (((cfg0 a).win w).stage ((cfg0 a).slots t w)) fullShare X)),
    phi0 a c A t.castSucc, phi0 a c A t.succ]
  iintro ⟨⟨HT, Hoth⟩, HO, ⟨H0, H1, H2, H3, H4, H5, H6, H7, H8, H9, H10⟩⟩
  iapply (transform_wp c (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (tbl a) (Y 0) (Y 1) (Y 2) (Y 3) (Y 4) (Y 5) (Y 6) (Y 7) (Y 8) (Y 9) (Y 10) Set.univ)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨HT, H0, H1, H2, H3, H4, H5, H6, H7, H8, H9, H10⟩
  isplitl [HT Hoth]
  · isplitl [HT]; · iexact HT
    iexact Hoth
  isplitl [HO]; · iexact HO
  isplitl [H0]
  · iexists _
    isplitr
    · ipureintro; rfl
    iexact H0
  isplitl [H1]
  · iexists _
    isplitr
    · ipureintro; rfl
    iexact H1
  isplitl [H2]
  · iexists _
    isplitr
    · ipureintro; rfl
    iexact H2
  isplitl [H3]
  · iexists _
    isplitr
    · ipureintro; rfl
    iexact H3
  isplitl [H4]
  · iexists _
    isplitr
    · ipureintro; rfl
    iexact H4
  isplitl [H5]
  · iexists _
    isplitr
    · ipureintro; rfl
    iexact H5
  isplitl [H6]
  · iexists _
    isplitr
    · ipureintro; rfl
    iexact H6
  isplitl [H7]
  · iexists _
    isplitr
    · ipureintro; exact congrArg TIn.codesBlk hin
    iexact H7
  isplitl [H8]
  · iexists _
    isplitr
    · ipureintro; exact congrArg (fun b : TIn F => VecWindow.put (s := S12x128) (Y 8) (k0_off2 (grid0.coords t)) S1x128.size b.scaleRow) hin
    iexact H8
  isplitl [H9]
  · iexists _
    isplitr
    · ipureintro; exact congrArg TIn.zBlk hin
    iexact H9
  iexists _
  isplitr
  · ipureintro; exact congrArg TIn.zsBlk hin
  iexact H10

end Cert.KernelIdeal.Transform
-- ==== Proof.TransformExact.lean ====
/-
  The transform call's results exactly: each array it leaves is the one its grid points' values name.
-/
module

public import proofs.«01_k».proof.Proof.TransformRegion
public import Idealize.ShloMosaic.Lib.Pipeline.ArrRel
public import Idealize.ShloMosaic.Lib.Pipeline.FrameBody
public import Idealize.ShloMosaic.Lib.Pipeline.Regions

@[expose] public section

set_option maxRecDepth 16384

noncomputable section

namespace Cert.KernelIdeal.Transform

open Cert.KernelIdeal Cert.KernelIdeal.Gen Cert.KernelIdeal.Vocab
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

variable (a : (pcfg0 (F := F)).Adm) (c : Dev nD) (A : Arrs a c)

/-- The scales after all twelve points: row `d` is document `d`'s. -/
def scaleAll : S12x128.Idx → Elt F .f32 := fun i =>
  (inT a c A ⟨(i 0).val, (i 0).isLt⟩).scaleRow (fun | ⟨0, _⟩ => ⟨0, Nat.one_pos⟩ | ⟨1, _⟩ => ⟨(i 1).val, (i 1).isLt⟩ : S1x128.Idx)

/-- The values each point leaves, exactly. -/
def after0 : (w : Fin (cfg0 a).W) → Fin (cfg0 a).N → ((cfg0 a).win w).block.Idx → Elt F ((cfg0 a).win w).elt := fun w t => match w with
    | ⟨0, _⟩ => blk0 a c A 0 t
    | ⟨1, _⟩ => blk0 a c A 1 t
    | ⟨2, _⟩ => blk0 a c A 2 t
    | ⟨3, _⟩ => blk0 a c A 3 t
    | ⟨4, _⟩ => blk0 a c A 4 t
    | ⟨5, _⟩ => blk0 a c A 5 t
    | ⟨6, _⟩ => blk0 a c A 6 t
    | ⟨7, _⟩ => (inT a c A t).codesBlk
    | ⟨8, _⟩ => scaleAll a c A
    | ⟨9, _⟩ => (inT a c A t).zBlk
    | ⟨10, _⟩ => (inT a c A t).zsBlk
    | ⟨n + 11, h⟩ => absurd h (Nat.not_lt.2 (Nat.le_add_left _ _))

/-- The exact proof data. -/
def dat0 : Dat τ (Elt F) Unit ℕ UU ℕ (cfg0 a) c := (rd0 a c A).withAfter (after0 a c A)

/-- The row of the scales that point `t` puts. -/
theorem off2_val : ∀ t : Fin grid0.N, k0_off2 (grid0.coords t) 0 = t.val ∧ k0_off2 (grid0.coords t) 1 = 0 := by decide +kernel

/-- The scales are written back after the last point only. -/
theorem flush0_8 (t : Fin (cfg0 a).N) : ((cfg0 a).win 8).flush t = decide (t.val = 11) := by
  have h : t.val < 12 := t.isLt
  obtain ⟨n, hn⟩ := t
  match n, hn, h with
  | 0, _, _ => rfl
  | 1, _, _ => rfl
  | 2, _, _ => rfl
  | 3, _, _ => rfl
  | 4, _, _ => rfl
  | 5, _, _ => rfl
  | 6, _, _ => rfl
  | 7, _, _ => rfl
  | 8, _, _ => rfl
  | 9, _, _ => rfl
  | 10, _, _ => rfl
  | 11, _, _ => rfl
  | n + 12, _, h => exact absurd (show n + 12 < 12 from h) (by omega)

/-- After point `n` the rows of the documents up to `n` are those documents'. -/
theorem leaves8 : ∀ (n : ℕ) (h : n < (cfg0 a).N) (X : S12x128.Idx → Elt F .f32), (rd0 a c A).Leaves 8 ⟨n, h⟩ X →
    ∀ i : S12x128.Idx, (i 0).val ≤ n → X i = scaleAll a c A i
  | n, h, X, ⟨Y, hY, hX⟩, i, hi => by
    have hX' : X = VecWindow.put (s := S12x128) Y (k0_off2 (grid0.coords ⟨n, h⟩)) S1x128.size (inT a c A ⟨n, h⟩).scaleRow := hX
    obtain ⟨o0, o1⟩ := off2_val ⟨n, h⟩
    have hi1 : (i 1).val < 128 := (i 1).isLt
    refine (congrFun hX' i).trans ?_
    by_cases hin : (i 0).val = n
    · have hc : ∀ b, k0_off2 (grid0.coords ⟨n, h⟩) b ≤ (i b).val ∧ (i b).val < k0_off2 (grid0.coords ⟨n, h⟩) b + S1x128.size b := by
        intro b
        fin_cases b
        · show k0_off2 (grid0.coords ⟨n, h⟩) 0 ≤ (i 0).val ∧ (i 0).val < k0_off2 (grid0.coords ⟨n, h⟩) 0 + 1
          rw [o0]; show n ≤ (i 0).val ∧ (i 0).val < n + 1; omega
        · show k0_off2 (grid0.coords ⟨n, h⟩) 1 ≤ (i 1).val ∧ (i 1).val < k0_off2 (grid0.coords ⟨n, h⟩) 1 + 128
          rw [o1]; omega
      refine (show VecWindow.put (s := S12x128) Y (k0_off2 (grid0.coords ⟨n, h⟩)) S1x128.size (inT a c A ⟨n, h⟩).scaleRow i = _ from dif_pos hc).trans ?_
      subst hin
      unfold scaleAll
      refine congrArg _ (funext fun b => ?_)
      fin_cases b
      · exact Fin.ext (show (i 0).val - k0_off2 (grid0.coords ⟨(i 0).val, h⟩) 0 = 0 by rw [o0]; exact Nat.sub_self _)
      · exact Fin.ext (show (i 1).val - k0_off2 (grid0.coords ⟨(i 0).val, h⟩) 1 = (i 1).val by rw [o1]; rfl)
    · have hc : ¬∀ b, k0_off2 (grid0.coords ⟨n, h⟩) b ≤ (i b).val ∧ (i b).val < k0_off2 (grid0.coords ⟨n, h⟩) b + S1x128.size b := by
        intro hh
        have := (hh 0).1
        rw [o0] at this
        have : n ≤ (i 0).val := this
        omega
      refine (show VecWindow.put (s := S12x128) Y (k0_off2 (grid0.coords ⟨n, h⟩)) S1x128.size (inT a c A ⟨n, h⟩).scaleRow i = _ from dif_neg hc).trans ?_
      have hn0 : n ≠ 0 := fun e => hin (by omega)
      have hN : n < 12 := h
      rcases ((rd0 a c A).finds_of_pos (w := 8) (t := ⟨n, h⟩) rfl hn0 Y).mp hY with hf | hl
      · rw [flush0_8] at hf
        have hf' : n - 1 = 11 := of_decide_eq_true hf
        omega
      · exact leaves8 (n - 1) (Nat.lt_of_le_of_lt (Nat.sub_le _ _) h) Y hl i (by omega)
  termination_by n => n

/-- Each array the call writes is what the exact data name. -/
theorem arr0_eq (w : Fin (cfg0 a).W) (hw : 7 ≤ w.val) (G) (hG : (rd0 a c A).ArrAt w (cfg0 a).N G) : G = (dat0 a c A).arrAt w (cfg0 a).N := by
  obtain ⟨X, hX, hA⟩ := RDat.ArrAt.exists_exact hG
  refine hA (after0 a c A) fun u hu hf => ?_
  obtain ⟨Y, hY, hR⟩ := hX u hu hf
  match w, hw, X, Y, hf, hY, hR with
  | ⟨7, _⟩, _, X, Y, _, _, hR => exact hR.symm
  | ⟨8, _⟩, _, X, Y, hf, hY, hR =>
    have e : decide (u.val = 11) = true := (flush0_8 a u).symm.trans hf
    have e' : u.val = 11 := of_decide_eq_true e
    obtain ⟨n, hn⟩ := u
    refine funext fun i => (leaves8 a c A n hn _ ⟨Y, hY, hR⟩ i ?_).symm
    have h0 : (i 0).val < 12 := (i 0).isLt
    have : n = 11 := e'
    omega
  | ⟨9, _⟩, _, X, Y, _, _, hR => exact hR.symm
  | ⟨10, _⟩, _, X, Y, _, _, hR => exact hR.symm
  | ⟨n + 11, h⟩, _, _, _, _, _, _ => exact absurd h (Nat.not_lt.2 (Nat.le_add_left _ _))

end Cert.KernelIdeal.Transform

end
-- ==== Proof.VocabBody.lean ====
/-
  The vocabulary call's body as one triple over what its buffers hold, whichever of the two conditions hold.
-/
module

public import proofs.«01_k».proof.Proof.Gen.KernelIdeal.Launch
public import proofs.«01_k».proof.Proof.VocabRun
public import Idealize.ShloMosaic.Lib.Tactic

@[expose] public section

set_option maxRecDepth 16384

noncomputable section

namespace Cert.KernelIdeal.Vocab

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

instance (i : grid1.Coords) : Decidable (First i) := inferInstanceAs (Decidable (_ = _))

/-- What a point starts from: at the first point the running values are reset. -/
def St.start (i : grid1.Coords) (s : St F) : St F := if First i then s.reset else s

/-- A whole buffer owned at contents `X` is its points-to at some raw contents that read as `X`. -/
theorem owns_pt (c : Dev nD) {sp : Space} {S : Shape} {e : EltTy} {M : Memref sig .tc sp S e} (h : M.IsWhole) (X : S.Idx → Elt F e) :
    (owns (c : Thread nD τ) M fullShare X : sProp 𝕄) = iprop(∃ f, ⌜M.view.read (Elt F) f = X⌝ ∗ pt c M f) := by
  unfold owns pt; rw [h.set_eq_univ]

/-- A windowed result that only the last point writes. -/
def atLast {α : Type} (i : grid1.Coords) (n y : α) : α := if k1_cond2 i = 1#1 then n else y

set_option maxHeartbeats 4000000 in
/-- The body at any point: from the windows at `X1 … X11` and the scratch at `s`, to the inputs unchanged, the two
    results of every point at their values, the four results of the last point written there only, and the scratch at the next state. -/
theorem body_wp (c : Dev nD) (i : grid1.Coords) (hx : First i → ¬k1_cond2 i = 1#1) (M1 : Memref sig .tc .vmem S12x128x1024 .bf16) (h1 : M1.IsWhole) (M2 : Memref sig .tc .vmem S12x128x128 .f32) (h2 : M2.IsWhole) (M3 : Memref sig .tc .vmem S256x512 .i8) (h3 : M3.IsWhole) (M4 : Memref sig .tc .vmem S8x256 .f32) (h4 : M4.IsWhole) (M5 : Memref sig .tc .vmem S1x256 .f32) (h5 : M5.IsWhole) (M6 : Memref sig .tc .vmem S12x256 .f32) (h6 : M6.IsWhole) (M7 : Memref sig .tc .vmem S1x256 .f32) (h7 : M7.IsWhole) (M8 : Memref sig .tc .vmem S12x1 .f32) (h8 : M8.IsWhole) (M9 : Memref sig .tc .vmem S1x1 .f32) (h9 : M9.IsWhole) (M10 : Memref sig .tc .vmem S12x50368 .i8) (h10 : M10.IsWhole) (M11 : Memref sig .tc .vmem S12x1 .f32) (h11 : M11.IsWhole) (M12 : Memref sig .tc .vmem S16x50432 .f32) (h12 : M12.IsWhole) (M13 : Memref sig .tc .vmem S16x256 .f32) (h13 : M13.IsWhole) (M14 : Memref sig .tc .vmem S16x256 .f32) (h14 : M14.IsWhole) (M15 : Memref sig .tc .vmem S16x256 .f32) (h15 : M15.IsWhole) (M16 : Memref sig .tc .vmem S1x256 .f32) (h16 : M16.IsWhole)
    (X1 : S12x128x1024.Idx → Elt F .bf16) (X2 : S12x128x128.Idx → Elt F .f32) (X3 : S256x512.Idx → Elt F .i8) (X4 : S8x256.Idx → Elt F .f32) (X5 : S1x256.Idx → Elt F .f32) (X6 : S12x256.Idx → Elt F .f32) (X7 : S1x256.Idx → Elt F .f32) (X8 : S12x1.Idx → Elt F .f32) (X9 : S1x1.Idx → Elt F .f32) (X10 : S12x50368.Idx → Elt F .i8) (X11 : S12x1.Idx → Elt F .f32) (s : St F) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare s.rep ∗ owns (c : Thread nD τ) M13 fullShare s.mx ∗ owns (c : Thread nD τ) M14 fullShare s.l1 ∗ owns (c : Thread nD τ) M15 fullShare s.top ∗ owns (c : Thread nD τ) M16 fullShare s.sq ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare (k1_pay80 (liveT i) (lgOf X1 X2 X3 X4 X5 (s.start i))) ∗ owns (c : Thread nD τ) M7 fullShare (k1_pay82 (liveT i) (lgOf X1 X2 X3 X4 X5 (s.start i))) ∗ owns (c : Thread nD τ) M8 fullShare (atLast i (k1_pay1 (St.next i X1 X2 X3 X4 X5 (s.start i)).l1) X8) ∗ owns (c : Thread nD τ) M9 fullShare (atLast i (k1_pay2 (St.next i X1 X2 X3 X4 X5 (s.start i)).sq) X9) ∗ owns (c : Thread nD τ) M10 fullShare (atLast i (k1_pay5 (St.next i X1 X2 X3 X4 X5 (s.start i)).top (VecWindow.window (St.next i X1 X2 X3 X4 X5 (s.start i)).rep ![0, 0] S16x50368.size inb_S16x50432_S16x50368_0_0)) X10) ∗ owns (c : Thread nD τ) M11 fullShare (atLast i (k1_pay4 (St.next i X1 X2 X3 X4 X5 (s.start i)).top) X11) ∗ owns (c : Thread nD τ) M12 fullShare (St.next i X1 X2 X3 X4 X5 (s.start i)).rep ∗ owns (c : Thread nD τ) M13 fullShare (St.next i X1 X2 X3 X4 X5 (s.start i)).mx ∗ owns (c : Thread nD τ) M14 fullShare (St.next i X1 X2 X3 X4 X5 (s.start i)).l1 ∗ owns (c : Thread nD τ) M15 fullShare (St.next i X1 X2 X3 X4 X5 (s.start i)).top ∗ owns (c : Thread nD τ) M16 fullShare (St.next i X1 X2 X3 X4 X5 (s.start i)).sq) -∗ Q ⟨⟩))
      ⊢ wp frame (wpE (defs₀ (F := F)) Variants.none c none) E (cc1_vocab i M1 h1 M2 h2 M3 h3 M4 h4 M5 h5 M6 h6 M7 h7 M8 h8 M9 h9 M10 h10 M11 h11 M12 h12 M13 h13 M14 h14 M15 h15 M16 h16) Q := by
  obtain ⟨srep, smx, sl1, stop, ssq⟩ := s
  simp only [owns_pt c h1, owns_pt c h2, owns_pt c h3, owns_pt c h4, owns_pt c h5, owns_pt c h6, owns_pt c h7, owns_pt c h8, owns_pt c h9, owns_pt c h10, owns_pt c h11, owns_pt c h12, owns_pt c h13, owns_pt c h14, owns_pt c h15, owns_pt c h16]
  by_cases hc1 : First i
  · have hc2 := hx hc1
    simp only [St.start, if_pos hc1, atLast, if_neg hc2]
    iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, Hk⟩
    subst e1 e2 e3 e4 e5 e6 e7 e8 e9 e10 e11 e12 e13 e14 e15 e16
    iapply (runFirst c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).2
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H1, H2, H3, H4, H5, H6, H7, H8, H9, H10, H11, H12, H13, H14, H15, H16⟩
    iapply Hk
    isplitl [H1]
    · iexists _; isplitr [H1]
      · ipureintro; rfl
      · iexact H1
    isplitl [H2]
    · iexists _; isplitr [H2]
      · ipureintro; rfl
      · iexact H2
    isplitl [H3]
    · iexists _; isplitr [H3]
      · ipureintro; rfl
      · iexact H3
    isplitl [H4]
    · iexists _; isplitr [H4]
      · ipureintro; rfl
      · iexact H4
    isplitl [H5]
    · iexists _; isplitr [H5]
      · ipureintro; rfl
      · iexact H5
    isplitl [H6]
    · iexists _; isplitr [H6]
      · ipureintro; exact runFirst_6 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
      · iexact H6
    isplitl [H7]
    · iexists _; isplitr [H7]
      · ipureintro; exact runFirst_7 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
      · iexact H7
    isplitl [H8]
    · iexists _; isplitr [H8]
      · ipureintro; rfl
      · iexact H8
    isplitl [H9]
    · iexists _; isplitr [H9]
      · ipureintro; rfl
      · iexact H9
    isplitl [H10]
    · iexists _; isplitr [H10]
      · ipureintro; rfl
      · iexact H10
    isplitl [H11]
    · iexists _; isplitr [H11]
      · ipureintro; rfl
      · iexact H11
    isplitl [H12]
    · iexists _; isplitr [H12]
      · ipureintro; exact runFirst_12 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
      · iexact H12
    isplitl [H13]
    · iexists _; isplitr [H13]
      · ipureintro; exact runFirst_13 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
      · iexact H13
    isplitl [H14]
    · iexists _; isplitr [H14]
      · ipureintro; exact runFirst_14 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
      · iexact H14
    isplitl [H15]
    · iexists _; isplitr [H15]
      · ipureintro; exact runFirst_15 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
      · iexact H15
    iexists _; isplitr [H16]
    · ipureintro; exact runFirst_16 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
    · iexact H16
  · by_cases hc2 : k1_cond2 i = 1#1
    · simp only [St.start, if_neg hc1, atLast, if_pos hc2]
      iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, Hk⟩
      subst e1 e2 e3 e4 e5 e6 e7 e8 e9 e10 e11 e12 e13 e14 e15 e16
      iapply (runLast c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).2
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iintro ⟨H1, H2, H3, H4, H5, H6, H7, H8, H9, H10, H11, H12, H13, H14, H15, H16⟩
      iapply Hk
      isplitl [H1]
      · iexists _; isplitr [H1]
        · ipureintro; rfl
        · iexact H1
      isplitl [H2]
      · iexists _; isplitr [H2]
        · ipureintro; rfl
        · iexact H2
      isplitl [H3]
      · iexists _; isplitr [H3]
        · ipureintro; rfl
        · iexact H3
      isplitl [H4]
      · iexists _; isplitr [H4]
        · ipureintro; rfl
        · iexact H4
      isplitl [H5]
      · iexists _; isplitr [H5]
        · ipureintro; rfl
        · iexact H5
      isplitl [H6]
      · iexists _; isplitr [H6]
        · ipureintro; exact runLast_6 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
        · iexact H6
      isplitl [H7]
      · iexists _; isplitr [H7]
        · ipureintro; exact runLast_7 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
        · iexact H7
      isplitl [H8]
      · iexists _; isplitr [H8]
        · ipureintro; exact runLast_8 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
        · iexact H8
      isplitl [H9]
      · iexists _; isplitr [H9]
        · ipureintro; exact runLast_9 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
        · iexact H9
      isplitl [H10]
      · iexists _; isplitr [H10]
        · ipureintro; exact runLast_10 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
        · iexact H10
      isplitl [H11]
      · iexists _; isplitr [H11]
        · ipureintro; exact runLast_11 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
        · iexact H11
      isplitl [H12]
      · iexists _; isplitr [H12]
        · ipureintro; exact runLast_12 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
        · iexact H12
      isplitl [H13]
      · iexists _; isplitr [H13]
        · ipureintro; exact runLast_13 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
        · iexact H13
      isplitl [H14]
      · iexists _; isplitr [H14]
        · ipureintro; exact runLast_14 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
        · iexact H14
      isplitl [H15]
      · iexists _; isplitr [H15]
        · ipureintro; exact runLast_15 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
        · iexact H15
      iexists _; isplitr [H16]
      · ipureintro; exact runLast_16 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
      · iexact H16
    · simp only [St.start, if_neg hc1, atLast, if_neg hc2]
      iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, Hk⟩
      subst e1 e2 e3 e4 e5 e6 e7 e8 e9 e10 e11 e12 e13 e14 e15 e16
      iapply (runMid c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).2
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iintro ⟨H1, H2, H3, H4, H5, H6, H7, H8, H9, H10, H11, H12, H13, H14, H15, H16⟩
      iapply Hk
      isplitl [H1]
      · iexists _; isplitr [H1]
        · ipureintro; rfl
        · iexact H1
      isplitl [H2]
      · iexists _; isplitr [H2]
        · ipureintro; rfl
        · iexact H2
      isplitl [H3]
      · iexists _; isplitr [H3]
        · ipureintro; rfl
        · iexact H3
      isplitl [H4]
      · iexists _; isplitr [H4]
        · ipureintro; rfl
        · iexact H4
      isplitl [H5]
      · iexists _; isplitr [H5]
        · ipureintro; rfl
        · iexact H5
      isplitl [H6]
      · iexists _; isplitr [H6]
        · ipureintro; exact runMid_6 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
        · iexact H6
      isplitl [H7]
      · iexists _; isplitr [H7]
        · ipureintro; exact runMid_7 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
        · iexact H7
      isplitl [H8]
      · iexists _; isplitr [H8]
        · ipureintro; rfl
        · iexact H8
      isplitl [H9]
      · iexists _; isplitr [H9]
        · ipureintro; rfl
        · iexact H9
      isplitl [H10]
      · iexists _; isplitr [H10]
        · ipureintro; rfl
        · iexact H10
      isplitl [H11]
      · iexists _; isplitr [H11]
        · ipureintro; rfl
        · iexact H11
      isplitl [H12]
      · iexists _; isplitr [H12]
        · ipureintro; exact runMid_12 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
        · iexact H12
      isplitl [H13]
      · iexists _; isplitr [H13]
        · ipureintro; exact runMid_13 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
        · iexact H13
      isplitl [H14]
      · iexists _; isplitr [H14]
        · ipureintro; exact runMid_14 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
        · iexact H14
      isplitl [H15]
      · iexists _; isplitr [H15]
        · ipureintro; exact runMid_15 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
        · iexact H15
      iexists _; isplitr [H16]
      · ipureintro; exact runMid_16 c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 (hc1 := hc1) (hc2 := hc2)
      · iexact H16

end Cert.KernelIdeal.Vocab

end
-- ==== Proof.VocabRegion.lean ====
/-
  The vocabulary call's region: what its running values may be at each grid point, and the body's obligation.
-/
module

public import proofs.«01_k».proof.Proof.Gen.KernelIdeal.Points
public import proofs.«01_k».proof.Proof.VocabBody
public import Idealize.ShloMosaic.Lib.Pipeline.FrameBody
public import Idealize.ShloMosaic.Lib.Pipeline.Regions

@[expose] public section

set_option maxRecDepth 16384

noncomputable section

namespace Cert.KernelIdeal.Vocab

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

/-- Point `t` of the grid is column block `t`. -/
theorem coords_val : ∀ t : Fin grid1.N, ((grid1.coords t) 0).val = t.val := by decide +kernel
/-- The first condition holds at point 0 only. -/
theorem first_iff : ∀ t : Fin grid1.N, First (grid1.coords t) ↔ t.val = 0 := by decide +kernel
/-- The second condition holds at the last point only. -/
theorem last_iff : ∀ t : Fin grid1.N, k1_cond2 (grid1.coords t) = 1#1 ↔ t.val = 196 := by decide +kernel
/-- No point is both. -/
theorem first_not_last (t : Fin grid1.N) (h : First (grid1.coords t)) : ¬k1_cond2 (grid1.coords t) = 1#1 := fun h' => by
  have h0 := (first_iff t).mp h; have h1 := (last_iff t).mp h'; omega

/-- The blocks of the five inputs that the body finds at a point. -/
structure In (F : FTy → Type) where
  x1 : Vec F S12x128x1024 .bf16
  x2 : Vec F S12x128x128 .f32
  x3 : Vec F S256x512 .i8
  x4 : Vec F S8x256 .f32
  x5 : Vec F S1x256 .f32

/-- The logits of point `i` from the blocks `x`, started at the running values `s`. -/
def In.lg (x : In F) (i : grid1.Coords) (s : St F) := lgOf x.x1 x.x2 x.x3 x.x4 x.x5 (s.start i)
/-- The running values after point `i` from the blocks `x`, started at the running values `s`. -/
def In.next (x : In F) (i : grid1.Coords) (s : St F) : St F := St.next i x.x1 x.x2 x.x3 x.x4 x.x5 (s.start i)

/-- The arrays the call's windows name, on core `c`. -/
abbrev Arrs (c : Dev nD) : Type := (w : Fin cfg1.W) → Buf (Elt F) ((cfg1.win w).arr.view.loc (c.tc : Thread nD τ))

section Reach

variable (c : Dev nD) (A : Arrs (F := F) c)

/-- Window `w`'s block at point `t`, over whatever the staging buffer held outside the array. -/
def blkAt (w : Fin cfg1.W) (t : Fin cfg1.N) (d : (cfg1.win w).block.Idx → Elt F (cfg1.win w).elt) : (cfg1.win w).block.Idx → Elt F (cfg1.win w).elt :=
  (cfg1.win w).fill (cfg1.grid.coords t) d (((cfg1.win w).blk t).view.read (Elt F) (A w))

/-- `x` are the inputs' blocks at point `t`. -/
def InAt (t : Fin cfg1.N) (x : In F) : Prop :=
  (∃ d, x.x1 = blkAt c A 0 t d) ∧ (∃ d, x.x2 = blkAt c A 1 t d) ∧ (∃ d, x.x3 = blkAt c A 2 t d) ∧ (∃ d, x.x4 = blkAt c A 3 t d) ∧ (∃ d, x.x5 = blkAt c A 4 t d)

/-- The running values that the first `n` points may leave. -/
def Reach : ℕ → St F → Prop
  | 0, _ => True
  | n + 1, s => ∃ (h : n < cfg1.N) (s₀ : St F) (x : In F), Reach n s₀ ∧ InAt c A ⟨n, h⟩ x ∧ s = x.next (grid1.coords ⟨n, h⟩) s₀

/-- What point `t` may start from: running values and the inputs' blocks. -/
def At (t : Fin cfg1.N) (s : St F) (x : In F) : Prop := Reach c A t.val s ∧ InAt c A t x

/-- The scoped buffers of the other call. -/
def others (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f))

/-- The scratch buffers at the running values `s`. -/
def scratch (c : Dev nD) (s : St F) : sProp 𝕄 := iprop(owns (c : Thread nD τ) (Memref.whole cc1_scratch0) fullShare s.rep ∗ owns (c : Thread nD τ) (Memref.whole cc1_scratch1) fullShare s.mx ∗ owns (c : Thread nD τ) (Memref.whole cc1_scratch2) fullShare s.l1 ∗ owns (c : Thread nD τ) (Memref.whole cc1_scratch3) fullShare s.top ∗ owns (c : Thread nD τ) (Memref.whole cc1_scratch4) fullShare s.sq)

/-- The call's proof data: the inputs are left as found, the results are computed from running values that may be. -/
def rd1 : RDat τ (Elt F) Unit ℕ UU ℕ cfg1 c where
  A := A
  after := fun w t => match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => ∃ s x, At c A t s x ∧ X = k1_pay80 (liveT (grid1.coords t)) (x.lg (grid1.coords t) s)
    | ⟨6, _⟩ => fun Y X => ∃ s x, At c A t s x ∧ X = k1_pay82 (liveT (grid1.coords t)) (x.lg (grid1.coords t) s)
    | ⟨7, _⟩ => fun Y X => k1_cond2 (grid1.coords t) = 1#1 → ∃ s x, At c A t s x ∧ X = k1_pay1 (x.next (grid1.coords t) s).l1
    | ⟨8, _⟩ => fun Y X => k1_cond2 (grid1.coords t) = 1#1 → ∃ s x, At c A t s x ∧ X = k1_pay2 (x.next (grid1.coords t) s).sq
    | ⟨9, _⟩ => fun Y X => k1_cond2 (grid1.coords t) = 1#1 → ∃ s x, At c A t s x ∧ X = k1_pay5 (x.next (grid1.coords t) s).top (VecWindow.window (x.next (grid1.coords t) s).rep ![0, 0] S16x50368.size inb_S16x50432_S16x50368_0_0)
    | ⟨10, _⟩ => fun Y X => k1_cond2 (grid1.coords t) = 1#1 → ∃ s x, At c A t s x ∧ X = k1_pay4 (x.next (grid1.coords t) s).top
    | ⟨n + 11, h⟩ => absurd h (Nat.not_lt.2 (Nat.le_add_left _ _))
  Φ t := iprop(∃ s, ⌜Reach c A t.val s⌝ ∗ scratch c s ∗ others c)
  q _ := fullShare
  owed _ := 0

/-- A window of an input is left as found. -/
theorem keep1 (w : Fin cfg1.W) (h : w.val < 5) (t : Fin cfg1.N) (Y X) (hR : (rd1 c A).after w t Y X) : X = Y := by
  match w, h, Y, X, hR with
  | ⟨0, _⟩, _, _, _, hR => exact hR
  | ⟨1, _⟩, _, _, _, hR => exact hR
  | ⟨2, _⟩, _, _, _, hR => exact hR
  | ⟨3, _⟩, _, _, _, hR => exact hR
  | ⟨4, _⟩, _, _, _, hR => exact hR

/-- The body finds an input's block at every point. -/
theorem finds1_0 (t : Fin cfg1.N) (Y) (h : (rd1 c A).Finds 0 t Y) : ∃ d, Y = blkAt c A 0 t d :=
  (rd1 c A).finds_in_eq_fetched 0 rfl (fun _ _ _ => rfl) (fun t Y X h => keep1 c A 0 (by decide) t Y X h) t Y h
theorem finds1_1 (t : Fin cfg1.N) (Y) (h : (rd1 c A).Finds 1 t Y) : ∃ d, Y = blkAt c A 1 t d :=
  (rd1 c A).finds_in_eq_fetched 1 rfl (fun _ _ _ => rfl) (fun t Y X h => keep1 c A 1 (by decide) t Y X h) t Y h
theorem finds1_2 (t : Fin cfg1.N) (Y) (h : (rd1 c A).Finds 2 t Y) : ∃ d, Y = blkAt c A 2 t d := ((rd1 c A).finds_of_fetch (fetch1_2 t) Y).mp h
theorem finds1_3 (t : Fin cfg1.N) (Y) (h : (rd1 c A).Finds 3 t Y) : ∃ d, Y = blkAt c A 3 t d := ((rd1 c A).finds_of_fetch (fetch1_3 t) Y).mp h
theorem finds1_4 (t : Fin cfg1.N) (Y) (h : (rd1 c A).Finds 4 t Y) : ∃ d, Y = blkAt c A 4 t d := ((rd1 c A).finds_of_fetch (fetch1_4 t) Y).mp h

/-- What the call keeps between its points. -/
theorem phi1 (t : Fin (cfg1.N + 1)) : (rd1 c A).Φ t = iprop(∃ s, ⌜Reach c A t.val s⌝ ∗ scratch c s ∗ others c) := rfl

set_option maxHeartbeats 4000000 in
set_option backward.isDefEq.respectTransparency.types false in
/-- The body's obligation at every point. -/
theorem obligation1 : (rd1 c A).BodyObligation (defs₀ (F := F)) Variants.none () Set.univ := by
  intro t Y hY
  have hin : InAt c A t ⟨Y 0, Y 1, Y 2, Y 3, Y 4⟩ := ⟨finds1_0 c A t _ (hY 0), finds1_1 c A t _ (hY 1), finds1_2 c A t _ (hY 2), finds1_3 c A t _ (hY 3), finds1_4 c A t _ (hY 4)⟩
  rw [bigSep_W1 (fun w => owns (c : Thread nD τ) ((cfg1.win w).stage (cfg1.slots t w)) fullShare (Y w)),
    bigSep_W1 (fun w => iprop(∃ X, ⌜(rd1 c A).after w t (Y w) X⌝ ∗ owns (c : Thread nD τ) ((cfg1.win w).stage (cfg1.slots t w)) fullShare X))]
  rw [phi1 c A t.castSucc, phi1 c A t.succ]
  iintro ⟨⟨%s, %hs, Hsc, Hoth⟩, HO, ⟨H0, H1, H2, H3, H4, H5, H6, H7, H8, H9, H10⟩⟩
  unfold scratch
  icases Hsc with ⟨S0, S1, S2, S3, S4⟩
  have hat : At c A t s ⟨Y 0, Y 1, Y 2, Y 3, Y 4⟩ := ⟨hs, hin⟩
  iapply (body_wp c (grid1.coords t) (first_not_last t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Y 0) (Y 1) (Y 2) (Y 3) (Y 4) (Y 5) (Y 6) (Y 7) (Y 8) (Y 9) (Y 10) s Set.univ)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, S0, S1, S2, S3, S4⟩
  isplitl [S0 S1 S2 S3 S4 Hoth]
  · iexists (In.next ⟨Y 0, Y 1, Y 2, Y 3, Y 4⟩ (grid1.coords t) s)
    isplitr
    · ipureintro; exact ⟨t.isLt, s, ⟨Y 0, Y 1, Y 2, Y 3, Y 4⟩, hs, hin, rfl⟩
    isplitr [Hoth]
    · isplitl [S0]; · iexact S0
      isplitl [S1]; · iexact S1
      isplitl [S2]; · iexact S2
      isplitl [S3]; · iexact S3
      iexact S4
    iexact Hoth
  isplitl [HO]; · iexact HO
  isplitl [H0]
  · iexists _
    isplitr
    · ipureintro; exact rfl
    iexact H0
  isplitl [H1]
  · iexists _
    isplitr
    · ipureintro; exact rfl
    iexact H1
  isplitl [H2]
  · iexists _
    isplitr
    · ipureintro; exact rfl
    iexact H2
  isplitl [H3]
  · iexists _
    isplitr
    · ipureintro; exact rfl
    iexact H3
  isplitl [H4]
  · iexists _
    isplitr
    · ipureintro; exact rfl
    iexact H4
  isplitl [H5]
  · iexists _
    isplitr
    · ipureintro; exact ⟨s, ⟨Y 0, Y 1, Y 2, Y 3, Y 4⟩, hat, rfl⟩
    iexact H5
  isplitl [H6]
  · iexists _
    isplitr
    · ipureintro; exact ⟨s, ⟨Y 0, Y 1, Y 2, Y 3, Y 4⟩, hat, rfl⟩
    iexact H6
  isplitl [H7]
  · iexists (atLast (grid1.coords t) (k1_pay1 (In.next ⟨Y 0, Y 1, Y 2, Y 3, Y 4⟩ (grid1.coords t) s).l1) (Y 7))
    isplitr
    · ipureintro; exact fun h => ⟨s, ⟨Y 0, Y 1, Y 2, Y 3, Y 4⟩, hat, if_pos h⟩
    iexact H7
  isplitl [H8]
  · iexists (atLast (grid1.coords t) (k1_pay2 (In.next ⟨Y 0, Y 1, Y 2, Y 3, Y 4⟩ (grid1.coords t) s).sq) (Y 8))
    isplitr
    · ipureintro; exact fun h => ⟨s, ⟨Y 0, Y 1, Y 2, Y 3, Y 4⟩, hat, if_pos h⟩
    iexact H8
  isplitl [H9]
  · iexists (atLast (grid1.coords t) (k1_pay5 (In.next ⟨Y 0, Y 1, Y 2, Y 3, Y 4⟩ (grid1.coords t) s).top (VecWindow.window (In.next ⟨Y 0, Y 1, Y 2, Y 3, Y 4⟩ (grid1.coords t) s).rep ![0, 0] S16x50368.size inb_S16x50432_S16x50368_0_0)) (Y 9))
    isplitr
    · ipureintro; exact fun h => ⟨s, ⟨Y 0, Y 1, Y 2, Y 3, Y 4⟩, hat, if_pos h⟩
    iexact H9
  iexists (atLast (grid1.coords t) (k1_pay4 (In.next ⟨Y 0, Y 1, Y 2, Y 3, Y 4⟩ (grid1.coords t) s).top) (Y 10))
  isplitr
  · ipureintro; exact fun h => ⟨s, ⟨Y 0, Y 1, Y 2, Y 3, Y 4⟩, hat, if_pos h⟩
  iexact H10

end Reach

end Cert.KernelIdeal.Vocab

end
-- ==== Proof.Segment.lean ====
/-
  A kernel region over its arrays and tables, for proof data that relates staging contents: entered with every unscoped buffer held
  at a valuation, left with every unscoped buffer held at some valuation that has the arrays at contents they may hold and the rest as it was.
-/
module

public import Idealize.ShloMosaic.Lib.Pipeline.Regions
public import Idealize.ShloMosaic.Lib.Pipeline.Frame
public import Idealize.ShloMosaic.Lib.Pipeline.RegionArraysT

@[expose] public section

noncomputable section

namespace Cert.Segment

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type} [∀ e, Nonempty (Val e)]
variable {Ix : Type} [DecidableEq Ix] {Name : Type} [DecidableEq Name] {U : Type} [URA U] {Lvl : Type} [Preorder Lvl]

local notation "𝕄" => MT nD τ sig Ix Val Name U Lvl

variable {Λ₀ : Idealize.SL.Sem.Labels} {P : Type} [Fintype P]
variable (pcs : P → PCfg sig Λ₀ Val) (a : (p : P) → (pcs p).Adm)
  (rdats : (p : P) → (c : Dev nD) → RDat τ Val Ix Name U Lvl (pin pcs a p) c) (ι : Ix)
  (defs₀ : Defs nD τ sig Val Λ₀) (𝒱₀ : Variants)
  (L : GSem nD τ sig → Finset Ix) (lv : GSem nD τ sig → Ix → Lvl) (p : P)

/-- At the full share, the arrays at contents `G` are held at any valuation that has them at `G`. -/
theorem arrays_held (kit : PLaunchFacts (nD := nD) (τ := τ) pcs p) (c : Dev nD) (hshare : ∀ w, (rdats p c).share w = fullShare)
    (G : (w : Fin (pin pcs a p).W) → Buf Val (((pin pcs a p).win w).arr.view.loc (c.tc : Thread nD τ))) (Wc : Valuation τ sig Val)
    (hG : ∀ w, G w = Wc (Proc.devRef .tc (arrRef (pin pcs a p).spec w))) :
    ((rdats p c).arrays G : sProp 𝕄) = StableHlo.held (c.tc : Thread nD τ) (arrRefs (pcs p).spec) Wc := by
  rw [PerCore.RDat.arrays_eq pcs (fun _ => a) rdats p c kit.arr_whole hshare G]
  unfold StableHlo.held arrRefs
  rw [bigSep_map, show Finset.univ.image (arrRef (pcs p).spec) = Finset.univ.map ⟨arrRef (pcs p).spec, kit.win.arr_inj⟩ from
    (Finset.map_eq_image ⟨arrRef (pcs p).spec, kit.win.arr_inj⟩ Finset.univ).symm, bigSep_map]
  exact bigSep_congr fun w _ => by rw [hG]; rfl

/-- The arrays at contents they may hold are the arrays at some one choice of such contents. -/
theorem arraysAt_exists (c : Dev nD) (n : Nat) :
    ((rdats p c).arraysAt n : sProp 𝕄) ⊢ iprop(∃ A : (w : Fin (pin pcs a p).W) → Buf Val (((pin pcs a p).win w).arr.view.loc (c.tc : Thread nD τ)),
      ⌜∀ w, (rdats p c).ArrAt w n (A w)⌝ ∗ (rdats p c).arrays A) := by
  unfold RDat.arraysAt RDat.arrays
  refine (BI.bigSep_exists_pi Finset.univ _).trans ?_
  iintro ⟨%A, H⟩
  ihave H' := (BI.bigSep_pure_sep Finset.univ (fun w => (rdats p c).ArrAt w n (A w)) _) $$ H
  icases H' with ⟨%hA, H⟩
  iexists A
  isplitr
  · ipureintro; exact fun w => hA w (Finset.mem_univ w)
  iexact H

/-- A valuation that has the arrays at `G` and everything else as `W` has it. -/
theorem exists_valuation {gr Wn : Nat} (spec : Fin Wn → WinSpec sig gr) (hinj : Function.Injective (arrRef spec)) (W : Valuation τ sig Val)
    (G : (w : Fin Wn) → (Proc.devRef (τ := τ) .tc (arrRef spec w)).ty.Contents Val) :
    ∃ V : Valuation τ sig Val, (∀ w, V (Proc.devRef .tc (arrRef spec w)) = G w) ∧ ∀ b, b ∉ arrRefs (τ := τ) spec → V b = W b := by
  classical
  refine ⟨fun b => if h : ∃ w, Proc.devRef (τ := τ) .tc (arrRef spec w) = b then h.choose_spec ▸ G h.choose else W b, fun w => ?_, fun b hb => ?_⟩
  · have h : ∃ w', Proc.devRef (τ := τ) .tc (arrRef spec w') = Proc.devRef (τ := τ) .tc (arrRef spec w) := ⟨w, rfl⟩
    have e : h.choose = w := hinj (Proc.devRef_injective _ h.choose_spec)
    have key : ∀ (w' : Fin Wn) (hw : Proc.devRef (τ := τ) .tc (arrRef spec w') = Proc.devRef (τ := τ) .tc (arrRef spec w)), w' = w → (hw ▸ G w' : (Proc.devRef (τ := τ) .tc (arrRef spec w)).ty.Contents Val) = G w := by
      intro w' hw e; subst e; rfl
    simp only [dif_pos h]
    exact key _ h.choose_spec e
  · have h : ¬∃ w, Proc.devRef (τ := τ) .tc (arrRef spec w) = b := fun ⟨w, hw⟩ =>
      hb (Finset.mem_map.mpr ⟨arrRef spec w, Finset.mem_image.mpr ⟨w, Finset.mem_univ w, rfl⟩, hw⟩)
    simp only [dif_neg h]

/-- What a region may leave: the arrays at contents they may hold after it, everything else as it was. -/
def Left (W : Dev nD → Valuation τ sig Val) (c : Dev nD) (V : Valuation τ sig Val) : Prop :=
  (∀ w, (rdats p c).ArrAt w (pin pcs a p).N (V (Proc.devRef .tc (arrRef (pin pcs a p).spec w)))) ∧ ∀ b, b ∉ arrRefs (τ := τ) (pin pcs a p).spec → V b = W c b

set_option backward.isDefEq.respectTransparency.types false in
/-- The region's record. -/
def seg (kit : PLaunchFacts (nD := nD) (τ := τ) pcs p)
    (hbody : ∀ c, (rdats p c).BodyObligation defs₀ 𝒱₀ ι Set.univ)
    (howed : ∀ c t, (rdats p c).owed t = 0) (hrec : ∀ c, (rdats p c).recorded 0 = Set.univ)
    (hshare : ∀ c w, (rdats p c).share w = fullShare) (W : Dev nD → Valuation τ sig Val)
    (hA : ∀ c w, (rdats p c).A w = W c (Proc.devRef .tc (arrRef (pin pcs a p).spec w)))
    (hT : ∀ c k, (a p).1 k = W c (Proc.devRef .tc ((pcs p).pre.ref k)))
    (hu : ∀ w, (arrRef (pcs p).spec w).isScoped = false)
    (hin : ∀ c, iprop(prefHeld (pcs p).pre c (fun _ => fullShare) (a p).1 ∗ scopedRest (pin pcs a p).spec c) ⊢ (rdats p c).Φ 0)
    (hout : ∀ c, (rdats p c).Φ (Fin.last (pin pcs a p).N) ⊢ iprop(prefHeld (pcs p).pre c (fun _ => fullShare) (a p).1 ∗ scopedRest (pin pcs a p).spec c)) :
    RDat.RegionSeg pcs a rdats ι defs₀ 𝒱₀ L lv p where
  win := kit.to₀.win
  block_pos := kit.to₀.block_pos
  stage_whole := kit.to₀.stage_whole
  K := PEmpty
  osem k := k.elim
  ho := OwnSemFacts.none _
  hbody := hbody
  hwaits c := RDat.hwaits_of_owed_zero pcs a rdats ι L lv p howed c
  pre c := iprop(StableHlo.held (c.tc : Thread nD τ) (ucRefs τ sig) (W c) ∗ ∃ Wd, owes (c : Thread nD τ) (0 : CellTallies nD τ sig Ix) Wd)
  post c := iprop(∃ V, ⌜Left pcs a rdats p W c V⌝ ∗ StableHlo.held (c.tc : Thread nD τ) (ucRefs τ sig) V ∗ ∃ Wd, owes (c : Thread nD τ) (0 : CellTallies nD τ sig Ix) Wd)
  X c := iprop(emp)
  Y c := prefHeld (pcs p).pre c (fun _ => fullShare) (a p).1
  Z c := StableHlo.held (c.tc : Thread nD τ) ((ucRefs τ sig \ arrRefs (pcs p).spec) \ tblRefs (pcs p).pre) (W c)
  hentry c := by
    rw [ownSems0_none, arrays_held pcs a rdats p kit c (hshare c) _ (W c) (hA c), prefHeld_held (pcs p).pre kit.pre.inj c (a p).1 (W c) (hT c),
      StableHlo.held_sub_split (c.tc : Thread nD τ) (arrRefs_sub_ucRefs (pcs p).spec hu) (W c),
      StableHlo.held_sub_split (c.tc : Thread nD τ) (tblRefs_sub_ucRefs_sdiff (pcs p).spec (pcs p).pre kit.pre.unscoped kit.pre.disj) (W c)]
    iintro ⟨⟨⟨Ha, Ht, Hr⟩, HO⟩, -, -⟩
    imodintro
    isplitl [Ha]; · iexact Ha
    isplitl [Ht]; · iexact Ht
    isplitl [HO]
    · unfold RDat.owesAt owesWithin RDat.bound
      rw [howed c 0, hrec c]
      icases HO with ⟨%W, HO⟩; iexists W; isplitr; · ipureintro; exact fun _ _ => Or.inl trivial
      iexact HO
    isplitr; · iempintro
    iexact Hr
  hin c := (show _ ⊢ iprop(prefHeld (pcs p).pre c (fun _ => fullShare) (a p).1 ∗ scopedRest (pin pcs a p).spec c) from by
    iintro ⟨-, Hpf, Hr⟩
    isplitl [Hpf]; · iexact Hpf
    iexact Hr).trans (hin c)
  hout c := (hout c).trans (by
    rw [ownSems0_none]
    iintro ⟨Ht, Hr⟩
    isplitl [Ht]; · iexact Ht
    isplitr; · iempintro
    iexact Hr)
  hexit c := by
    iintro ⟨Ha, HO, Ht, Hr⟩
    ihave Ha' := (arraysAt_exists pcs a rdats p c (pin pcs a p).N) $$ Ha
    icases Ha' with ⟨%A, %hAt, Ha⟩
    obtain ⟨V, hV, hV'⟩ := exists_valuation (τ := τ) (Val := Val) (pin pcs a p).spec kit.win.arr_inj (W c) A
    imodintro
    iexists V
    isplitr
    · ipureintro; exact ⟨fun w => by rw [hV w]; exact hAt w, hV'⟩
    have hT' : ∀ k, (a p).1 k = V (Proc.devRef .tc ((pcs p).pre.ref k)) := fun k => by
      refine (hT c k).trans (hV' _ (Finset.disjoint_left.mp (tblRefs_disjoint_arrRefs (τ := τ) (pcs p).spec (pcs p).pre kit.pre.disj) ?_)).symm
      exact Finset.mem_map.mpr ⟨_, Finset.mem_image.mpr ⟨k, Finset.mem_univ k, rfl⟩, rfl⟩
    rw [StableHlo.held_sub_split (c.tc : Thread nD τ) (arrRefs_sub_ucRefs (pcs p).spec hu) V,
      StableHlo.held_sub_split (c.tc : Thread nD τ) (tblRefs_sub_ucRefs_sdiff (pcs p).spec (pcs p).pre kit.pre.unscoped kit.pre.disj) V,
      ← arrays_held pcs a rdats p kit c (hshare c) A V (fun w => (hV w).symm), ← prefHeld_held (pcs p).pre kit.pre.inj c (a p).1 V hT',
      StableHlo.held_congr (c.tc : Thread nD τ) (V := V) (V' := W c) (fun b hb => hV' b (Finset.mem_sdiff.mp (Finset.mem_sdiff.mp hb).1).2)]
    isplitl [Ha Ht Hr]
    · isplitl [Ha]; · iexact Ha
      isplitl [Ht]; · iexact Ht
      iexact Hr
    unfold RDat.owesAt owesWithin
    rw [howed c (Fin.last _)]
    icases HO with ⟨%W, -, HO⟩; iexists W; iexact HO

end Cert.Segment

end
-- ==== Proof.WholeRun.lean ====
/-
  The whole program's run: what every unscoped buffer may hold at the end, and that the arguments end as launched.
-/
module

public import proofs.«01_k».proof.Proof.TransformExact
public import proofs.«01_k».proof.Proof.VocabRegion
public import proofs.«01_k».proof.Proof.Segment
public import proofs.«01_k».proof.Proof.Gen.KernelIdeal.Regions
public import Idealize.ShloMosaic.Lib.StableHlo.RunHlo
public import Idealize.ShloMosaic.Lib.Pipeline.FrameBody
public import Idealize.ShloMosaic.Lib.Pipeline.Regions

@[expose] public section

set_option maxRecDepth 16384

noncomputable section

namespace Cert.KernelIdeal.Whole

open Cert.KernelIdeal Cert.KernelIdeal.Gen Cert.KernelIdeal.Vocab Cert.Segment
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The table of lengths at launch. -/
abbrev lens : S12.Idx → Elt F .i32 := m (((0 : Dev nD) : Thread nD τ).loc main_arg2)

/-- The first call's table. -/
abbrev adm0 : (pcfg0 (F := F)).Adm := ⟨fun | ⟨0, _⟩ => lens m, trivial⟩

/-- The prefetched table of the first call is the lengths; the second call has none. -/
def adm : (p : Fin 2) → (pcfgs (F := F) p).Adm := fun
  | ⟨0, _⟩ => adm0 m
  | ⟨1, _⟩ => cfg1.toPCfg_adm
  | ⟨_ + 2, h⟩ => absurd h (Nat.not_lt.2 (Nat.le_add_left _ _))

/-- The arrays the first call is entered with. -/
def A0 (c : Dev nD) : Transform.Arrs (adm0 m) c := fun w => V1 m c (Pipeline.arrRef spec0 w)

/-- The unscoped buffers after the first call: its arrays at what its exact data name, the rest as before. -/
theorem exists_W2 (c : Dev nD) : ∃ V : Valuation τ sig (Elt F),
    (∀ w, V (Proc.devRef .tc (Pipeline.arrRef spec0 w)) = (Transform.dat0 (adm0 m) c (A0 m c)).arrAt w (cfg0 (adm0 m)).N) ∧ ∀ b, b ∉ Pipeline.arrRefs (τ := τ) spec0 → V b = V1 m c b :=
  exists_valuation spec0 (launch0 (F := F)).win.arr_inj (V1 m c) (fun w => (Transform.dat0 (adm0 m) c (A0 m c)).arrAt w (cfg0 (adm0 m)).N)
def W2 (c : Dev nD) : Valuation τ sig (Elt F) := Classical.choose (exists_W2 m c)
theorem W2_arr (c : Dev nD) (w) : W2 m c (Proc.devRef .tc (Pipeline.arrRef spec0 w)) = (Transform.dat0 (adm0 m) c (A0 m c)).arrAt w (cfg0 (adm0 m)).N :=
  (Classical.choose_spec (exists_W2 m c)).1 w
theorem W2_rest (c : Dev nD) (b) (h : b ∉ Pipeline.arrRefs (τ := τ) spec0) : W2 m c b = V1 m c b := (Classical.choose_spec (exists_W2 m c)).2 b h

/-- The unscoped buffers when the second call is entered. -/
def W3 (c : Dev nD) : Valuation τ sig (Elt F) := StableHlo.after hostOps1 (W2 m c)

/-- The arrays the second call is entered with. -/
def A1 (c : Dev nD) : Vocab.Arrs (F := F) c := fun w => W3 m c (Pipeline.arrRef spec1 w)

/-- The two calls' proof data. -/
def rdats : (p : Fin 2) → (c : Dev nD) → RDat τ (Elt F) Unit ℕ UU ℕ (Pipeline.pin (pcfgs (F := F)) (adm m) p) c := fun
  | ⟨0, _⟩ => fun c => Transform.rd0 (adm0 m) c (A0 m c)
  | ⟨1, _⟩ => fun c => Vocab.rd1 c (A1 m c)
  | ⟨_ + 2, h⟩ => absurd h (Nat.not_lt.2 (Nat.le_add_left _ _))

abbrev EP : Emb (UR sig nD τ) 𝕄 := embL
abbrev L : GSem nD τ sig → Finset Unit := fun _ => ∅
abbrev lv : GSem nD τ sig → Unit → ℕ := fun _ _ => 0
/-- What rides beside the buffers: the core owes nothing. -/
abbrev R (c : Dev nD) : sProp 𝕄 := iprop(∃ W, owes (c : Thread nD τ) (0 : CellTallies nD τ sig Unit) W)

/-- No window's array is scoped. -/
theorem unscoped0 : ∀ w, (Pipeline.arrRef spec0 w).isScoped = false := by decide
theorem unscoped1 : ∀ w, (Pipeline.arrRef spec1 w).isScoped = false := by decide

/-- The first host stretch leaves the lengths as launched. -/
theorem V1_lens (c : Dev nD) : V1 m c main_arg2 = lens m := by
  obtain rfl : c = 0 := Subsingleton.elim _ _
  exact V1_of m 0 main_arg2 (by decide)

/-- The first call's table is held as its invariant has it. -/
theorem table_owns (c : Dev nD) : (Pipeline.prefHeld pre0 c (fun _ => fullShare) (adm0 m).1 : sProp 𝕄) = iprop(∃ f, ⌜f = lens m⌝ ∗ (((c : Thread nD τ).loc main_arg2) ↦{fullShare} f)) := by
  unfold Pipeline.prefHeld
  rw [show (Finset.univ : Finset (Fin pre0.K)) = {(0 : Fin 1)} from rfl, bigSep_singleton]
  have h1 : ((((c : Thread nD τ).loc main_arg2) ↦{fullShare} (lens m : Buf (Elt F) ((c : Thread nD τ).loc main_arg2)) : sProp 𝕄)) ⊢ iprop(∃ f, ⌜f = lens m⌝ ∗ (((c : Thread nD τ).loc main_arg2) ↦{fullShare} f)) := by
    iintro H
    iexists _
    isplitr; swap; (· iexact H)
    ipureintro; rfl
  have h2 : (iprop(∃ f, ⌜f = lens m⌝ ∗ (((c : Thread nD τ).loc main_arg2) ↦{fullShare} f)) : sProp 𝕄) ⊢ (((c : Thread nD τ).loc main_arg2) ↦{fullShare} (lens m : Buf (Elt F) ((c : Thread nD τ).loc main_arg2)) : sProp 𝕄) := by
    iintro ⟨%f, %hf, H⟩
    subst hf
    iexact H
  exact Entails.antisymm h1 h2

/-- Entering and leaving the first call's invariant. -/
theorem hin0 (c : Dev nD) : iprop(Pipeline.prefHeld pre0 c (fun _ => fullShare) (adm0 m).1 ∗ Pipeline.scopedRest spec0 c) ⊢ (Transform.rd0 (adm0 m) c (A0 m c)).Φ 0 := by
  rw [Transform.phi0, table_owns, owns_whole_eq]
  exact .rfl
theorem hout0 (c : Dev nD) : (Transform.rd0 (adm0 m) c (A0 m c)).Φ (Fin.last (cfg0 (adm0 m)).N) ⊢ iprop(Pipeline.prefHeld pre0 c (fun _ => fullShare) (adm0 m).1 ∗ Pipeline.scopedRest spec0 c) := by
  rw [Transform.phi0, table_owns, owns_whole_eq]
  exact .rfl

set_option backward.isDefEq.respectTransparency.types false in
/-- The first call's segment. -/
def reg0 : Pipeline.RDat.RegionSeg (pcfgs (F := F)) (adm m) (rdats m) () defs₀ Variants.none L lv 0 :=
  seg (pcfgs (F := F)) (adm m) (rdats m) () defs₀ Variants.none L lv 0 launch0
    (fun c => Transform.obligation0 (adm0 m) c (A0 m c)) (fun _ _ => rfl) (fun _ => rfl)
    (fun c w => by show (Transform.rd0 (adm0 m) c (A0 m c)).share w = fullShare; unfold RDat.share; exact ite_self _) (V1 m) (fun _ _ => rfl)
    (fun c k => by
      obtain ⟨n, hn⟩ := k
      obtain rfl : n = 0 := Nat.lt_one_iff.mp hn
      exact (V1_lens m c).symm) unscoped0
    (fun c => hin0 m c) (fun c => hout0 m c)

set_option maxHeartbeats 1000000 in
/-- Entering the second call's invariant: any running values may be. -/
theorem hin1 (c : Dev nD) : iprop(Pipeline.scopedRest (Ix := Unit) (Name := ℕ) (U := UU) (Lvl := ℕ) (Val := Elt F) spec1 c) ⊢ (Vocab.rd1 c (A1 m c)).Φ 0 := by
  rw [Vocab.phi1 c (A1 m c) 0, scopedRest1_eq]
  unfold Vocab.scratch Vocab.others
  simp only [owns_whole_eq]
  iintro ⟨H0, H1, H2, H3, H4, H5, H6, H7, H8, H9, H10, H11, H12, H13, H14, ⟨%f0, S0⟩, ⟨%f1, S1⟩, ⟨%f2, S2⟩, ⟨%f3, S3⟩, ⟨%f4, S4⟩⟩
  iexists (⟨f0, f1, f2, f3, f4⟩ : St F)
  isplitr
  · ipureintro; trivial
  isplitl [S0 S1 S2 S3 S4]
  · isplitl [S0]
    · iexists _; isplitr; swap; (· iexact S0); ipureintro; rfl
    isplitl [S1]
    · iexists _; isplitr; swap; (· iexact S1); ipureintro; rfl
    isplitl [S2]
    · iexists _; isplitr; swap; (· iexact S2); ipureintro; rfl
    isplitl [S3]
    · iexists _; isplitr; swap; (· iexact S3); ipureintro; rfl
    iexists _; isplitr; swap; (· iexact S4); ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 1000000 in
/-- Leaving the second call's invariant. -/
theorem hout1 (c : Dev nD) : (Vocab.rd1 c (A1 m c)).Φ (Fin.last cfg1.N) ⊢ iprop(Pipeline.scopedRest (Ix := Unit) (Name := ℕ) (U := UU) (Lvl := ℕ) (Val := Elt F) spec1 c) := by
  rw [Vocab.phi1 c (A1 m c) (Fin.last cfg1.N), scopedRest1_eq]
  unfold Vocab.scratch Vocab.others
  simp only [owns_whole_eq]
  iintro ⟨%s, -, ⟨⟨%f0, -, S0⟩, ⟨%f1, -, S1⟩, ⟨%f2, -, S2⟩, ⟨%f3, -, S3⟩, ⟨%f4, -, S4⟩⟩, H0, H1, H2, H3, H4, H5, H6, H7, H8, H9, H10, H11, H12, H13, H14⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [S0]; · iexists _; iexact S0
  isplitl [S1]; · iexists _; iexact S1
  isplitl [S2]; · iexists _; iexact S2
  isplitl [S3]; · iexists _; iexact S3
  iexists _; iexact S4

set_option backward.isDefEq.respectTransparency.types false in
/-- The second call's segment. -/
def reg1 : Pipeline.RDat.RegionSeg (pcfgs (F := F)) (adm m) (rdats m) () defs₀ Variants.none L lv 1 :=
  seg (pcfgs (F := F)) (adm m) (rdats m) () defs₀ Variants.none L lv 1 launch1
    (fun c => Vocab.obligation1 c (A1 m c)) (fun _ _ => rfl) (fun _ => rfl)
    (fun c w => by show (Vocab.rd1 c (A1 m c)).share w = fullShare; unfold RDat.share; exact ite_self _) (W3 m) (fun _ _ => rfl)
    (fun c k => k.elim0) unscoped1
    (fun c => (show iprop(_ ∗ Pipeline.scopedRest (Ix := Unit) (Name := ℕ) (U := UU) (Lvl := ℕ) (Val := Elt F) spec1 c) ⊢ iprop(Pipeline.scopedRest (Ix := Unit) (Name := ℕ) (U := UU) (Lvl := ℕ) (Val := Elt F) spec1 c) from by
      iintro ⟨-, H⟩; iexact H).trans (hin1 m c))
    (fun c => (hout1 m c).trans (by
      rw [Pipeline.prefHeld_of_none _ rfl]
      iintro H
      isplitr
      · iempintro
      iexact H))

/-- The host stretches as segments. -/
abbrev host0 : Pipeline.HostSeg (Ix := Unit) (Name := ℕ) (U := UU) (Lvl := ℕ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
abbrev host1 : Pipeline.HostSeg (Ix := Unit) (Name := ℕ) (U := UU) (Lvl := ℕ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) R
abbrev host2 (V : Dev nD → Valuation τ sig (Elt F)) : Pipeline.HostSeg (Ix := Unit) (Name := ℕ) (U := UU) (Lvl := ℕ) (pcfgs (F := F)) defs₀ Variants.none L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) V R

/-- What the second call may leave in the unscoped buffers of core `c`. -/
def LeftBy (c : Dev nD) (V : Valuation τ sig (Elt F)) : Prop :=
  (∀ w, (Vocab.rd1 c (A1 m c)).ArrAt w cfg1.N (V (Proc.devRef .tc (Pipeline.arrRef spec1 w)))) ∧ ∀ b, b ∉ Pipeline.arrRefs (τ := τ) spec1 → V b = W3 m c b

set_option backward.isDefEq.respectTransparency.types false in
/-- The last host stretch, from whatever the second call leaves. -/
def lastHost : Pipeline.HostSeg (Ix := Unit) (Name := ℕ) (U := UU) (Lvl := ℕ) (pcfgs (F := F)) defs₀ Variants.none L lv where
  prog := StableHlo.seq hostOps2
  pre c := iprop(∃ V, ⌜LeftBy m c V⌝ ∗ StableHlo.held (c.tc : Thread nD τ) (Pipeline.ucRefs τ sig) V ∗ R c)
  post c := iprop(∃ V, ⌜LeftBy m c V⌝ ∗ StableHlo.held (c.tc : Thread nD τ) (Pipeline.ucRefs τ sig) (StableHlo.after hostOps2 V) ∗ R c)
  run c {β} k K := by
    iintro ⟨Hk, Hbd, ⟨%V, %hV, Hh, HR⟩, Hl⟩
    have H := (host2 (fun _ => V)).run c k K
    dsimp only [host2, Pipeline.HostSeg.ofOps] at H
    iapply H
    isplitl [Hk]
    · iintro ⟨Hbd, Hh, HR⟩
      iapply Hk
      isplitl [Hbd]; · iexact Hbd
      iexists V
      isplitr; · ipureintro; exact hV
      isplitl [Hh]; · iexact Hh
      iexact HR
    isplitl [Hbd]; · iexact Hbd
    isplitl [Hh HR]
    · isplitl [Hh]; · iexact Hh
      iexact HR
    iexact Hl

/-- What the first call may leave is what its exact data name. -/
theorem left0_eq (c : Dev nD) (V : Valuation τ sig (Elt F)) (h : Left (pcfgs (F := F)) (adm m) (rdats m) 0 (V1 m) c V) (b : DevRef τ sig) : V b = W2 m c b := by
  by_cases hb : b ∈ Pipeline.arrRefs (τ := τ) spec0
  · obtain ⟨r, hr, rfl⟩ := Finset.mem_map.mp hb
    obtain ⟨w, -, rfl⟩ := Finset.mem_image.mp hr
    refine Eq.trans ?_ (W2_arr m c w).symm
    have hw : (Transform.rd0 (adm0 m) c (A0 m c)).ArrAt w (cfg0 (adm0 m)).N (V (Proc.devRef .tc (Pipeline.arrRef spec0 w))) := h.1 w
    by_cases h7 : w.val < 7
    · have hin : ((cfg0 (adm0 m)).win w).isOut = false := by
        clear hw hr hb
        have : ∀ w : Fin 11, w.val < 7 → (spec0 w).isOut = false := by decide
        exact this w h7
      have e1 : (V (Proc.devRef .tc (Pipeline.arrRef spec0 w))) = (Transform.rd0 (adm0 m) c (A0 m c)).A w := by
        have := (Transform.rd0 (adm0 m) c (A0 m c)).ArrAt_in w hin (cfg0 (adm0 m)).N
        exact (congrFun this _).mp hw
      exact e1.trans ((Transform.dat0 (adm0 m) c (A0 m c)).arrAt_in w hin _).symm
    · exact Transform.arr0_eq (adm0 m) c (A0 m c) w (by omega) _ hw
  · exact (h.2 b hb).trans (W2_rest m c b hb).symm

/-- A buffer the first call does not write. -/
theorem W2_of (c : Dev nD) (r : Ref sig .tc) (h : ∀ w, Pipeline.arrRef spec0 w = r → w.val < 7) : W2 m c r = V1 m c r := by
  by_cases hb : Proc.devRef (τ := τ) .tc r ∈ Pipeline.arrRefs (τ := τ) spec0
  · obtain ⟨r', hr, e⟩ := Finset.mem_map.mp hb
    obtain rfl := Proc.devRef_injective _ e
    obtain ⟨w, -, rfl⟩ := Finset.mem_image.mp hr
    have hin : ((cfg0 (adm0 m)).win w).isOut = false := by
      have : ∀ w : Fin 11, w.val < 7 → (spec0 w).isOut = false := by decide
      exact this w (h w rfl)
    exact (W2_arr m c w).trans ((Transform.dat0 (adm0 m) c (A0 m c)).arrAt_in w hin _)
  · exact W2_rest m c _ hb

/-- A buffer the second call does not write. -/
theorem left_of (c : Dev nD) (V : Valuation τ sig (Elt F)) (hV : LeftBy m c V) (r : Ref sig .tc) (h : ∀ w, Pipeline.arrRef spec1 w = r → w.val < 5) : V r = W3 m c r := by
  by_cases hb : Proc.devRef (τ := τ) .tc r ∈ Pipeline.arrRefs (τ := τ) spec1
  · obtain ⟨r', hr, e⟩ := Finset.mem_map.mp hb
    obtain rfl := Proc.devRef_injective _ e
    obtain ⟨w, -, rfl⟩ := Finset.mem_image.mp hr
    have hin : (cfg1.win w).isOut = false := by
      have : ∀ w : Fin 11, w.val < 5 → (spec1 w).isOut = false := by decide
      exact this w (h w rfl)
    exact (congrFun ((Vocab.rd1 c (A1 m c)).ArrAt_in w hin cfg1.N) _).mp (hV.1 w)
  · exact hV.2 _ hb

/-- A buffer no item writes ends as launched. -/
theorem kept (c : Dev nD) (V : Valuation τ sig (Elt F)) (hV : LeftBy m c V) (r : Ref sig .tc) (h0 : r ∉ hostOps0_W) (h1 : ∀ w, Pipeline.arrRef spec0 w = r → w.val < 7) (h2 : r ∉ hostOps1_W)
    (h3 : ∀ w, Pipeline.arrRef spec1 w = r → w.val < 5) (h4 : r ∉ hostOps2_W) : StableHlo.after hostOps2 V r = m ((c : Thread nD τ).loc r) :=
  (StableHlo.after_of_writes_sub hostOps2 _ hostOps2_writes h4).trans <| (left_of m c V hV r h3).trans <|
    (StableHlo.after_of_writes_sub hostOps1 _ hostOps1_writes h2).trans <| (W2_of m c r h1).trans <| (V1_of m c r h0).trans rfl

/-- The first call's end is the second host stretch's start. -/
theorem link0 (c : Dev nD) : (reg0 m).post c ⊢ iprop(StableHlo.held (c.tc : Thread nD τ) (Pipeline.ucRefs τ sig) (W2 m c) ∗ R c) := by
  have h : (iprop(∃ V, ⌜Left (pcfgs (F := F)) (adm m) (rdats m) 0 (V1 m) c V⌝ ∗ StableHlo.held (c.tc : Thread nD τ) (Pipeline.ucRefs τ sig) V ∗ R c) : sProp 𝕄)
      ⊢ iprop(StableHlo.held (c.tc : Thread nD τ) (Pipeline.ucRefs τ sig) (W2 m c) ∗ R c) := by
    iintro ⟨%V, %hV, Hh, HO⟩
    obtain rfl : V = W2 m c := funext fun b => left0_eq m c V hV b
    isplitl [Hh]
    · iexact Hh
    iexact HO
  exact h

/-- The last host stretch's end, regrouped. -/
theorem linkEnd (c : Dev nD) : (lastHost m).post c ⊢ iprop((∃ V, ⌜LeftBy m c V⌝ ∗ StableHlo.held (c.tc : Thread nD τ) (Pipeline.ucRefs τ sig) (StableHlo.after hostOps2 V)) ∗ R c) := by
  have h : (iprop(∃ V, ⌜LeftBy m c V⌝ ∗ StableHlo.held (c.tc : Thread nD τ) (Pipeline.ucRefs τ sig) (StableHlo.after hostOps2 V) ∗ R c) : sProp 𝕄)
      ⊢ iprop((∃ V, ⌜LeftBy m c V⌝ ∗ StableHlo.held (c.tc : Thread nD τ) (Pipeline.ucRefs τ sig) (StableHlo.after hostOps2 V)) ∗ R c) := by
    iintro ⟨%V, %hV, Hh, HO⟩
    isplitl [Hh]
    · iexists V
      isplitr; · ipureintro; exact hV
      iexact Hh
    iexact HO
  exact h

/-- The launch element of the user algebra. -/
def u₀ : UU := (initOf (Pipeline.cells (Pipeline.pin (pcfgs (F := F)) (adm m)) (cellOf_inj (adm m))) (Pipeline.launchToks (Pipeline.pin (pcfgs (F := F)) (adm m)) (cellOf_inj (adm m))), 1)

/-- @main's items as segments. -/
abbrev segs (c : Dev nD) : List (Pipeline.RDat.Seg (pcfgs (F := F)) (adm m) (rdats m) () defs₀ Variants.none L lv) :=
  [.host (host0 m), .region (reg0 m), .host (host1 m), .region (reg1 m), .host (lastHost m)]

set_option backward.isDefEq.respectTransparency.types false in
/-- Every run ends, with every counter at zero and the unscoped buffers at what the last host stretch makes of something the second call may leave. -/
theorem run : θ_run defs (onTc (τ := τ) (main (F := F))) ⟨m, fun _ => 0, ρ⟩ (fun r =>
    (∀ c : Dev nD, ∃ V, LeftBy m c V ∧ ∀ b ∈ Pipeline.ucRefs τ sig, r.2.mem (c, b) = StableHlo.after hostOps2 V b) ∧ r.2.sem = fun _ => 0) := by
  refine Pipeline.RDat.θ_run_regions_kit_dev_sems (pcfgs (F := F)) (adm m) (rdats m) () (cellOf_inj (adm m)) EP defs₀ Variants.none L lv m ρ main
    (segs m)
    (fun c Q => by
      rewrite [main_chain c, Pipeline.RDat.Seg.run_eq_chain,
        show (segs m c).map Pipeline.RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Pipeline.RDat.Seg.pipes_host, Pipeline.RDat.Seg.pipes_region, Pipeline.RDat.Seg.pipes_nil]; decide) (fun _ => 0) (fun _ _ => rfl) (fun _ => iprop(emp)) (u₀ m)
    ?hu
    (fun c => iprop(StableHlo.held (c : Thread nD τ) (Pipeline.ucRefs τ sig) (V0 m c) ∗ R c))
    (fun c => iprop(∃ V, ⌜LeftBy m c V⌝ ∗ StableHlo.held (c.tc : Thread nD τ) (Pipeline.ucRefs τ sig) (StableHlo.after hostOps2 V)))
    (fun c => ⟨.rfl, .rfl, ?h01, .rfl, .rfl, ?hend⟩)
    ?hinit (fun c s => ∃ V, LeftBy m c V ∧ ∀ b ∈ Pipeline.ucRefs τ sig, s.mem (c, b) = StableHlo.after hostOps2 V b)
    (fun c s' => ?hfin) (fun _ h hz => ⟨h, funext fun g => hz g (.inr (regions_no_unscoped g.2))⟩)
  case hu =>
    unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  case h01 => exact link0 m c
  case hend => exact linkEnd m c
  case hinit =>
    refine Pipeline.initEach L lv fun c => ?_
    rw [show unscopedBufs c (fun b => m ((c.tc : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅
    iexact HO
  case hfin =>
    unfold StableHlo.held
    iintro ⟨⟨%V, %hV, Hh⟩, HSI⟩
    ihave Hr := (pointsTo_read_all (Pipeline.ucRefs τ sig) (fun b => ((c : Thread nD τ).1, b)) (StableHlo.after hostOps2 V) s') $$ [Hh HSI]
    · isplitl [Hh] <;> iassumption
    icases Hr with ⟨%h, HSI⟩
    imodintro
    isplitr
    · ipureintro
      exact ⟨V, hV, h⟩
    · iexact HSI

/-- Every run ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  refine θ_run_mono (run m ρ) ?_
  rintro r ⟨h, hs⟩
  refine ⟨fun c => ?_, hs⟩
  obtain ⟨V, hV, hm⟩ := h c
  exact ⟨(hm (Proc.devRef .tc main_arg0) (Finset.mem_filter.mpr ⟨StableHlo.devRef_mem_tcRefs main_arg0, by decide⟩)).trans (kept m c V hV main_arg0 (by decide) (by decide) (by decide) (by decide) (by decide)),
    (hm (Proc.devRef .tc main_arg1) (Finset.mem_filter.mpr ⟨StableHlo.devRef_mem_tcRefs main_arg1, by decide⟩)).trans (kept m c V hV main_arg1 (by decide) (by decide) (by decide) (by decide) (by decide)),
    (hm (Proc.devRef .tc main_arg2) (Finset.mem_filter.mpr ⟨StableHlo.devRef_mem_tcRefs main_arg2, by decide⟩)).trans (kept m c V hV main_arg2 (by decide) (by decide) (by decide) (by decide) (by decide)),
    (hm (Proc.devRef .tc main_arg3) (Finset.mem_filter.mpr ⟨StableHlo.devRef_mem_tcRefs main_arg3, by decide⟩)).trans (kept m c V hV main_arg3 (by decide) (by decide) (by decide) (by decide) (by decide)),
    (hm (Proc.devRef .tc main_arg4) (Finset.mem_filter.mpr ⟨StableHlo.devRef_mem_tcRefs main_arg4, by decide⟩)).trans (kept m c V hV main_arg4 (by decide) (by decide) (by decide) (by decide) (by decide)),
    (hm (Proc.devRef .tc main_arg5) (Finset.mem_filter.mpr ⟨StableHlo.devRef_mem_tcRefs main_arg5, by decide⟩)).trans (kept m c V hV main_arg5 (by decide) (by decide) (by decide) (by decide) (by decide)),
    (hm (Proc.devRef .tc main_arg6) (Finset.mem_filter.mpr ⟨StableHlo.devRef_mem_tcRefs main_arg6, by decide⟩)).trans (kept m c V hV main_arg6 (by decide) (by decide) (by decide) (by decide) (by decide)),
    (hm (Proc.devRef .tc main_arg7) (Finset.mem_filter.mpr ⟨StableHlo.devRef_mem_tcRefs main_arg7, by decide⟩)).trans (kept m c V hV main_arg7 (by decide) (by decide) (by decide) (by decide) (by decide)),
    (hm (Proc.devRef .tc main_arg8) (Finset.mem_filter.mpr ⟨StableHlo.devRef_mem_tcRefs main_arg8, by decide⟩)).trans (kept m c V hV main_arg8 (by decide) (by decide) (by decide) (by decide) (by decide)),
    (hm (Proc.devRef .tc main_arg9) (Finset.mem_filter.mpr ⟨StableHlo.devRef_mem_tcRefs main_arg9, by decide⟩)).trans (kept m c V hV main_arg9 (by decide) (by decide) (by decide) (by decide) (by decide)),
    (hm (Proc.devRef .tc main_arg10) (Finset.mem_filter.mpr ⟨StableHlo.devRef_mem_tcRefs main_arg10, by decide⟩)).trans (kept m c V hV main_arg10 (by decide) (by decide) (by decide) (by decide) (by decide))⟩

end Cert.KernelIdeal.Whole

end
-- ==== Proof.Bits.VocabRun.lean ====
/-
  The vocabulary call's body as printed, run once per case of its two conditions (first point, a point between, last
  point).
-/
module

public import proofs.«01_k».proof.Proof.Gen.Kernel.Launch
public import proofs.«01_k».proof.Proof.Gen.Kernel.Skeleton
public import Idealize.ShloMosaic.Lib.VecWindow
public import Idealize.ShloMosaic.Lib.Tactic

@[expose] public section

set_option maxRecDepth 16384

noncomputable section

namespace Cert.Kernel.Vocab

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [BitOps F]

abbrev UU : Type := UR sig nD τ × Counters
local notation "𝕄" => MT nD τ sig Unit (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body's first condition: the first grid point. -/
abbrev First (i : grid1.Coords) : Prop := Scalar.cmpi .ne (Scalar.extui (Scalar.cmpi .eq (BitVec.ofNat 32 (i 0).val) 0#32) : BitVec 32) 0#32 = 1#1

set_option maxHeartbeats 4000000 in
/-- The body at the first point: what it leaves in each buffer it writes, with the run itself. -/
noncomputable def runFirst (c : Dev nD) (i : grid1.Coords) (M1 : Memref sig .tc .vmem S12x128x1024 .bf16) (h1 : M1.IsWhole) (M2 : Memref sig .tc .vmem S12x128x128 .f32) (h2 : M2.IsWhole) (M3 : Memref sig .tc .vmem S256x512 .i8) (h3 : M3.IsWhole) (M4 : Memref sig .tc .vmem S8x256 .f32) (h4 : M4.IsWhole) (M5 : Memref sig .tc .vmem S1x256 .f32) (h5 : M5.IsWhole) (M6 : Memref sig .tc .vmem S12x256 .f32) (h6 : M6.IsWhole) (M7 : Memref sig .tc .vmem S1x256 .f32) (h7 : M7.IsWhole) (M8 : Memref sig .tc .vmem S12x1 .f32) (h8 : M8.IsWhole) (M9 : Memref sig .tc .vmem S1x1 .f32) (h9 : M9.IsWhole) (M10 : Memref sig .tc .vmem S12x50368 .i8) (h10 : M10.IsWhole) (M11 : Memref sig .tc .vmem S12x1 .f32) (h11 : M11.IsWhole) (M12 : Memref sig .tc .vmem S16x50432 .f32) (h12 : M12.IsWhole) (M13 : Memref sig .tc .vmem S16x256 .f32) (h13 : M13.IsWhole) (M14 : Memref sig .tc .vmem S16x256 .f32) (h14 : M14.IsWhole) (M15 : Memref sig .tc .vmem S16x256 .f32) (h15 : M15.IsWhole) (M16 : Memref sig .tc .vmem S1x256 .f32) (h16 : M16.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (hc1 : First i) (hc2 : ¬k1_cond2 i = 1#1) :
    { W : Bf (F := F) c M6 × Bf (F := F) c M7 × Bf (F := F) c M12 × Bf (F := F) c M13 × Bf (F := F) c M14 × Bf (F := F) c M15 × Bf (F := F) c M16 // ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ (iprop(pt c M1 f1 ∗ pt c M2 f2 ∗ pt c M3 f3 ∗ pt c M4 f4 ∗ pt c M5 f5 ∗ pt c M6 W.1 ∗ pt c M7 W.2.1 ∗ pt c M8 f8 ∗ pt c M9 f9 ∗ pt c M10 f10 ∗ pt c M11 f11 ∗ pt c M12 W.2.2.1 ∗ pt c M13 W.2.2.2.1 ∗ pt c M14 W.2.2.2.2.1 ∗ pt c M15 W.2.2.2.2.2.1 ∗ pt c M16 W.2.2.2.2.2.2) -∗ Q ⟨⟩))
          ⊢ wp frame (wpE (defs₀ (F := F)) Variants.none c none) E (cc1_vocab i M1 h1 M2 h2 M3 h3 M4 h4 M5 h5 M6 h6 M7 h7 M8 h8 M9 h9 M10 h10 M11 h11 M12 h12 M13 h13 M14 h14 M15 h15 M16 h16) Q } := by
  refine ⟨⟨?_, ?_, ?_, ?_, ?_, ?_, ?_⟩, fun E Q => ?run⟩
  case run =>
    simp only [cc1_vocab_eq_skeleton]; unfold cc1_vocab_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton]
    iintro ⟨H1, H2, H3, H4, H5, H6, H7, H8, H9, H10, H11, H12, H13, H14, H15, H16, Hk⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

set_option maxHeartbeats 4000000 in
/-- The body at a point that is neither the first nor the last: what it leaves in each buffer it writes, with the run itself. -/
noncomputable def runMid (c : Dev nD) (i : grid1.Coords) (M1 : Memref sig .tc .vmem S12x128x1024 .bf16) (h1 : M1.IsWhole) (M2 : Memref sig .tc .vmem S12x128x128 .f32) (h2 : M2.IsWhole) (M3 : Memref sig .tc .vmem S256x512 .i8) (h3 : M3.IsWhole) (M4 : Memref sig .tc .vmem S8x256 .f32) (h4 : M4.IsWhole) (M5 : Memref sig .tc .vmem S1x256 .f32) (h5 : M5.IsWhole) (M6 : Memref sig .tc .vmem S12x256 .f32) (h6 : M6.IsWhole) (M7 : Memref sig .tc .vmem S1x256 .f32) (h7 : M7.IsWhole) (M8 : Memref sig .tc .vmem S12x1 .f32) (h8 : M8.IsWhole) (M9 : Memref sig .tc .vmem S1x1 .f32) (h9 : M9.IsWhole) (M10 : Memref sig .tc .vmem S12x50368 .i8) (h10 : M10.IsWhole) (M11 : Memref sig .tc .vmem S12x1 .f32) (h11 : M11.IsWhole) (M12 : Memref sig .tc .vmem S16x50432 .f32) (h12 : M12.IsWhole) (M13 : Memref sig .tc .vmem S16x256 .f32) (h13 : M13.IsWhole) (M14 : Memref sig .tc .vmem S16x256 .f32) (h14 : M14.IsWhole) (M15 : Memref sig .tc .vmem S16x256 .f32) (h15 : M15.IsWhole) (M16 : Memref sig .tc .vmem S1x256 .f32) (h16 : M16.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (hc1 : ¬First i) (hc2 : ¬k1_cond2 i = 1#1) :
    { W : Bf (F := F) c M6 × Bf (F := F) c M7 × Bf (F := F) c M12 × Bf (F := F) c M13 × Bf (F := F) c M14 × Bf (F := F) c M15 × Bf (F := F) c M16 // ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ (iprop(pt c M1 f1 ∗ pt c M2 f2 ∗ pt c M3 f3 ∗ pt c M4 f4 ∗ pt c M5 f5 ∗ pt c M6 W.1 ∗ pt c M7 W.2.1 ∗ pt c M8 f8 ∗ pt c M9 f9 ∗ pt c M10 f10 ∗ pt c M11 f11 ∗ pt c M12 W.2.2.1 ∗ pt c M13 W.2.2.2.1 ∗ pt c M14 W.2.2.2.2.1 ∗ pt c M15 W.2.2.2.2.2.1 ∗ pt c M16 W.2.2.2.2.2.2) -∗ Q ⟨⟩))
          ⊢ wp frame (wpE (defs₀ (F := F)) Variants.none c none) E (cc1_vocab i M1 h1 M2 h2 M3 h3 M4 h4 M5 h5 M6 h6 M7 h7 M8 h8 M9 h9 M10 h10 M11 h11 M12 h12 M13 h13 M14 h14 M15 h15 M16 h16) Q } := by
  refine ⟨⟨?_, ?_, ?_, ?_, ?_, ?_, ?_⟩, fun E Q => ?run⟩
  case run =>
    simp only [cc1_vocab_eq_skeleton]; unfold cc1_vocab_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton]
    iintro ⟨H1, H2, H3, H4, H5, H6, H7, H8, H9, H10, H11, H12, H13, H14, H15, H16, Hk⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

set_option maxHeartbeats 4000000 in
/-- The body at the last point: what it leaves in each buffer it writes, with the run itself. -/
noncomputable def runLast (c : Dev nD) (i : grid1.Coords) (M1 : Memref sig .tc .vmem S12x128x1024 .bf16) (h1 : M1.IsWhole) (M2 : Memref sig .tc .vmem S12x128x128 .f32) (h2 : M2.IsWhole) (M3 : Memref sig .tc .vmem S256x512 .i8) (h3 : M3.IsWhole) (M4 : Memref sig .tc .vmem S8x256 .f32) (h4 : M4.IsWhole) (M5 : Memref sig .tc .vmem S1x256 .f32) (h5 : M5.IsWhole) (M6 : Memref sig .tc .vmem S12x256 .f32) (h6 : M6.IsWhole) (M7 : Memref sig .tc .vmem S1x256 .f32) (h7 : M7.IsWhole) (M8 : Memref sig .tc .vmem S12x1 .f32) (h8 : M8.IsWhole) (M9 : Memref sig .tc .vmem S1x1 .f32) (h9 : M9.IsWhole) (M10 : Memref sig .tc .vmem S12x50368 .i8) (h10 : M10.IsWhole) (M11 : Memref sig .tc .vmem S12x1 .f32) (h11 : M11.IsWhole) (M12 : Memref sig .tc .vmem S16x50432 .f32) (h12 : M12.IsWhole) (M13 : Memref sig .tc .vmem S16x256 .f32) (h13 : M13.IsWhole) (M14 : Memref sig .tc .vmem S16x256 .f32) (h14 : M14.IsWhole) (M15 : Memref sig .tc .vmem S16x256 .f32) (h15 : M15.IsWhole) (M16 : Memref sig .tc .vmem S1x256 .f32) (h16 : M16.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (hc1 : ¬First i) (hc2 : k1_cond2 i = 1#1) :
    { W : Bf (F := F) c M6 × Bf (F := F) c M7 × Bf (F := F) c M8 × Bf (F := F) c M9 × Bf (F := F) c M10 × Bf (F := F) c M11 × Bf (F := F) c M12 × Bf (F := F) c M13 × Bf (F := F) c M14 × Bf (F := F) c M15 × Bf (F := F) c M16 // ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ (iprop(pt c M1 f1 ∗ pt c M2 f2 ∗ pt c M3 f3 ∗ pt c M4 f4 ∗ pt c M5 f5 ∗ pt c M6 W.1 ∗ pt c M7 W.2.1 ∗ pt c M8 W.2.2.1 ∗ pt c M9 W.2.2.2.1 ∗ pt c M10 W.2.2.2.2.1 ∗ pt c M11 W.2.2.2.2.2.1 ∗ pt c M12 W.2.2.2.2.2.2.1 ∗ pt c M13 W.2.2.2.2.2.2.2.1 ∗ pt c M14 W.2.2.2.2.2.2.2.2.1 ∗ pt c M15 W.2.2.2.2.2.2.2.2.2.1 ∗ pt c M16 W.2.2.2.2.2.2.2.2.2.2) -∗ Q ⟨⟩))
          ⊢ wp frame (wpE (defs₀ (F := F)) Variants.none c none) E (cc1_vocab i M1 h1 M2 h2 M3 h3 M4 h4 M5 h5 M6 h6 M7 h7 M8 h8 M9 h9 M10 h10 M11 h11 M12 h12 M13 h13 M14 h14 M15 h15 M16 h16) Q } := by
  refine ⟨⟨?_, ?_, ?_, ?_, ?_, ?_, ?_, ?_, ?_, ?_, ?_⟩, fun E Q => ?run⟩
  case run =>
    simp only [cc1_vocab_eq_skeleton]; unfold cc1_vocab_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton]
    iintro ⟨H1, H2, H3, H4, H5, H6, H7, H8, H9, H10, H11, H12, H13, H14, H15, H16, Hk⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

theorem read_writes_put {s : Shape} {e : EltTy} {κ : Kind} {sp : Space} (v : View sig κ sp s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

end Cert.Kernel.Vocab

end
-- ==== Proof.Bits.TransformRun.lean ====
/-
  The transform call's body: what it computes from the blocks it finds, its run, and what the run leaves in the buffers.
-/
module

public import proofs.«01_k».proof.Proof.Gen.Kernel.Launch
public import proofs.«01_k».proof.Proof.Gen.Kernel.Skeleton
public import proofs.«01_k».proof.Proof.Bits.VocabRun
public import Idealize.ShloMosaic.Lib.VecWindow
public import Idealize.ShloMosaic.Lib.Tactic

@[expose] public section

set_option maxRecDepth 16384

noncomputable section

namespace Cert.Kernel.Transform

open Cert.Kernel Cert.Kernel.Gen Cert.Kernel.Vocab
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [BitOps F]

local notation "𝕄" => MT nD τ sig Unit (Elt F) ℕ UU ℕ

/-- The blocks that the body finds at a point, and the document's length. -/
structure TIn (F : FTy → Type) where
  len : Elt F .i32
  x : Vec F S1x128x1024 .fp8e4m3
  xs : Vec F S1x128 .f32
  w : Vec F S1024x1024 .fp8e4m3
  ws : Vec F S1x1024 .f32
  bt : Vec F S1x1024 .f32
  gamma : Vec F S1x1024 .f32
  beta : Vec F S1x1024 .f32

namespace TIn
variable (b : TIn F)
/-- The activations less their mean. -/
def centred : FVec F S128x1024 .f32 := k0_pay4 b.xs b.x b.w b.ws b.bt
/-- Their sums of squares. -/
def sumSq : FVec F S128x1 .f32 := k0_pay5 b.xs b.x b.w b.ws b.bt
/-- The codes, as the products read them. -/
def codes : FVec F S128x1024 .fp8e4m3 := k0_pay8 b.centred b.sumSq b.gamma b.beta
/-- The block of codes. -/
def codesBlk : FVec F S1x128x1024 .fp8e4m3 := k0_pay9 b.centred b.sumSq b.gamma b.beta
/-- The row of scales. -/
def scaleRow : FVec F S1x128 .f32 := k0_pay11 b.centred b.sumSq b.gamma b.beta
/-- The block of scales of the vocabulary call. -/
def zsBlk : FVec F S1x128x128 .f32 := k0_pay15 (k0_pay10 b.centred b.sumSq b.gamma b.beta) (k0_pay13 b.centred b.sumSq b.gamma b.beta) (k0_pay14 b.len)
/-- The block of codes of the vocabulary call, its four tiles of channels put one after the other. -/
def zBlk : S1x128x1024.Idx → Elt F .bf16 :=
  VecWindow.put (VecWindow.put (VecWindow.put (VecWindow.put (fun _ => k0_pay17 b.codes (k0_pay12 b.len) (Shape.Idx.first h_S1x128x256)) ![0, 0, 0] S1x128x256.size (k0_pay17 b.codes (k0_pay12 b.len))) ![0, 0, 256] S1x128x256.size (k0_pay1 (k0_pay18 b.codes (k0_pay12 b.len)))) ![0, 0, 512] S1x128x256.size (k0_pay2 b.codes (k0_pay12 b.len) k0_pay16)) ![0, 0, 768] S1x128x256.size (k0_pay3 b.codes (k0_pay12 b.len) k0_pay16)
end TIn

/-- The blocks the body reads, of what the table and the first seven windows hold. -/
def tin (i : grid0.Coords) (X1 : S12.Idx → Elt F .i32) (X2 : S1x128x1024.Idx → Elt F .fp8e4m3) (X3 : S12x128.Idx → Elt F .f32) (X4 : S1024x1024.Idx → Elt F .fp8e4m3) (X5 X6 X7 X8 : S1x1024.Idx → Elt F .f32) : TIn F :=
  ⟨VecWindow.window X1 (k0_off1 i) S1.size (k0_off1_inb i) (Shape.Idx.first (numel1_S1.symm ▸ Nat.one_pos)), X2, VecWindow.window X3 (k0_off2 i) S1x128.size (k0_off2_inb i), X4, X5, X6, X7, X8⟩

/-- Four tiles that cover a block of channels hide what was there before. -/
theorem tiles_cover {α : Type} (y y' : S1x128x1024.Idx → α) (w0 w1 w2 w3 : S1x128x256.Idx → α) :
    VecWindow.put (VecWindow.put (VecWindow.put (VecWindow.put y ![0, 0, 0] S1x128x256.size w0) ![0, 0, 256] S1x128x256.size w1) ![0, 0, 512] S1x128x256.size w2) ![0, 0, 768] S1x128x256.size w3
      = VecWindow.put (VecWindow.put (VecWindow.put (VecWindow.put y' ![0, 0, 0] S1x128x256.size w0) ![0, 0, 256] S1x128x256.size w1) ![0, 0, 512] S1x128x256.size w2) ![0, 0, 768] S1x128x256.size w3 := by
  funext j
  have h0 : (j 0).val < 1 := (j 0).isLt
  have h1 : (j 1).val < 128 := (j 1).isLt
  have h2 : (j 2).val < 1024 := (j 2).isLt
  have key : ∀ o : ℕ, (∀ a : Fin 3, (![0, 0, o] : Fin 3 → ℕ) a ≤ (j a).val ∧ (j a).val < (![0, 0, o] : Fin 3 → ℕ) a + S1x128x256.size a) ↔ o ≤ (j 2).val ∧ (j 2).val < o + 256 := fun o => by
    constructor
    · intro h; exact h 2
    · intro h a
      match a with
      | 0 => exact ⟨Nat.zero_le _, by show (j 0).val < 0 + 1; omega⟩
      | 1 => exact ⟨Nat.zero_le _, by show (j 1).val < 0 + 128; omega⟩
      | 2 => exact h
  unfold VecWindow.put
  split
  · rfl
  · split
    · rfl
    · split
      · rfl
      · split
        · rfl
        · rename_i a3 a2 a1 a0
          rw [key] at a0 a1 a2 a3; omega

set_option maxHeartbeats 4000000 in
/-- The body's run, with what it leaves in each buffer it writes. -/
noncomputable def runT (c : Dev nD) (i : grid0.Coords) (M1 : Memref sig .tc .smem S12 .i32) (h1 : M1.IsWhole) (M2 : Memref sig .tc .vmem S1x128x1024 .fp8e4m3) (h2 : M2.IsWhole) (M3 : Memref sig .tc .vmem S12x128 .f32) (h3 : M3.IsWhole) (M4 : Memref sig .tc .vmem S1024x1024 .fp8e4m3) (h4 : M4.IsWhole) (M5 : Memref sig .tc .vmem S1x1024 .f32) (h5 : M5.IsWhole) (M6 : Memref sig .tc .vmem S1x1024 .f32) (h6 : M6.IsWhole) (M7 : Memref sig .tc .vmem S1x1024 .f32) (h7 : M7.IsWhole) (M8 : Memref sig .tc .vmem S1x1024 .f32) (h8 : M8.IsWhole) (M9 : Memref sig .tc .vmem S1x128x1024 .fp8e4m3) (h9 : M9.IsWhole) (M10 : Memref sig .tc .vmem S12x128 .f32) (h10 : M10.IsWhole) (M11 : Memref sig .tc .vmem S1x128x1024 .bf16) (h11 : M11.IsWhole) (M12 : Memref sig .tc .vmem S1x128x128 .f32) (h12 : M12.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) :
    { W : Bf (F := F) c M9 × Bf (F := F) c M10 × Bf (F := F) c M11 × Bf (F := F) c M12 // ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ (iprop(pt c M1 f1 ∗ pt c M2 f2 ∗ pt c M3 f3 ∗ pt c M4 f4 ∗ pt c M5 f5 ∗ pt c M6 f6 ∗ pt c M7 f7 ∗ pt c M8 f8 ∗ pt c M9 W.1 ∗ pt c M10 W.2.1 ∗ pt c M11 W.2.2.1 ∗ pt c M12 W.2.2.2) -∗ Q ⟨⟩))
          ⊢ wp frame (wpE (defs₀ (F := F)) Variants.none c none) E (cc0_transform i M1 h1 M2 h2 M3 h3 M4 h4 M5 h5 M6 h6 M7 h7 M8 h8 M9 h9 M10 h10 M11 h11 M12 h12) Q } := by
  refine ⟨⟨?_, ?_, ?_, ?_⟩, fun E Q => ?run⟩
  case run =>
    simp only [cc0_transform_eq_skeleton]; unfold cc0_transform_skel
    simp only [k0_part1_eq_skeleton, k0_part2_eq_skeleton, k0_part3_eq_skeleton]
    iintro ⟨H1, H2, H3, H4, H5, H6, H7, H8, H9, H10, H11, H12, Hk⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

section Reads

variable (c : Dev nD) (i : grid0.Coords) (M1 : Memref sig .tc .smem S12 .i32) (h1 : M1.IsWhole) (M2 : Memref sig .tc .vmem S1x128x1024 .fp8e4m3) (h2 : M2.IsWhole) (M3 : Memref sig .tc .vmem S12x128 .f32) (h3 : M3.IsWhole) (M4 : Memref sig .tc .vmem S1024x1024 .fp8e4m3) (h4 : M4.IsWhole) (M5 : Memref sig .tc .vmem S1x1024 .f32) (h5 : M5.IsWhole) (M6 : Memref sig .tc .vmem S1x1024 .f32) (h6 : M6.IsWhole) (M7 : Memref sig .tc .vmem S1x1024 .f32) (h7 : M7.IsWhole) (M8 : Memref sig .tc .vmem S1x1024 .f32) (h8 : M8.IsWhole) (M9 : Memref sig .tc .vmem S1x128x1024 .fp8e4m3) (h9 : M9.IsWhole) (M10 : Memref sig .tc .vmem S12x128 .f32) (h10 : M10.IsWhole) (M11 : Memref sig .tc .vmem S1x128x1024 .bf16) (h11 : M11.IsWhole) (M12 : Memref sig .tc .vmem S1x128x128 .f32) (h12 : M12.IsWhole)
  (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12)

theorem runT_r : runT.sl.r c i M1 f1 = (tin i (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)).len := rfl
theorem runT_r1 : runT.sl.r_1 c i M2 M3 M4 M5 M6 f2 f3 f4 f5 f6 = (tin i (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)).centred := by
  unfold runT.sl.r_1; rw [View.readAt_full M2.view f2, View.readAt_full M4.view f4, View.readAt_full M5.view f5, View.readAt_full M6.view f6]; rfl
theorem runT_r2 : runT.sl.r_2 c i M2 M3 M4 M5 M6 f2 f3 f4 f5 f6 = (tin i (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)).sumSq := by
  unfold runT.sl.r_2; rw [View.readAt_full M2.view f2, View.readAt_full M4.view f4, View.readAt_full M5.view f5, View.readAt_full M6.view f6]; rfl
theorem runT_r3 : runT.sl.r_3 c i M2 M3 M4 M5 M6 M7 M8 f2 f3 f4 f5 f6 f7 f8 = (tin i (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)).codes := by
  unfold runT.sl.r_3; rw [runT_r1 c i M1 M2 M3 M4 M5 M6 M7 M8 f1 f2 f3 f4 f5 f6 f7 f8, runT_r2 c i M1 M2 M3 M4 M5 M6 M7 M8 f1 f2 f3 f4 f5 f6 f7 f8, View.readAt_full M7.view f7, View.readAt_full M8.view f8]; rfl
theorem runT_9 : M9.view.read (Elt F) (runT c i M1 h1 M2 h2 M3 h3 M4 h4 M5 h5 M6 h6 M7 h7 M8 h8 M9 h9 M10 h10 M11 h11 M12 h12 f1 f2 f3 f4 f5 f6 f7 f8 f9 f10 f11 f12).1.1 = (tin i (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)).codesBlk := by
  unfold runT; dsimp only; unfold runT.sl.H9_1; rw [View.read_writes_full, runT_r1 c i M1 M2 M3 M4 M5 M6 M7 M8 f1 f2 f3 f4 f5 f6 f7 f8, runT_r2 c i M1 M2 M3 M4 M5 M6 M7 M8 f1 f2 f3 f4 f5 f6 f7 f8, View.readAt_full M7.view f7, View.readAt_full M8.view f8]; rfl
theorem runT_10 : M10.view.read (Elt F) (runT c i M1 h1 M2 h2 M3 h3 M4 h4 M5 h5 M6 h6 M7 h7 M8 h8 M9 h9 M10 h10 M11 h11 M12 h12 f1 f2 f3 f4 f5 f6 f7 f8 f9 f10 f11 f12).1.2.1 = VecWindow.put (M10.view.read (Elt F) f10) (k0_off2 i) S1x128.size (tin i (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)).scaleRow := by
  unfold runT; dsimp only; rw [read_writes_put, View.writes_nil, runT_r1 c i M1 M2 M3 M4 M5 M6 M7 M8 f1 f2 f3 f4 f5 f6 f7 f8, runT_r2 c i M1 M2 M3 M4 M5 M6 M7 M8 f1 f2 f3 f4 f5 f6 f7 f8, View.readAt_full M7.view f7, View.readAt_full M8.view f8]; rfl
theorem runT_12 : M12.view.read (Elt F) (runT c i M1 h1 M2 h2 M3 h3 M4 h4 M5 h5 M6 h6 M7 h7 M8 h8 M9 h9 M10 h10 M11 h11 M12 h12 f1 f2 f3 f4 f5 f6 f7 f8 f9 f10 f11 f12).1.2.2.2 = (tin i (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)).zsBlk := by
  unfold runT; dsimp only; unfold runT.sl.H12_1 runT.sl.r_4 runT.sl.r_6; rw [View.read_writes_full, runT_r1 c i M1 M2 M3 M4 M5 M6 M7 M8 f1 f2 f3 f4 f5 f6 f7 f8, runT_r2 c i M1 M2 M3 M4 M5 M6 M7 M8 f1 f2 f3 f4 f5 f6 f7 f8, View.readAt_full M7.view f7, View.readAt_full M8.view f8]; rfl
theorem runT_11 : M11.view.read (Elt F) (runT c i M1 h1 M2 h2 M3 h3 M4 h4 M5 h5 M6 h6 M7 h7 M8 h8 M9 h9 M10 h10 M11 h11 M12 h12 f1 f2 f3 f4 f5 f6 f7 f8 f9 f10 f11 f12).1.2.2.1 = (tin i (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)).zBlk := by
  unfold runT; dsimp only; unfold runT.sl.H11_4 runT.sl.r_8; rw [read_writes_put, read_writes_put, read_writes_put, read_writes_put, View.writes_nil, runT_r3 c i M1 M2 M3 M4 M5 M6 M7 M8 f1 f2 f3 f4 f5 f6 f7 f8]; exact tiles_cover _ _ _ _ _ _

end Reads

/-- A whole buffer owned at contents `X` is its points-to at some raw contents that read as `X`. -/
theorem owns_pt' (c : Dev nD) {sp : Space} {S : Shape} {e : EltTy} {M : Memref sig .tc sp S e} (h : M.IsWhole) (X : S.Idx → Elt F e) :
    (owns (c : Thread nD τ) M fullShare X : sProp 𝕄) = iprop(∃ f, ⌜M.view.read (Elt F) f = X⌝ ∗ pt c M f) := by
  unfold owns pt; rw [h.set_eq_univ]

set_option maxHeartbeats 4000000 in
/-- The body at any point: from the table and the windows at `X1 … X12`, to the four results at their values. -/
theorem transform_wp (c : Dev nD) (i : grid0.Coords) (M1 : Memref sig .tc .smem S12 .i32) (h1 : M1.IsWhole) (M2 : Memref sig .tc .vmem S1x128x1024 .fp8e4m3) (h2 : M2.IsWhole) (M3 : Memref sig .tc .vmem S12x128 .f32) (h3 : M3.IsWhole) (M4 : Memref sig .tc .vmem S1024x1024 .fp8e4m3) (h4 : M4.IsWhole) (M5 : Memref sig .tc .vmem S1x1024 .f32) (h5 : M5.IsWhole) (M6 : Memref sig .tc .vmem S1x1024 .f32) (h6 : M6.IsWhole) (M7 : Memref sig .tc .vmem S1x1024 .f32) (h7 : M7.IsWhole) (M8 : Memref sig .tc .vmem S1x1024 .f32) (h8 : M8.IsWhole) (M9 : Memref sig .tc .vmem S1x128x1024 .fp8e4m3) (h9 : M9.IsWhole) (M10 : Memref sig .tc .vmem S12x128 .f32) (h10 : M10.IsWhole) (M11 : Memref sig .tc .vmem S1x128x1024 .bf16) (h11 : M11.IsWhole) (M12 : Memref sig .tc .vmem S1x128x128 .f32) (h12 : M12.IsWhole)
    (X1 : S12.Idx → Elt F .i32) (X2 : S1x128x1024.Idx → Elt F .fp8e4m3) (X3 : S12x128.Idx → Elt F .f32) (X4 : S1024x1024.Idx → Elt F .fp8e4m3) (X5 : S1x1024.Idx → Elt F .f32) (X6 : S1x1024.Idx → Elt F .f32) (X7 : S1x1024.Idx → Elt F .f32) (X8 : S1x1024.Idx → Elt F .f32) (X9 : S1x128x1024.Idx → Elt F .fp8e4m3) (X10 : S12x128.Idx → Elt F .f32) (X11 : S1x128x1024.Idx → Elt F .bf16) (X12 : S1x128x128.Idx → Elt F .f32) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare (tin i X1 X2 X3 X4 X5 X6 X7 X8).codesBlk ∗ owns (c : Thread nD τ) M10 fullShare (VecWindow.put X10 (k0_off2 i) S1x128.size (tin i X1 X2 X3 X4 X5 X6 X7 X8).scaleRow) ∗ owns (c : Thread nD τ) M11 fullShare (tin i X1 X2 X3 X4 X5 X6 X7 X8).zBlk ∗ owns (c : Thread nD τ) M12 fullShare (tin i X1 X2 X3 X4 X5 X6 X7 X8).zsBlk) -∗ Q ⟨⟩))
      ⊢ wp frame (wpE (defs₀ (F := F)) Variants.none c none) E (cc0_transform i M1 h1 M2 h2 M3 h3 M4 h4 M5 h5 M6 h6 M7 h7 M8 h8 M9 h9 M10 h10 M11 h11 M12 h12) Q := by
  simp only [owns_pt' c h1, owns_pt' c h2, owns_pt' c h3, owns_pt' c h4, owns_pt' c h5, owns_pt' c h6, owns_pt' c h7, owns_pt' c h8, owns_pt' c h9, owns_pt' c h10, owns_pt' c h11, owns_pt' c h12]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, Hk⟩
  subst e1 e2 e3 e4 e5 e6 e7 e8 e9 e10 e11 e12
  iapply (runT c i M1 h1 M2 h2 M3 h3 M4 h4 M5 h5 M6 h6 M7 h7 M8 h8 M9 h9 M10 h10 M11 h11 M12 h12 f1 f2 f3 f4 f5 f6 f7 f8 f9 f10 f11 f12).2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  iapply Hk
  isplitl [H1]
  · iexists _; isplitr [H1]
    · ipureintro; rfl
    · iexact H1
  isplitl [H2]
  · iexists _; isplitr [H2]
    · ipureintro; rfl
    · iexact H2
  isplitl [H3]
  · iexists _; isplitr [H3]
    · ipureintro; rfl
    · iexact H3
  isplitl [H4]
  · iexists _; isplitr [H4]
    · ipureintro; rfl
    · iexact H4
  isplitl [H5]
  · iexists _; isplitr [H5]
    · ipureintro; rfl
    · iexact H5
  isplitl [H6]
  · iexists _; isplitr [H6]
    · ipureintro; rfl
    · iexact H6
  isplitl [H7]
  · iexists _; isplitr [H7]
    · ipureintro; rfl
    · iexact H7
  isplitl [H8]
  · iexists _; isplitr [H8]
    · ipureintro; rfl
    · iexact H8
  isplitl [H9]
  · iexists _; isplitr [H9]
    · ipureintro; exact runT_9 c i M1 h1 M2 h2 M3 h3 M4 h4 M5 h5 M6 h6 M7 h7 M8 h8 M9 h9 M10 h10 M11 h11 M12 h12 f1 f2 f3 f4 f5 f6 f7 f8 f9 f10 f11 f12
    · iexact H9
  isplitl [H10]
  · iexists _; isplitr [H10]
    · ipureintro; exact runT_10 c i M1 h1 M2 h2 M3 h3 M4 h4 M5 h5 M6 h6 M7 h7 M8 h8 M9 h9 M10 h10 M11 h11 M12 h12 f1 f2 f3 f4 f5 f6 f7 f8 f9 f10 f11 f12
    · iexact H10
  isplitl [H11]
  · iexists _; isplitr [H11]
    · ipureintro; exact runT_11 c i M1 h1 M2 h2 M3 h3 M4 h4 M5 h5 M6 h6 M7 h7 M8 h8 M9 h9 M10 h10 M11 h11 M12 h12 f1 f2 f3 f4 f5 f6 f7 f8 f9 f10 f11 f12
    · iexact H11
  iexists _; isplitr [H12]
  · ipureintro; exact runT_12 c i M1 h1 M2 h2 M3 h3 M4 h4 M5 h5 M6 h6 M7 h7 M8 h8 M9 h9 M10 h10 M11 h11 M12 h12 f1 f2 f3 f4 f5 f6 f7 f8 f9 f10 f11 f12
  · iexact H12

end Cert.Kernel.Transform
-- ==== Proof.Bits.TransformRegion.lean ====
/-
  The transform call's region: what each grid point computes from the arrays and the table, and the body's obligation.
-/
module

public import proofs.«01_k».proof.Proof.Bits.TransformRun
public import Idealize.ShloMosaic.Lib.Pipeline.FrameBody
public import Idealize.ShloMosaic.Lib.Pipeline.Regions

@[expose] public section

set_option maxRecDepth 16384

noncomputable section

namespace Cert.Kernel.Transform

open Cert.Kernel Cert.Kernel.Gen Cert.Kernel.Vocab
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [BitOps F]

local notation "𝕄" => MT nD τ sig Unit (Elt F) ℕ UU ℕ

/-- Point `t` of the grid is document `t`. -/
theorem coords_val : ∀ t : Fin grid0.N, ((grid0.coords t) 0).val = t.val := by decide +kernel

/-- The arrays the call's windows name, on core `c`. -/
abbrev Arrs (a : (pcfg0 (F := F)).Adm) (c : Dev nD) : Type := (w : Fin (cfg0 a).W) → Buf (Elt F) (((cfg0 a).win w).arr.view.loc (c.tc : Thread nD τ))

variable (a : (pcfg0 (F := F)).Adm) (c : Dev nD) (A : Arrs a c)

/-- The table of lengths. -/
abbrev tbl : S12.Idx → Elt F .i32 := a.1 0

/-- Window `w`'s block at point `t`. -/
abbrev blk0 (w : Fin (cfg0 a).W) (t : Fin (cfg0 a).N) : (((cfg0 a).win w).xblock ((cfg0 a).grid.coords t)).Idx → Elt F ((cfg0 a).win w).elt :=
  (((cfg0 a).win w).blk t).view.read (Elt F) (A w)

/-- What the body finds at point `t`. -/
def inT (t : Fin (cfg0 a).N) : TIn F :=
  tin (grid0.coords t) (tbl a) (blk0 a c A 0 t) (blk0 a c A 1 t) (blk0 a c A 2 t) (blk0 a c A 3 t) (blk0 a c A 4 t) (blk0 a c A 5 t) (blk0 a c A 6 t)

/-- The call's proof data: the inputs are left as found, the results are those of the point, and one row of the scales is put. -/
def rd0 : RDat τ (Elt F) Unit ℕ UU ℕ (cfg0 a) c where
  A := A
  after := fun w t => match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = (inT a c A t).codesBlk
    | ⟨8, _⟩ => fun Y X => X = VecWindow.put (s := S12x128) Y (k0_off2 (grid0.coords t)) S1x128.size (inT a c A t).scaleRow
    | ⟨9, _⟩ => fun Y X => X = (inT a c A t).zBlk
    | ⟨10, _⟩ => fun Y X => X = (inT a c A t).zsBlk
    | ⟨n + 11, h⟩ => absurd h (Nat.not_lt.2 (Nat.le_add_left _ _))
  Φ t := iprop(owns (c : Thread nD τ) (Memref.whole main_arg2) fullShare (tbl a) ∗ Pipeline.scopedRest spec0 c)
  q _ := fullShare
  owed _ := 0

/-- A window of an input is left as found. -/
theorem keep0 (w : Fin (cfg0 a).W) (h : w.val < 7) (t : Fin (cfg0 a).N) (Y X) (hR : (rd0 a c A).after w t Y X) : X = Y := by
  match w, h, Y, X, hR with
  | ⟨0, _⟩, _, _, _, hR => exact hR
  | ⟨1, _⟩, _, _, _, hR => exact hR
  | ⟨2, _⟩, _, _, _, hR => exact hR
  | ⟨3, _⟩, _, _, _, hR => exact hR
  | ⟨4, _⟩, _, _, _, hR => exact hR
  | ⟨5, _⟩, _, _, _, hR => exact hR
  | ⟨6, _⟩, _, _, _, hR => exact hR

/-- The body finds an input's block at every point. -/
theorem finds0_0 (t : Fin (cfg0 a).N) (Y) (h : (rd0 a c A).Finds 0 t Y) : Y = blk0 a c A 0 t := by
  obtain ⟨d, e⟩ := (rd0 a c A).finds_in_eq_fetched 0 rfl (fun _ _ _ => rfl) (fun t Y X h => keep0 a c A 0 (show 0 < 7 by decide) t Y X h) t Y h
  rw [e]; rfl
theorem finds0_1 (t : Fin (cfg0 a).N) (Y) (h : (rd0 a c A).Finds 1 t Y) : Y = blk0 a c A 1 t := by
  obtain ⟨d, e⟩ := (rd0 a c A).finds_in_eq_fetched 1 rfl (fun _ _ _ => rfl) (fun t Y X h => keep0 a c A 1 (show 1 < 7 by decide) t Y X h) t Y h
  rw [e]; rfl
theorem finds0_2 (t : Fin (cfg0 a).N) (Y) (h : (rd0 a c A).Finds 2 t Y) : Y = blk0 a c A 2 t := by
  obtain ⟨d, e⟩ := (rd0 a c A).finds_in_eq_fetched 2 rfl (fun _ _ _ => rfl) (fun t Y X h => keep0 a c A 2 (show 2 < 7 by decide) t Y X h) t Y h
  rw [e]; rfl
theorem finds0_3 (t : Fin (cfg0 a).N) (Y) (h : (rd0 a c A).Finds 3 t Y) : Y = blk0 a c A 3 t := by
  obtain ⟨d, e⟩ := (rd0 a c A).finds_in_eq_fetched 3 rfl (fun _ _ _ => rfl) (fun t Y X h => keep0 a c A 3 (show 3 < 7 by decide) t Y X h) t Y h
  rw [e]; rfl
theorem finds0_4 (t : Fin (cfg0 a).N) (Y) (h : (rd0 a c A).Finds 4 t Y) : Y = blk0 a c A 4 t := by
  obtain ⟨d, e⟩ := (rd0 a c A).finds_in_eq_fetched 4 rfl (fun _ _ _ => rfl) (fun t Y X h => keep0 a c A 4 (show 4 < 7 by decide) t Y X h) t Y h
  rw [e]; rfl
theorem finds0_5 (t : Fin (cfg0 a).N) (Y) (h : (rd0 a c A).Finds 5 t Y) : Y = blk0 a c A 5 t := by
  obtain ⟨d, e⟩ := (rd0 a c A).finds_in_eq_fetched 5 rfl (fun _ _ _ => rfl) (fun t Y X h => keep0 a c A 5 (show 5 < 7 by decide) t Y X h) t Y h
  rw [e]; rfl
theorem finds0_6 (t : Fin (cfg0 a).N) (Y) (h : (rd0 a c A).Finds 6 t Y) : Y = blk0 a c A 6 t := by
  obtain ⟨d, e⟩ := (rd0 a c A).finds_in_eq_fetched 6 rfl (fun _ _ _ => rfl) (fun t Y X h => keep0 a c A 6 (show 6 < 7 by decide) t Y X h) t Y h
  rw [e]; rfl

/-- What the call keeps between its points. -/
theorem phi0 (t : Fin ((cfg0 a).N + 1)) : (rd0 a c A).Φ t = iprop(owns (c : Thread nD τ) (Memref.whole main_arg2) fullShare (tbl a) ∗ Pipeline.scopedRest spec0 c) := rfl

set_option maxHeartbeats 4000000 in
/-- The body's obligation at every point. -/
theorem obligation0 : (rd0 a c A).BodyObligation (defs₀ (F := F)) Variants.none () Set.univ := by
  intro t Y hY
  have hin : tin (grid0.coords t) (tbl a) (Y 0) (Y 1) (Y 2) (Y 3) (Y 4) (Y 5) (Y 6) = inT a c A t := by
    rw [finds0_0 a c A t _ (hY 0), finds0_1 a c A t _ (hY 1), finds0_2 a c A t _ (hY 2), finds0_3 a c A t _ (hY 3), finds0_4 a c A t _ (hY 4), finds0_5 a c A t _ (hY 5), finds0_6 a c A t _ (hY 6)]; rfl
  rw [bigSep_W0 (fun w => owns (c : Thread nD τ) (((cfg0 a).win w).stage ((cfg0 a).slots t w)) fullShare (Y w)),
    bigSep_W0 (fun w => iprop(∃ X, ⌜(rd0 a c A).after w t (Y w) X⌝ ∗ owns (c : Thread nD τ) (((cfg0 a).win w).stage ((cfg0 a).slots t w)) fullShare X)),
    phi0 a c A t.castSucc, phi0 a c A t.succ]
  iintro ⟨⟨HT, Hoth⟩, HO, ⟨H0, H1, H2, H3, H4, H5, H6, H7, H8, H9, H10⟩⟩
  iapply (transform_wp c (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (tbl a) (Y 0) (Y 1) (Y 2) (Y 3) (Y 4) (Y 5) (Y 6) (Y 7) (Y 8) (Y 9) (Y 10) Set.univ)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨HT, H0, H1, H2, H3, H4, H5, H6, H7, H8, H9, H10⟩
  isplitl [HT Hoth]
  · isplitl [HT]; · iexact HT
    iexact Hoth
  isplitl [HO]; · iexact HO
  isplitl [H0]
  · iexists _
    isplitr
    · ipureintro; rfl
    iexact H0
  isplitl [H1]
  · iexists _
    isplitr
    · ipureintro; rfl
    iexact H1
  isplitl [H2]
  · iexists _
    isplitr
    · ipureintro; rfl
    iexact H2
  isplitl [H3]
  · iexists _
    isplitr
    · ipureintro; rfl
    iexact H3
  isplitl [H4]
  · iexists _
    isplitr
    · ipureintro; rfl
    iexact H4
  isplitl [H5]
  · iexists _
    isplitr
    · ipureintro; rfl
    iexact H5
  isplitl [H6]
  · iexists _
    isplitr
    · ipureintro; rfl
    iexact H6
  isplitl [H7]
  · iexists _
    isplitr
    · ipureintro; exact congrArg TIn.codesBlk hin
    iexact H7
  isplitl [H8]
  · iexists _
    isplitr
    · ipureintro; exact congrArg (fun b : TIn F => VecWindow.put (s := S12x128) (Y 8) (k0_off2 (grid0.coords t)) S1x128.size b.scaleRow) hin
    iexact H8
  isplitl [H9]
  · iexists _
    isplitr
    · ipureintro; exact congrArg TIn.zBlk hin
    iexact H9
  iexists _
  isplitr
  · ipureintro; exact congrArg TIn.zsBlk hin
  iexact H10

end Cert.Kernel.Transform
-- ==== Proof.Bits.TransformExact.lean ====
/-
  The transform call's results exactly: each array it leaves is the one its grid points' values name.
-/
module

public import proofs.«01_k».proof.Proof.Bits.TransformRegion
public import Idealize.ShloMosaic.Lib.Pipeline.ArrRel
public import Idealize.ShloMosaic.Lib.Pipeline.FrameBody
public import Idealize.ShloMosaic.Lib.Pipeline.Regions

@[expose] public section

set_option maxRecDepth 16384

noncomputable section

namespace Cert.Kernel.Transform

open Cert.Kernel Cert.Kernel.Gen Cert.Kernel.Vocab
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [BitOps F]

local notation "𝕄" => MT nD τ sig Unit (Elt F) ℕ UU ℕ

variable (a : (pcfg0 (F := F)).Adm) (c : Dev nD) (A : Arrs a c)

/-- The scales after all twelve points: row `d` is document `d`'s. -/
def scaleAll : S12x128.Idx → Elt F .f32 := fun i =>
  (inT a c A ⟨(i 0).val, (i 0).isLt⟩).scaleRow (fun | ⟨0, _⟩ => ⟨0, Nat.one_pos⟩ | ⟨1, _⟩ => ⟨(i 1).val, (i 1).isLt⟩ : S1x128.Idx)

/-- The values each point leaves, exactly. -/
def after0 : (w : Fin (cfg0 a).W) → Fin (cfg0 a).N → ((cfg0 a).win w).block.Idx → Elt F ((cfg0 a).win w).elt := fun w t => match w with
    | ⟨0, _⟩ => blk0 a c A 0 t
    | ⟨1, _⟩ => blk0 a c A 1 t
    | ⟨2, _⟩ => blk0 a c A 2 t
    | ⟨3, _⟩ => blk0 a c A 3 t
    | ⟨4, _⟩ => blk0 a c A 4 t
    | ⟨5, _⟩ => blk0 a c A 5 t
    | ⟨6, _⟩ => blk0 a c A 6 t
    | ⟨7, _⟩ => (inT a c A t).codesBlk
    | ⟨8, _⟩ => scaleAll a c A
    | ⟨9, _⟩ => (inT a c A t).zBlk
    | ⟨10, _⟩ => (inT a c A t).zsBlk
    | ⟨n + 11, h⟩ => absurd h (Nat.not_lt.2 (Nat.le_add_left _ _))

/-- The exact proof data. -/
def dat0 : Dat τ (Elt F) Unit ℕ UU ℕ (cfg0 a) c := (rd0 a c A).withAfter (after0 a c A)

/-- The row of the scales that point `t` puts. -/
theorem off2_val : ∀ t : Fin grid0.N, k0_off2 (grid0.coords t) 0 = t.val ∧ k0_off2 (grid0.coords t) 1 = 0 := by decide +kernel

/-- The scales are written back after the last point only. -/
theorem flush0_8 (t : Fin (cfg0 a).N) : ((cfg0 a).win 8).flush t = decide (t.val = 11) := by
  have h : t.val < 12 := t.isLt
  obtain ⟨n, hn⟩ := t
  match n, hn, h with
  | 0, _, _ => rfl
  | 1, _, _ => rfl
  | 2, _, _ => rfl
  | 3, _, _ => rfl
  | 4, _, _ => rfl
  | 5, _, _ => rfl
  | 6, _, _ => rfl
  | 7, _, _ => rfl
  | 8, _, _ => rfl
  | 9, _, _ => rfl
  | 10, _, _ => rfl
  | 11, _, _ => rfl
  | n + 12, _, h => exact absurd (show n + 12 < 12 from h) (by omega)

/-- After point `n` the rows of the documents up to `n` are those documents'. -/
theorem leaves8 : ∀ (n : ℕ) (h : n < (cfg0 a).N) (X : S12x128.Idx → Elt F .f32), (rd0 a c A).Leaves 8 ⟨n, h⟩ X →
    ∀ i : S12x128.Idx, (i 0).val ≤ n → X i = scaleAll a c A i
  | n, h, X, ⟨Y, hY, hX⟩, i, hi => by
    have hX' : X = VecWindow.put (s := S12x128) Y (k0_off2 (grid0.coords ⟨n, h⟩)) S1x128.size (inT a c A ⟨n, h⟩).scaleRow := hX
    obtain ⟨o0, o1⟩ := off2_val ⟨n, h⟩
    have hi1 : (i 1).val < 128 := (i 1).isLt
    refine (congrFun hX' i).trans ?_
    by_cases hin : (i 0).val = n
    · have hc : ∀ b, k0_off2 (grid0.coords ⟨n, h⟩) b ≤ (i b).val ∧ (i b).val < k0_off2 (grid0.coords ⟨n, h⟩) b + S1x128.size b := by
        intro b
        fin_cases b
        · show k0_off2 (grid0.coords ⟨n, h⟩) 0 ≤ (i 0).val ∧ (i 0).val < k0_off2 (grid0.coords ⟨n, h⟩) 0 + 1
          rw [o0]; show n ≤ (i 0).val ∧ (i 0).val < n + 1; omega
        · show k0_off2 (grid0.coords ⟨n, h⟩) 1 ≤ (i 1).val ∧ (i 1).val < k0_off2 (grid0.coords ⟨n, h⟩) 1 + 128
          rw [o1]; omega
      refine (show VecWindow.put (s := S12x128) Y (k0_off2 (grid0.coords ⟨n, h⟩)) S1x128.size (inT a c A ⟨n, h⟩).scaleRow i = _ from dif_pos hc).trans ?_
      subst hin
      unfold scaleAll
      refine congrArg _ (funext fun b => ?_)
      fin_cases b
      · exact Fin.ext (show (i 0).val - k0_off2 (grid0.coords ⟨(i 0).val, h⟩) 0 = 0 by rw [o0]; exact Nat.sub_self _)
      · exact Fin.ext (show (i 1).val - k0_off2 (grid0.coords ⟨(i 0).val, h⟩) 1 = (i 1).val by rw [o1]; rfl)
    · have hc : ¬∀ b, k0_off2 (grid0.coords ⟨n, h⟩) b ≤ (i b).val ∧ (i b).val < k0_off2 (grid0.coords ⟨n, h⟩) b + S1x128.size b := by
        intro hh
        have := (hh 0).1
        rw [o0] at this
        have : n ≤ (i 0).val := this
        omega
      refine (show VecWindow.put (s := S12x128) Y (k0_off2 (grid0.coords ⟨n, h⟩)) S1x128.size (inT a c A ⟨n, h⟩).scaleRow i = _ from dif_neg hc).trans ?_
      have hn0 : n ≠ 0 := fun e => hin (by omega)
      have hN : n < 12 := h
      rcases ((rd0 a c A).finds_of_pos (w := 8) (t := ⟨n, h⟩) rfl hn0 Y).mp hY with hf | hl
      · rw [flush0_8] at hf
        have hf' : n - 1 = 11 := of_decide_eq_true hf
        omega
      · exact leaves8 (n - 1) (Nat.lt_of_le_of_lt (Nat.sub_le _ _) h) Y hl i (by omega)
  termination_by n => n

/-- Each array the call writes is what the exact data name. -/
theorem arr0_eq (w : Fin (cfg0 a).W) (hw : 7 ≤ w.val) (G) (hG : (rd0 a c A).ArrAt w (cfg0 a).N G) : G = (dat0 a c A).arrAt w (cfg0 a).N := by
  obtain ⟨X, hX, hA⟩ := RDat.ArrAt.exists_exact hG
  refine hA (after0 a c A) fun u hu hf => ?_
  obtain ⟨Y, hY, hR⟩ := hX u hu hf
  match w, hw, X, Y, hf, hY, hR with
  | ⟨7, _⟩, _, X, Y, _, _, hR => exact hR.symm
  | ⟨8, _⟩, _, X, Y, hf, hY, hR =>
    have e : decide (u.val = 11) = true := (flush0_8 a u).symm.trans hf
    have e' : u.val = 11 := of_decide_eq_true e
    obtain ⟨n, hn⟩ := u
    refine funext fun i => (leaves8 a c A n hn _ ⟨Y, hY, hR⟩ i ?_).symm
    have h0 : (i 0).val < 12 := (i 0).isLt
    have : n = 11 := e'
    omega
  | ⟨9, _⟩, _, X, Y, _, _, hR => exact hR.symm
  | ⟨10, _⟩, _, X, Y, _, _, hR => exact hR.symm
  | ⟨n + 11, h⟩, _, _, _, _, _, _ => exact absurd h (Nat.not_lt.2 (Nat.le_add_left _ _))

end Cert.Kernel.Transform

end
-- ==== Proof.Bits.VocabBody.lean ====
/-
  The vocabulary call's body as one triple over what its buffers hold, whichever of the two conditions hold.
-/
module

public import proofs.«01_k».proof.Proof.Gen.Kernel.Launch
public import proofs.«01_k».proof.Proof.Bits.VocabRun
public import Idealize.ShloMosaic.Lib.Tactic

@[expose] public section

set_option maxRecDepth 16384

noncomputable section

namespace Cert.Kernel.Vocab

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [BitOps F]

local notation "𝕄" => MT nD τ sig Unit (Elt F) ℕ UU ℕ

instance (i : grid1.Coords) : Decidable (First i) := inferInstanceAs (Decidable (_ = _))

/-- A whole buffer owned at contents `X` is its points-to at some raw contents that read as `X`. -/
theorem owns_pt (c : Dev nD) {sp : Space} {S : Shape} {e : EltTy} {M : Memref sig .tc sp S e} (h : M.IsWhole) (X : S.Idx → Elt F e) :
    (owns (c : Thread nD τ) M fullShare X : sProp 𝕄) = iprop(∃ f, ⌜M.view.read (Elt F) f = X⌝ ∗ pt c M f) := by
  unfold owns pt; rw [h.set_eq_univ]

/-- A points-to is some contents. -/
theorem pt_some (c : Dev nD) {sp : Space} {S : Shape} {e : EltTy} (M : Memref sig .tc sp S e) (f : Bf (F := F) c M) :
    (pt c M f : sProp 𝕄) ⊢ iprop(∃ X, ∃ f, ⌜M.view.read (Elt F) f = X⌝ ∗ pt c M f) := by
  iintro H
  iexists (M.view.read (Elt F) f)
  iexists f
  isplitr
  · ipureintro; rfl
  iexact H

set_option maxHeartbeats 4000000 in
/-- The body at any point: it ends, with the inputs unchanged and every other buffer at some contents. -/
theorem body_wp (c : Dev nD) (i : grid1.Coords) (hx : First i → ¬k1_cond2 i = 1#1) (M1 : Memref sig .tc .vmem S12x128x1024 .bf16) (h1 : M1.IsWhole) (M2 : Memref sig .tc .vmem S12x128x128 .f32) (h2 : M2.IsWhole) (M3 : Memref sig .tc .vmem S256x512 .i8) (h3 : M3.IsWhole) (M4 : Memref sig .tc .vmem S8x256 .f32) (h4 : M4.IsWhole) (M5 : Memref sig .tc .vmem S1x256 .f32) (h5 : M5.IsWhole) (M6 : Memref sig .tc .vmem S12x256 .f32) (h6 : M6.IsWhole) (M7 : Memref sig .tc .vmem S1x256 .f32) (h7 : M7.IsWhole) (M8 : Memref sig .tc .vmem S12x1 .f32) (h8 : M8.IsWhole) (M9 : Memref sig .tc .vmem S1x1 .f32) (h9 : M9.IsWhole) (M10 : Memref sig .tc .vmem S12x50368 .i8) (h10 : M10.IsWhole) (M11 : Memref sig .tc .vmem S12x1 .f32) (h11 : M11.IsWhole) (M12 : Memref sig .tc .vmem S16x50432 .f32) (h12 : M12.IsWhole) (M13 : Memref sig .tc .vmem S16x256 .f32) (h13 : M13.IsWhole) (M14 : Memref sig .tc .vmem S16x256 .f32) (h14 : M14.IsWhole) (M15 : Memref sig .tc .vmem S16x256 .f32) (h15 : M15.IsWhole) (M16 : Memref sig .tc .vmem S1x256 .f32) (h16 : M16.IsWhole)
    (X1 : S12x128x1024.Idx → Elt F .bf16) (X2 : S12x128x128.Idx → Elt F .f32) (X3 : S256x512.Idx → Elt F .i8) (X4 : S8x256.Idx → Elt F .f32) (X5 : S1x256.Idx → Elt F .f32) (X6 : S12x256.Idx → Elt F .f32) (X7 : S1x256.Idx → Elt F .f32) (X8 : S12x1.Idx → Elt F .f32) (X9 : S1x1.Idx → Elt F .f32) (X10 : S12x50368.Idx → Elt F .i8) (X11 : S12x1.Idx → Elt F .f32) (X12 : S16x50432.Idx → Elt F .f32) (X13 : S16x256.Idx → Elt F .f32) (X14 : S16x256.Idx → Elt F .f32) (X15 : S16x256.Idx → Elt F .f32) (X16 : S1x256.Idx → Elt F .f32) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare X16 ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ (∃ X, owns (c : Thread nD τ) M6 fullShare X) ∗ (∃ X, owns (c : Thread nD τ) M7 fullShare X) ∗ (∃ X, owns (c : Thread nD τ) M8 fullShare X) ∗ (∃ X, owns (c : Thread nD τ) M9 fullShare X) ∗ (∃ X, owns (c : Thread nD τ) M10 fullShare X) ∗ (∃ X, owns (c : Thread nD τ) M11 fullShare X) ∗ (∃ X, owns (c : Thread nD τ) M12 fullShare X) ∗ (∃ X, owns (c : Thread nD τ) M13 fullShare X) ∗ (∃ X, owns (c : Thread nD τ) M14 fullShare X) ∗ (∃ X, owns (c : Thread nD τ) M15 fullShare X) ∗ (∃ X, owns (c : Thread nD τ) M16 fullShare X)) -∗ Q ⟨⟩))
      ⊢ wp frame (wpE (defs₀ (F := F)) Variants.none c none) E (cc1_vocab i M1 h1 M2 h2 M3 h3 M4 h4 M5 h5 M6 h6 M7 h7 M8 h8 M9 h9 M10 h10 M11 h11 M12 h12 M13 h13 M14 h14 M15 h15 M16 h16) Q := by
  simp only [owns_pt c h1, owns_pt c h2, owns_pt c h3, owns_pt c h4, owns_pt c h5, owns_pt c h6, owns_pt c h7, owns_pt c h8, owns_pt c h9, owns_pt c h10, owns_pt c h11, owns_pt c h12, owns_pt c h13, owns_pt c h14, owns_pt c h15, owns_pt c h16]
  by_cases hc1 : First i
  · have hc2 := hx hc1
    iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, Hk⟩
    subst e1 e2 e3 e4 e5 e6 e7 e8 e9 e10 e11 e12 e13 e14 e15 e16
    iapply (runFirst c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).2
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H1, H2, H3, H4, H5, H6, H7, H8, H9, H10, H11, H12, H13, H14, H15, H16⟩
    iapply Hk
    isplitl [H1]
    · iexists _; isplitr [H1]
      · ipureintro; rfl
      · iexact H1
    isplitl [H2]
    · iexists _; isplitr [H2]
      · ipureintro; rfl
      · iexact H2
    isplitl [H3]
    · iexists _; isplitr [H3]
      · ipureintro; rfl
      · iexact H3
    isplitl [H4]
    · iexists _; isplitr [H4]
      · ipureintro; rfl
      · iexact H4
    isplitl [H5]
    · iexists _; isplitr [H5]
      · ipureintro; rfl
      · iexact H5
    ihave H6 := (pt_some c M6 _) $$ H6
    isplitl [H6]; · iexact H6
    ihave H7 := (pt_some c M7 _) $$ H7
    isplitl [H7]; · iexact H7
    ihave H8 := (pt_some c M8 _) $$ H8
    isplitl [H8]; · iexact H8
    ihave H9 := (pt_some c M9 _) $$ H9
    isplitl [H9]; · iexact H9
    ihave H10 := (pt_some c M10 _) $$ H10
    isplitl [H10]; · iexact H10
    ihave H11 := (pt_some c M11 _) $$ H11
    isplitl [H11]; · iexact H11
    ihave H12 := (pt_some c M12 _) $$ H12
    isplitl [H12]; · iexact H12
    ihave H13 := (pt_some c M13 _) $$ H13
    isplitl [H13]; · iexact H13
    ihave H14 := (pt_some c M14 _) $$ H14
    isplitl [H14]; · iexact H14
    ihave H15 := (pt_some c M15 _) $$ H15
    isplitl [H15]; · iexact H15
    ihave H16 := (pt_some c M16 _) $$ H16
    iexact H16
  · by_cases hc2 : k1_cond2 i = 1#1
    · iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, Hk⟩
      subst e1 e2 e3 e4 e5 e6 e7 e8 e9 e10 e11 e12 e13 e14 e15 e16
      iapply (runLast c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).2
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iintro ⟨H1, H2, H3, H4, H5, H6, H7, H8, H9, H10, H11, H12, H13, H14, H15, H16⟩
      iapply Hk
      isplitl [H1]
      · iexists _; isplitr [H1]
        · ipureintro; rfl
        · iexact H1
      isplitl [H2]
      · iexists _; isplitr [H2]
        · ipureintro; rfl
        · iexact H2
      isplitl [H3]
      · iexists _; isplitr [H3]
        · ipureintro; rfl
        · iexact H3
      isplitl [H4]
      · iexists _; isplitr [H4]
        · ipureintro; rfl
        · iexact H4
      isplitl [H5]
      · iexists _; isplitr [H5]
        · ipureintro; rfl
        · iexact H5
      ihave H6 := (pt_some c M6 _) $$ H6
      isplitl [H6]; · iexact H6
      ihave H7 := (pt_some c M7 _) $$ H7
      isplitl [H7]; · iexact H7
      ihave H8 := (pt_some c M8 _) $$ H8
      isplitl [H8]; · iexact H8
      ihave H9 := (pt_some c M9 _) $$ H9
      isplitl [H9]; · iexact H9
      ihave H10 := (pt_some c M10 _) $$ H10
      isplitl [H10]; · iexact H10
      ihave H11 := (pt_some c M11 _) $$ H11
      isplitl [H11]; · iexact H11
      ihave H12 := (pt_some c M12 _) $$ H12
      isplitl [H12]; · iexact H12
      ihave H13 := (pt_some c M13 _) $$ H13
      isplitl [H13]; · iexact H13
      ihave H14 := (pt_some c M14 _) $$ H14
      isplitl [H14]; · iexact H14
      ihave H15 := (pt_some c M15 _) $$ H15
      isplitl [H15]; · iexact H15
      ihave H16 := (pt_some c M16 _) $$ H16
      iexact H16
    · iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, Hk⟩
      subst e1 e2 e3 e4 e5 e6 e7 e8 e9 e10 e11 e12 e13 e14 e15 e16
      iapply (runMid c i M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 hc1 hc2).2
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iintro ⟨H1, H2, H3, H4, H5, H6, H7, H8, H9, H10, H11, H12, H13, H14, H15, H16⟩
      iapply Hk
      isplitl [H1]
      · iexists _; isplitr [H1]
        · ipureintro; rfl
        · iexact H1
      isplitl [H2]
      · iexists _; isplitr [H2]
        · ipureintro; rfl
        · iexact H2
      isplitl [H3]
      · iexists _; isplitr [H3]
        · ipureintro; rfl
        · iexact H3
      isplitl [H4]
      · iexists _; isplitr [H4]
        · ipureintro; rfl
        · iexact H4
      isplitl [H5]
      · iexists _; isplitr [H5]
        · ipureintro; rfl
        · iexact H5
      ihave H6 := (pt_some c M6 _) $$ H6
      isplitl [H6]; · iexact H6
      ihave H7 := (pt_some c M7 _) $$ H7
      isplitl [H7]; · iexact H7
      ihave H8 := (pt_some c M8 _) $$ H8
      isplitl [H8]; · iexact H8
      ihave H9 := (pt_some c M9 _) $$ H9
      isplitl [H9]; · iexact H9
      ihave H10 := (pt_some c M10 _) $$ H10
      isplitl [H10]; · iexact H10
      ihave H11 := (pt_some c M11 _) $$ H11
      isplitl [H11]; · iexact H11
      ihave H12 := (pt_some c M12 _) $$ H12
      isplitl [H12]; · iexact H12
      ihave H13 := (pt_some c M13 _) $$ H13
      isplitl [H13]; · iexact H13
      ihave H14 := (pt_some c M14 _) $$ H14
      isplitl [H14]; · iexact H14
      ihave H15 := (pt_some c M15 _) $$ H15
      isplitl [H15]; · iexact H15
      ihave H16 := (pt_some c M16 _) $$ H16
      iexact H16

end Cert.Kernel.Vocab

end
-- ==== Proof.Bits.VocabRegion.lean ====
/-
  The vocabulary call's region: its proof data, which say nothing of the results, and the body's obligation.
-/
module

public import proofs.«01_k».proof.Proof.Gen.Kernel.Points
public import proofs.«01_k».proof.Proof.Bits.VocabBody
public import Idealize.ShloMosaic.Lib.Pipeline.FrameBody
public import Idealize.ShloMosaic.Lib.Pipeline.Regions

@[expose] public section

set_option maxRecDepth 16384

noncomputable section

namespace Cert.Kernel.Vocab

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [BitOps F]

local notation "𝕄" => MT nD τ sig Unit (Elt F) ℕ UU ℕ

/-- Point `t` of the grid is column block `t`. -/
theorem coords_val : ∀ t : Fin grid1.N, ((grid1.coords t) 0).val = t.val := by decide +kernel
/-- The first condition holds at point 0 only. -/
theorem first_iff : ∀ t : Fin grid1.N, First (grid1.coords t) ↔ t.val = 0 := by decide +kernel
/-- The second condition holds at the last point only. -/
theorem last_iff : ∀ t : Fin grid1.N, k1_cond2 (grid1.coords t) = 1#1 ↔ t.val = 196 := by decide +kernel
/-- No point is both. -/
theorem first_not_last (t : Fin grid1.N) (h : First (grid1.coords t)) : ¬k1_cond2 (grid1.coords t) = 1#1 := fun h' => by
  have h0 := (first_iff t).mp h; have h1 := (last_iff t).mp h'; omega

/-- The arrays the call's windows name, on core `c`. -/
abbrev Arrs (c : Dev nD) : Type := (w : Fin cfg1.W) → Buf (Elt F) ((cfg1.win w).arr.view.loc (c.tc : Thread nD τ))

section Reach

variable (c : Dev nD) (A : Arrs (F := F) c)

/-- The scoped buffers of the other call. -/
def others (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f))

/-- The scratch buffers at some contents. -/
def scratch (c : Dev nD) : sProp 𝕄 := iprop((∃ X, owns (c : Thread nD τ) (Memref.whole cc1_scratch0) fullShare X) ∗ (∃ X, owns (c : Thread nD τ) (Memref.whole cc1_scratch1) fullShare X) ∗ (∃ X, owns (c : Thread nD τ) (Memref.whole cc1_scratch2) fullShare X) ∗ (∃ X, owns (c : Thread nD τ) (Memref.whole cc1_scratch3) fullShare X) ∗ (∃ X, owns (c : Thread nD τ) (Memref.whole cc1_scratch4) fullShare X))

/-- The call's proof data: the inputs are left as found, nothing is said of the results. -/
def rd1 : RDat τ (Elt F) Unit ℕ UU ℕ cfg1 c where
  A := A
  after := fun w t => match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun _ _ => True
    | ⟨6, _⟩ => fun _ _ => True
    | ⟨7, _⟩ => fun _ _ => True
    | ⟨8, _⟩ => fun _ _ => True
    | ⟨9, _⟩ => fun _ _ => True
    | ⟨10, _⟩ => fun _ _ => True
    | ⟨n + 11, h⟩ => absurd h (Nat.not_lt.2 (Nat.le_add_left _ _))
  Φ t := iprop(scratch c ∗ others c)
  q _ := fullShare
  owed _ := 0

/-- A window of an input is left as found. -/
theorem keep1 (w : Fin cfg1.W) (h : w.val < 5) (t : Fin cfg1.N) (Y X) (hR : (rd1 c A).after w t Y X) : X = Y := by
  match w, h, Y, X, hR with
  | ⟨0, _⟩, _, _, _, hR => exact hR
  | ⟨1, _⟩, _, _, _, hR => exact hR
  | ⟨2, _⟩, _, _, _, hR => exact hR
  | ⟨3, _⟩, _, _, _, hR => exact hR
  | ⟨4, _⟩, _, _, _, hR => exact hR

/-- What the call keeps between its points. -/
theorem phi1 (t : Fin (cfg1.N + 1)) : (rd1 c A).Φ t = iprop(scratch c ∗ others c) := rfl

set_option maxHeartbeats 4000000 in
set_option backward.isDefEq.respectTransparency.types false in
/-- The body's obligation at every point. -/
theorem obligation1 : (rd1 c A).BodyObligation (defs₀ (F := F)) Variants.none () Set.univ := by
  intro t Y hY
  rw [bigSep_W1 (fun w => owns (c : Thread nD τ) ((cfg1.win w).stage (cfg1.slots t w)) fullShare (Y w)),
    bigSep_W1 (fun w => iprop(∃ X, ⌜(rd1 c A).after w t (Y w) X⌝ ∗ owns (c : Thread nD τ) ((cfg1.win w).stage (cfg1.slots t w)) fullShare X))]
  rw [phi1 c A t.castSucc, phi1 c A t.succ]
  iintro ⟨⟨Hsc, Hoth⟩, HO, ⟨H0, H1, H2, H3, H4, H5, H6, H7, H8, H9, H10⟩⟩
  unfold scratch
  icases Hsc with ⟨⟨%Z0, S0⟩, ⟨%Z1, S1⟩, ⟨%Z2, S2⟩, ⟨%Z3, S3⟩, ⟨%Z4, S4⟩⟩
  iapply (body_wp c (grid1.coords t) (first_not_last t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Y 0) (Y 1) (Y 2) (Y 3) (Y 4) (Y 5) (Y 6) (Y 7) (Y 8) (Y 9) (Y 10) Z0 Z1 Z2 Z3 Z4 Set.univ)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  iintro ⟨H0, H1, H2, H3, H4, ⟨%X5, H5⟩, ⟨%X6, H6⟩, ⟨%X7, H7⟩, ⟨%X8, H8⟩, ⟨%X9, H9⟩, ⟨%X10, H10⟩, S0, S1, S2, S3, S4⟩
  isplitl [S0 S1 S2 S3 S4 Hoth]
  · isplitr [Hoth]
    · isplitl [S0]; · iexact S0
      isplitl [S1]; · iexact S1
      isplitl [S2]; · iexact S2
      isplitl [S3]; · iexact S3
      iexact S4
    iexact Hoth
  isplitl [HO]; · iexact HO
  isplitl [H0]
  · iexists _
    isplitr
    · ipureintro; exact rfl
    iexact H0
  isplitl [H1]
  · iexists _
    isplitr
    · ipureintro; exact rfl
    iexact H1
  isplitl [H2]
  · iexists _
    isplitr
    · ipureintro; exact rfl
    iexact H2
  isplitl [H3]
  · iexists _
    isplitr
    · ipureintro; exact rfl
    iexact H3
  isplitl [H4]
  · iexists _
    isplitr
    · ipureintro; exact rfl
    iexact H4
  isplitl [H5]
  · iexists X5
    isplitr
    · ipureintro; exact trivial
    iexact H5
  isplitl [H6]
  · iexists X6
    isplitr
    · ipureintro; exact trivial
    iexact H6
  isplitl [H7]
  · iexists X7
    isplitr
    · ipureintro; exact trivial
    iexact H7
  isplitl [H8]
  · iexists X8
    isplitr
    · ipureintro; exact trivial
    iexact H8
  isplitl [H9]
  · iexists X9
    isplitr
    · ipureintro; exact trivial
    iexact H9
  iexists X10
  isplitr
  · ipureintro; exact trivial
  iexact H10

end Reach

end Cert.Kernel.Vocab

end
-- ==== Proof.Bits.WholeRun.lean ====
/-
  The whole program's run: what every unscoped buffer may hold at the end, and that the arguments end as launched.
-/
module

public import proofs.«01_k».proof.Proof.Bits.TransformExact
public import proofs.«01_k».proof.Proof.Bits.VocabRegion
public import proofs.«01_k».proof.Proof.Segment
public import proofs.«01_k».proof.Proof.Gen.Kernel.Regions
public import Idealize.ShloMosaic.Lib.StableHlo.RunHlo
public import Idealize.ShloMosaic.Lib.Pipeline.FrameBody
public import Idealize.ShloMosaic.Lib.Pipeline.Regions

@[expose] public section

set_option maxRecDepth 16384

noncomputable section

namespace Cert.Kernel.Whole

open Cert.Kernel Cert.Kernel.Gen Cert.Kernel.Vocab Cert.Segment
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [BitOps F]

local notation "𝕄" => MT nD τ sig Unit (Elt F) ℕ UU ℕ

variable (m : (ℓ : Loc nD τ sig) → Buf (Elt F) ℓ) (ρ : Dev nD → PrngReg)

/-- The table of lengths at launch. -/
abbrev lens : S12.Idx → Elt F .i32 := m (((0 : Dev nD) : Thread nD τ).loc main_arg2)

/-- The first call's table. -/
abbrev adm0 : (pcfg0 (F := F)).Adm := ⟨fun | ⟨0, _⟩ => lens m, trivial⟩

/-- The prefetched table of the first call is the lengths; the second call has none. -/
def adm : (p : Fin 2) → (pcfgs (F := F) p).Adm := fun
  | ⟨0, _⟩ => adm0 m
  | ⟨1, _⟩ => cfg1.toPCfg_adm
  | ⟨_ + 2, h⟩ => absurd h (Nat.not_lt.2 (Nat.le_add_left _ _))

/-- The arrays the first call is entered with. -/
def A0 (c : Dev nD) : Transform.Arrs (adm0 m) c := fun w => V1 m c (Pipeline.arrRef spec0 w)

/-- The unscoped buffers after the first call: its arrays at what its exact data name, the rest as before. -/
theorem exists_W2 (c : Dev nD) : ∃ V : Valuation τ sig (Elt F),
    (∀ w, V (Proc.devRef .tc (Pipeline.arrRef spec0 w)) = (Transform.dat0 (adm0 m) c (A0 m c)).arrAt w (cfg0 (adm0 m)).N) ∧ ∀ b, b ∉ Pipeline.arrRefs (τ := τ) spec0 → V b = V1 m c b :=
  exists_valuation spec0 (launch0 (F := F)).win.arr_inj (V1 m c) (fun w => (Transform.dat0 (adm0 m) c (A0 m c)).arrAt w (cfg0 (adm0 m)).N)
def W2 (c : Dev nD) : Valuation τ sig (Elt F) := Classical.choose (exists_W2 m c)
theorem W2_arr (c : Dev nD) (w) : W2 m c (Proc.devRef .tc (Pipeline.arrRef spec0 w)) = (Transform.dat0 (adm0 m) c (A0 m c)).arrAt w (cfg0 (adm0 m)).N :=
  (Classical.choose_spec (exists_W2 m c)).1 w
theorem W2_rest (c : Dev nD) (b) (h : b ∉ Pipeline.arrRefs (τ := τ) spec0) : W2 m c b = V1 m c b := (Classical.choose_spec (exists_W2 m c)).2 b h

/-- The unscoped buffers when the second call is entered. -/
def W3 (c : Dev nD) : Valuation τ sig (Elt F) := StableHlo.after hostOps1 (W2 m c)

/-- The arrays the second call is entered with. -/
def A1 (c : Dev nD) : Vocab.Arrs (F := F) c := fun w => W3 m c (Pipeline.arrRef spec1 w)

/-- The two calls' proof data. -/
def rdats : (p : Fin 2) → (c : Dev nD) → RDat τ (Elt F) Unit ℕ UU ℕ (Pipeline.pin (pcfgs (F := F)) (adm m) p) c := fun
  | ⟨0, _⟩ => fun c => Transform.rd0 (adm0 m) c (A0 m c)
  | ⟨1, _⟩ => fun c => Vocab.rd1 c (A1 m c)
  | ⟨_ + 2, h⟩ => absurd h (Nat.not_lt.2 (Nat.le_add_left _ _))

abbrev EP : Emb (UR sig nD τ) 𝕄 := embL
abbrev L : GSem nD τ sig → Finset Unit := fun _ => ∅
abbrev lv : GSem nD τ sig → Unit → ℕ := fun _ _ => 0
/-- What rides beside the buffers: the core owes nothing. -/
abbrev R (c : Dev nD) : sProp 𝕄 := iprop(∃ W, owes (c : Thread nD τ) (0 : CellTallies nD τ sig Unit) W)

/-- No window's array is scoped. -/
theorem unscoped0 : ∀ w, (Pipeline.arrRef spec0 w).isScoped = false := by decide
theorem unscoped1 : ∀ w, (Pipeline.arrRef spec1 w).isScoped = false := by decide

/-- The first host stretch leaves the lengths as launched. -/
theorem V1_lens (c : Dev nD) : V1 m c main_arg2 = lens m := by
  obtain rfl : c = 0 := Subsingleton.elim _ _
  exact V1_of m 0 main_arg2 (by decide)

/-- The first call's table is held as its invariant has it. -/
theorem table_owns (c : Dev nD) : (Pipeline.prefHeld pre0 c (fun _ => fullShare) (adm0 m).1 : sProp 𝕄) = iprop(∃ f, ⌜f = lens m⌝ ∗ (((c : Thread nD τ).loc main_arg2) ↦{fullShare} f)) := by
  unfold Pipeline.prefHeld
  rw [show (Finset.univ : Finset (Fin pre0.K)) = {(0 : Fin 1)} from rfl, bigSep_singleton]
  have h1 : ((((c : Thread nD τ).loc main_arg2) ↦{fullShare} (lens m : Buf (Elt F) ((c : Thread nD τ).loc main_arg2)) : sProp 𝕄)) ⊢ iprop(∃ f, ⌜f = lens m⌝ ∗ (((c : Thread nD τ).loc main_arg2) ↦{fullShare} f)) := by
    iintro H
    iexists _
    isplitr; swap; (· iexact H)
    ipureintro; rfl
  have h2 : (iprop(∃ f, ⌜f = lens m⌝ ∗ (((c : Thread nD τ).loc main_arg2) ↦{fullShare} f)) : sProp 𝕄) ⊢ (((c : Thread nD τ).loc main_arg2) ↦{fullShare} (lens m : Buf (Elt F) ((c : Thread nD τ).loc main_arg2)) : sProp 𝕄) := by
    iintro ⟨%f, %hf, H⟩
    subst hf
    iexact H
  exact Entails.antisymm h1 h2

/-- Entering and leaving the first call's invariant. -/
theorem hin0 (c : Dev nD) : iprop(Pipeline.prefHeld pre0 c (fun _ => fullShare) (adm0 m).1 ∗ Pipeline.scopedRest spec0 c) ⊢ (Transform.rd0 (adm0 m) c (A0 m c)).Φ 0 := by
  rw [Transform.phi0, table_owns, owns_whole_eq]
  exact .rfl
theorem hout0 (c : Dev nD) : (Transform.rd0 (adm0 m) c (A0 m c)).Φ (Fin.last (cfg0 (adm0 m)).N) ⊢ iprop(Pipeline.prefHeld pre0 c (fun _ => fullShare) (adm0 m).1 ∗ Pipeline.scopedRest spec0 c) := by
  rw [Transform.phi0, table_owns, owns_whole_eq]
  exact .rfl

set_option backward.isDefEq.respectTransparency.types false in
/-- The first call's segment. -/
def reg0 : Pipeline.RDat.RegionSeg (pcfgs (F := F)) (adm m) (rdats m) () defs₀ Variants.none L lv 0 :=
  seg (pcfgs (F := F)) (adm m) (rdats m) () defs₀ Variants.none L lv 0 launch0
    (fun c => Transform.obligation0 (adm0 m) c (A0 m c)) (fun _ _ => rfl) (fun _ => rfl)
    (fun c w => by show (Transform.rd0 (adm0 m) c (A0 m c)).share w = fullShare; unfold RDat.share; exact ite_self _) (V1 m) (fun _ _ => rfl)
    (fun c k => by
      obtain ⟨n, hn⟩ := k
      obtain rfl : n = 0 := Nat.lt_one_iff.mp hn
      exact (V1_lens m c).symm) unscoped0
    (fun c => hin0 m c) (fun c => hout0 m c)

set_option maxHeartbeats 1000000 in
/-- Entering the second call's invariant: any running values may be. -/
theorem hin1 (c : Dev nD) : iprop(Pipeline.scopedRest (Ix := Unit) (Name := ℕ) (U := UU) (Lvl := ℕ) (Val := Elt F) spec1 c) ⊢ (Vocab.rd1 c (A1 m c)).Φ 0 := by
  rw [Vocab.phi1 c (A1 m c) 0, scopedRest1_eq]
  unfold Vocab.scratch Vocab.others
  simp only [owns_whole_eq]
  iintro ⟨H0, H1, H2, H3, H4, H5, H6, H7, H8, H9, H10, H11, H12, H13, H14, ⟨%f0, S0⟩, ⟨%f1, S1⟩, ⟨%f2, S2⟩, ⟨%f3, S3⟩, ⟨%f4, S4⟩⟩
  isplitl [S0 S1 S2 S3 S4]
  · isplitl [S0]
    · iexists f0; iexists f0; isplitr; swap; (· iexact S0); ipureintro; rfl
    isplitl [S1]
    · iexists f1; iexists f1; isplitr; swap; (· iexact S1); ipureintro; rfl
    isplitl [S2]
    · iexists f2; iexists f2; isplitr; swap; (· iexact S2); ipureintro; rfl
    isplitl [S3]
    · iexists f3; iexists f3; isplitr; swap; (· iexact S3); ipureintro; rfl
    iexists f4; iexists f4; isplitr; swap; (· iexact S4); ipureintro; rfl
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 1000000 in
/-- Leaving the second call's invariant. -/
theorem hout1 (c : Dev nD) : (Vocab.rd1 c (A1 m c)).Φ (Fin.last cfg1.N) ⊢ iprop(Pipeline.scopedRest (Ix := Unit) (Name := ℕ) (U := UU) (Lvl := ℕ) (Val := Elt F) spec1 c) := by
  rw [Vocab.phi1 c (A1 m c) (Fin.last cfg1.N), scopedRest1_eq]
  unfold Vocab.scratch Vocab.others
  simp only [owns_whole_eq]
  iintro ⟨⟨⟨%X0, %f0, -, S0⟩, ⟨%X1, %f1, -, S1⟩, ⟨%X2, %f2, -, S2⟩, ⟨%X3, %f3, -, S3⟩, ⟨%X4, %f4, -, S4⟩⟩, H0, H1, H2, H3, H4, H5, H6, H7, H8, H9, H10, H11, H12, H13, H14⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [S0]; · iexists _; iexact S0
  isplitl [S1]; · iexists _; iexact S1
  isplitl [S2]; · iexists _; iexact S2
  isplitl [S3]; · iexists _; iexact S3
  iexists _; iexact S4

set_option backward.isDefEq.respectTransparency.types false in
/-- The second call's segment. -/
def reg1 : Pipeline.RDat.RegionSeg (pcfgs (F := F)) (adm m) (rdats m) () defs₀ Variants.none L lv 1 :=
  seg (pcfgs (F := F)) (adm m) (rdats m) () defs₀ Variants.none L lv 1 launch1
    (fun c => Vocab.obligation1 c (A1 m c)) (fun _ _ => rfl) (fun _ => rfl)
    (fun c w => by show (Vocab.rd1 c (A1 m c)).share w = fullShare; unfold RDat.share; exact ite_self _) (W3 m) (fun _ _ => rfl)
    (fun c k => k.elim0) unscoped1
    (fun c => (show iprop(_ ∗ Pipeline.scopedRest (Ix := Unit) (Name := ℕ) (U := UU) (Lvl := ℕ) (Val := Elt F) spec1 c) ⊢ iprop(Pipeline.scopedRest (Ix := Unit) (Name := ℕ) (U := UU) (Lvl := ℕ) (Val := Elt F) spec1 c) from by
      iintro ⟨-, H⟩; iexact H).trans (hin1 m c))
    (fun c => (hout1 m c).trans (by
      rw [Pipeline.prefHeld_of_none _ rfl]
      iintro H
      isplitr
      · iempintro
      iexact H))

/-- The host stretches as segments. -/
abbrev host0 : Pipeline.HostSeg (Ix := Unit) (Name := ℕ) (U := UU) (Lvl := ℕ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
abbrev host1 : Pipeline.HostSeg (Ix := Unit) (Name := ℕ) (U := UU) (Lvl := ℕ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) R
abbrev host2 (V : Dev nD → Valuation τ sig (Elt F)) : Pipeline.HostSeg (Ix := Unit) (Name := ℕ) (U := UU) (Lvl := ℕ) (pcfgs (F := F)) defs₀ Variants.none L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) V R

/-- What the second call may leave in the unscoped buffers of core `c`. -/
def LeftBy (c : Dev nD) (V : Valuation τ sig (Elt F)) : Prop :=
  (∀ w, (Vocab.rd1 c (A1 m c)).ArrAt w cfg1.N (V (Proc.devRef .tc (Pipeline.arrRef spec1 w)))) ∧ ∀ b, b ∉ Pipeline.arrRefs (τ := τ) spec1 → V b = W3 m c b

set_option backward.isDefEq.respectTransparency.types false in
/-- The last host stretch, from whatever the second call leaves. -/
def lastHost : Pipeline.HostSeg (Ix := Unit) (Name := ℕ) (U := UU) (Lvl := ℕ) (pcfgs (F := F)) defs₀ Variants.none L lv where
  prog := StableHlo.seq hostOps2
  pre c := iprop(∃ V, ⌜LeftBy m c V⌝ ∗ StableHlo.held (c.tc : Thread nD τ) (Pipeline.ucRefs τ sig) V ∗ R c)
  post c := iprop(∃ V, ⌜LeftBy m c V⌝ ∗ StableHlo.held (c.tc : Thread nD τ) (Pipeline.ucRefs τ sig) (StableHlo.after hostOps2 V) ∗ R c)
  run c {β} k K := by
    iintro ⟨Hk, Hbd, ⟨%V, %hV, Hh, HR⟩, Hl⟩
    have H := (host2 (fun _ => V)).run c k K
    dsimp only [host2, Pipeline.HostSeg.ofOps] at H
    iapply H
    isplitl [Hk]
    · iintro ⟨Hbd, Hh, HR⟩
      iapply Hk
      isplitl [Hbd]; · iexact Hbd
      iexists V
      isplitr; · ipureintro; exact hV
      isplitl [Hh]; · iexact Hh
      iexact HR
    isplitl [Hbd]; · iexact Hbd
    isplitl [Hh HR]
    · isplitl [Hh]; · iexact Hh
      iexact HR
    iexact Hl

/-- What the first call may leave is what its exact data name. -/
theorem left0_eq (c : Dev nD) (V : Valuation τ sig (Elt F)) (h : Left (pcfgs (F := F)) (adm m) (rdats m) 0 (V1 m) c V) (b : DevRef τ sig) : V b = W2 m c b := by
  by_cases hb : b ∈ Pipeline.arrRefs (τ := τ) spec0
  · obtain ⟨r, hr, rfl⟩ := Finset.mem_map.mp hb
    obtain ⟨w, -, rfl⟩ := Finset.mem_image.mp hr
    refine Eq.trans ?_ (W2_arr m c w).symm
    have hw : (Transform.rd0 (adm0 m) c (A0 m c)).ArrAt w (cfg0 (adm0 m)).N (V (Proc.devRef .tc (Pipeline.arrRef spec0 w))) := h.1 w
    by_cases h7 : w.val < 7
    · have hin : ((cfg0 (adm0 m)).win w).isOut = false := by
        clear hw hr hb
        have : ∀ w : Fin 11, w.val < 7 → (spec0 w).isOut = false := by decide
        exact this w h7
      have e1 : (V (Proc.devRef .tc (Pipeline.arrRef spec0 w))) = (Transform.rd0 (adm0 m) c (A0 m c)).A w := by
        have := (Transform.rd0 (adm0 m) c (A0 m c)).ArrAt_in w hin (cfg0 (adm0 m)).N
        exact (congrFun this _).mp hw
      exact e1.trans ((Transform.dat0 (adm0 m) c (A0 m c)).arrAt_in w hin _).symm
    · exact Transform.arr0_eq (adm0 m) c (A0 m c) w (by omega) _ hw
  · exact (h.2 b hb).trans (W2_rest m c b hb).symm

/-- A buffer the first call does not write. -/
theorem W2_of (c : Dev nD) (r : Ref sig .tc) (h : ∀ w, Pipeline.arrRef spec0 w = r → w.val < 7) : W2 m c r = V1 m c r := by
  by_cases hb : Proc.devRef (τ := τ) .tc r ∈ Pipeline.arrRefs (τ := τ) spec0
  · obtain ⟨r', hr, e⟩ := Finset.mem_map.mp hb
    obtain rfl := Proc.devRef_injective _ e
    obtain ⟨w, -, rfl⟩ := Finset.mem_image.mp hr
    have hin : ((cfg0 (adm0 m)).win w).isOut = false := by
      have : ∀ w : Fin 11, w.val < 7 → (spec0 w).isOut = false := by decide
      exact this w (h w rfl)
    exact (W2_arr m c w).trans ((Transform.dat0 (adm0 m) c (A0 m c)).arrAt_in w hin _)
  · exact W2_rest m c _ hb

/-- A buffer the second call does not write. -/
theorem left_of (c : Dev nD) (V : Valuation τ sig (Elt F)) (hV : LeftBy m c V) (r : Ref sig .tc) (h : ∀ w, Pipeline.arrRef spec1 w = r → w.val < 5) : V r = W3 m c r := by
  by_cases hb : Proc.devRef (τ := τ) .tc r ∈ Pipeline.arrRefs (τ := τ) spec1
  · obtain ⟨r', hr, e⟩ := Finset.mem_map.mp hb
    obtain rfl := Proc.devRef_injective _ e
    obtain ⟨w, -, rfl⟩ := Finset.mem_image.mp hr
    have hin : (cfg1.win w).isOut = false := by
      have : ∀ w : Fin 11, w.val < 5 → (spec1 w).isOut = false := by decide
      exact this w (h w rfl)
    exact (congrFun ((Vocab.rd1 c (A1 m c)).ArrAt_in w hin cfg1.N) _).mp (hV.1 w)
  · exact hV.2 _ hb

/-- A buffer no item writes ends as launched. -/
theorem kept (c : Dev nD) (V : Valuation τ sig (Elt F)) (hV : LeftBy m c V) (r : Ref sig .tc) (h0 : r ∉ hostOps0_W) (h1 : ∀ w, Pipeline.arrRef spec0 w = r → w.val < 7) (h2 : r ∉ hostOps1_W)
    (h3 : ∀ w, Pipeline.arrRef spec1 w = r → w.val < 5) (h4 : r ∉ hostOps2_W) : StableHlo.after hostOps2 V r = m ((c : Thread nD τ).loc r) :=
  (StableHlo.after_of_writes_sub hostOps2 _ hostOps2_writes h4).trans <| (left_of m c V hV r h3).trans <|
    (StableHlo.after_of_writes_sub hostOps1 _ hostOps1_writes h2).trans <| (W2_of m c r h1).trans <| (V1_of m c r h0).trans rfl

/-- The first call's end is the second host stretch's start. -/
theorem link0 (c : Dev nD) : (reg0 m).post c ⊢ iprop(StableHlo.held (c.tc : Thread nD τ) (Pipeline.ucRefs τ sig) (W2 m c) ∗ R c) := by
  have h : (iprop(∃ V, ⌜Left (pcfgs (F := F)) (adm m) (rdats m) 0 (V1 m) c V⌝ ∗ StableHlo.held (c.tc : Thread nD τ) (Pipeline.ucRefs τ sig) V ∗ R c) : sProp 𝕄)
      ⊢ iprop(StableHlo.held (c.tc : Thread nD τ) (Pipeline.ucRefs τ sig) (W2 m c) ∗ R c) := by
    iintro ⟨%V, %hV, Hh, HO⟩
    obtain rfl : V = W2 m c := funext fun b => left0_eq m c V hV b
    isplitl [Hh]
    · iexact Hh
    iexact HO
  exact h

/-- The last host stretch's end, regrouped. -/
theorem linkEnd (c : Dev nD) : (lastHost m).post c ⊢ iprop((∃ V, ⌜LeftBy m c V⌝ ∗ StableHlo.held (c.tc : Thread nD τ) (Pipeline.ucRefs τ sig) (StableHlo.after hostOps2 V)) ∗ R c) := by
  have h : (iprop(∃ V, ⌜LeftBy m c V⌝ ∗ StableHlo.held (c.tc : Thread nD τ) (Pipeline.ucRefs τ sig) (StableHlo.after hostOps2 V) ∗ R c) : sProp 𝕄)
      ⊢ iprop((∃ V, ⌜LeftBy m c V⌝ ∗ StableHlo.held (c.tc : Thread nD τ) (Pipeline.ucRefs τ sig) (StableHlo.after hostOps2 V)) ∗ R c) := by
    iintro ⟨%V, %hV, Hh, HO⟩
    isplitl [Hh]
    · iexists V
      isplitr; · ipureintro; exact hV
      iexact Hh
    iexact HO
  exact h

/-- The launch element of the user algebra. -/
def u₀ : UU := (initOf (Pipeline.cells (Pipeline.pin (pcfgs (F := F)) (adm m)) (cellOf_inj (adm m))) (Pipeline.launchToks (Pipeline.pin (pcfgs (F := F)) (adm m)) (cellOf_inj (adm m))), 1)

/-- @main's items as segments. -/
abbrev segs (c : Dev nD) : List (Pipeline.RDat.Seg (pcfgs (F := F)) (adm m) (rdats m) () defs₀ Variants.none L lv) :=
  [.host (host0 m), .region (reg0 m), .host (host1 m), .region (reg1 m), .host (lastHost m)]

set_option backward.isDefEq.respectTransparency.types false in
/-- Every run ends, with every counter at zero and the unscoped buffers at what the last host stretch makes of something the second call may leave. -/
theorem run : θ_run defs (onTc (τ := τ) (main (F := F))) ⟨m, fun _ => 0, ρ⟩ (fun r =>
    (∀ c : Dev nD, ∃ V, LeftBy m c V ∧ ∀ b ∈ Pipeline.ucRefs τ sig, r.2.mem (c, b) = StableHlo.after hostOps2 V b) ∧ r.2.sem = fun _ => 0) := by
  refine Pipeline.RDat.θ_run_regions_kit_dev_sems (pcfgs (F := F)) (adm m) (rdats m) () (cellOf_inj (adm m)) EP defs₀ Variants.none L lv m ρ main
    (segs m)
    (fun c Q => by
      rewrite [main_chain c, Pipeline.RDat.Seg.run_eq_chain,
        show (segs m c).map Pipeline.RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Pipeline.RDat.Seg.pipes_host, Pipeline.RDat.Seg.pipes_region, Pipeline.RDat.Seg.pipes_nil]; decide) (fun _ => 0) (fun _ _ => rfl) (fun _ => iprop(emp)) (u₀ m)
    ?hu
    (fun c => iprop(StableHlo.held (c : Thread nD τ) (Pipeline.ucRefs τ sig) (V0 m c) ∗ R c))
    (fun c => iprop(∃ V, ⌜LeftBy m c V⌝ ∗ StableHlo.held (c.tc : Thread nD τ) (Pipeline.ucRefs τ sig) (StableHlo.after hostOps2 V)))
    (fun c => ⟨.rfl, .rfl, ?h01, .rfl, .rfl, ?hend⟩)
    ?hinit (fun c s => ∃ V, LeftBy m c V ∧ ∀ b ∈ Pipeline.ucRefs τ sig, s.mem (c, b) = StableHlo.after hostOps2 V b)
    (fun c s' => ?hfin) (fun _ h hz => ⟨h, funext fun g => hz g (.inr (regions_no_unscoped g.2))⟩)
  case hu =>
    unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  case h01 => exact link0 m c
  case hend => exact linkEnd m c
  case hinit =>
    refine Pipeline.initEach L lv fun c => ?_
    rw [show unscopedBufs c (fun b => m ((c.tc : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅
    iexact HO
  case hfin =>
    unfold StableHlo.held
    iintro ⟨⟨%V, %hV, Hh⟩, HSI⟩
    ihave Hr := (pointsTo_read_all (Pipeline.ucRefs τ sig) (fun b => ((c : Thread nD τ).1, b)) (StableHlo.after hostOps2 V) s') $$ [Hh HSI]
    · isplitl [Hh] <;> iassumption
    icases Hr with ⟨%h, HSI⟩
    imodintro
    isplitr
    · ipureintro
      exact ⟨V, hV, h⟩
    · iexact HSI

/-- Every run ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  refine θ_run_mono (run m ρ) ?_
  rintro r ⟨h, hs⟩
  refine ⟨fun c => ?_, hs⟩
  obtain ⟨V, hV, hm⟩ := h c
  exact ⟨(hm (Proc.devRef .tc main_arg0) (Finset.mem_filter.mpr ⟨StableHlo.devRef_mem_tcRefs main_arg0, by decide⟩)).trans (kept m c V hV main_arg0 (by decide) (by decide) (by decide) (by decide) (by decide)),
    (hm (Proc.devRef .tc main_arg1) (Finset.mem_filter.mpr ⟨StableHlo.devRef_mem_tcRefs main_arg1, by decide⟩)).trans (kept m c V hV main_arg1 (by decide) (by decide) (by decide) (by decide) (by decide)),
    (hm (Proc.devRef .tc main_arg2) (Finset.mem_filter.mpr ⟨StableHlo.devRef_mem_tcRefs main_arg2, by decide⟩)).trans (kept m c V hV main_arg2 (by decide) (by decide) (by decide) (by decide) (by decide)),
    (hm (Proc.devRef .tc main_arg3) (Finset.mem_filter.mpr ⟨StableHlo.devRef_mem_tcRefs main_arg3, by decide⟩)).trans (kept m c V hV main_arg3 (by decide) (by decide) (by decide) (by decide) (by decide)),
    (hm (Proc.devRef .tc main_arg4) (Finset.mem_filter.mpr ⟨StableHlo.devRef_mem_tcRefs main_arg4, by decide⟩)).trans (kept m c V hV main_arg4 (by decide) (by decide) (by decide) (by decide) (by decide)),
    (hm (Proc.devRef .tc main_arg5) (Finset.mem_filter.mpr ⟨StableHlo.devRef_mem_tcRefs main_arg5, by decide⟩)).trans (kept m c V hV main_arg5 (by decide) (by decide) (by decide) (by decide) (by decide)),
    (hm (Proc.devRef .tc main_arg6) (Finset.mem_filter.mpr ⟨StableHlo.devRef_mem_tcRefs main_arg6, by decide⟩)).trans (kept m c V hV main_arg6 (by decide) (by decide) (by decide) (by decide) (by decide)),
    (hm (Proc.devRef .tc main_arg7) (Finset.mem_filter.mpr ⟨StableHlo.devRef_mem_tcRefs main_arg7, by decide⟩)).trans (kept m c V hV main_arg7 (by decide) (by decide) (by decide) (by decide) (by decide)),
    (hm (Proc.devRef .tc main_arg8) (Finset.mem_filter.mpr ⟨StableHlo.devRef_mem_tcRefs main_arg8, by decide⟩)).trans (kept m c V hV main_arg8 (by decide) (by decide) (by decide) (by decide) (by decide)),
    (hm (Proc.devRef .tc main_arg9) (Finset.mem_filter.mpr ⟨StableHlo.devRef_mem_tcRefs main_arg9, by decide⟩)).trans (kept m c V hV main_arg9 (by decide) (by decide) (by decide) (by decide) (by decide)),
    (hm (Proc.devRef .tc main_arg10) (Finset.mem_filter.mpr ⟨StableHlo.devRef_mem_tcRefs main_arg10, by decide⟩)).trans (kept m c V hV main_arg10 (by decide) (by decide) (by decide) (by decide) (by decide))⟩

end Cert.Kernel.Whole

end
-- ==== Proof.TransformValue.lean ====
/-
  The transform call over the reals: what one document's blocks hold is what the reference's whole arrays hold in that
  document's rows.
-/
module

public import proofs.«01_k».proof.Proof.TransformRun
public import proofs.«01_k».proof.Proof.Gen.ReferenceIdeal.Frame
public import Idealize.ShloMosaic.Lib.Pointwise

@[expose] public section

set_option maxRecDepth 16384

noncomputable section

namespace Cert.TransformValue

open Idealize.ShloMosaic
open Idealize.ShloMosaic.TcCoe Idealize.ShloMosaic.Tactic
open Cert.KernelIdeal.Transform (TIn)

/-- The whole arrays that the reference's transform reads. -/
structure TArr where
  x : Vec Ideal Cert.ReferenceIdeal.S12x128x1024 .fp8e4m3
  xs : Vec Ideal Cert.ReferenceIdeal.S12x128x1 .f32
  w : Vec Ideal Cert.ReferenceIdeal.S1024x1024 .fp8e4m3
  ws : Vec Ideal Cert.ReferenceIdeal.S1x1x1024 .f32
  bt : Vec Ideal Cert.ReferenceIdeal.S1x1x1024 .f32
  gamma : Vec Ideal Cert.ReferenceIdeal.S1x1x1024 .f32
  beta : Vec Ideal Cert.ReferenceIdeal.S1x1x1024 .f32

/-- The blocks are document `d`'s part of the arrays. -/
structure Of (b : TIn Ideal) (a : TArr) (d : Fin 12) : Prop where
  x : ∀ (s : Fin 128) (k : Fin 1024), b.x (ix3 (0 : Fin 1) s k) = a.x (ix3 d s k)
  xs : ∀ s : Fin 128, b.xs (ix2 (0 : Fin 1) s) = a.xs (ix3 d s (0 : Fin 1))
  w : ∀ k h : Fin 1024, b.w (ix2 k h) = a.w (ix2 k h)
  ws : ∀ h : Fin 1024, b.ws (ix2 (0 : Fin 1) h) = a.ws (ix3 (0 : Fin 1) (0 : Fin 1) h)
  bt : ∀ h : Fin 1024, b.bt (ix2 (0 : Fin 1) h) = a.bt (ix3 (0 : Fin 1) (0 : Fin 1) h)
  gamma : ∀ h : Fin 1024, b.gamma (ix2 (0 : Fin 1) h) = a.gamma (ix3 (0 : Fin 1) (0 : Fin 1) h)
  beta : ∀ h : Fin 1024, b.beta (ix2 (0 : Fin 1) h) = a.beta (ix3 (0 : Fin 1) (0 : Fin 1) h)

variable {b : TIn Ideal} {a : TArr} {d : Fin 12}

/-- The activations less their mean, of one document's row. -/
theorem centred_eq (o : Of b a d) (s : Fin 128) (h : Fin 1024) :
    b.centred (ix2 s h) = Cert.ReferenceIdeal.Gen.k0_pay5 (F := Ideal) a.x a.w a.xs a.ws a.bt (ix3 d s h) := by
  pointwise [TIn.centred, Cert.KernelIdeal.Gen.k0_pay4, Cert.ReferenceIdeal.Gen.k0_pay5]
  simp only [o.x, o.xs, o.w, o.ws, o.bt]

/-- The mean of their squares. -/
theorem sumSq_eq (o : Of b a d) (s : Fin 128) :
    b.sumSq (ix2 s (0 : Fin 1)) = Cert.ReferenceIdeal.Gen.k0_pay6 (F := Ideal) a.x a.w a.xs a.ws a.bt (ix3 d s (0 : Fin 1)) := by
  have hc := centred_eq o s
  unfold TIn.centred at hc
  pointwise [TIn.sumSq, Cert.KernelIdeal.Gen.k0_pay5, Cert.ReferenceIdeal.Gen.k0_pay6]
  simp only [hc]

/-- The reference's normalised activations. -/
def refY (a : TArr) : FVec Ideal Cert.ReferenceIdeal.S12x128x1024 .f32 :=
  Cert.ReferenceIdeal.Gen.k0_pay1 (F := Ideal) (Cert.ReferenceIdeal.Gen.k0_pay5 (F := Ideal) a.x a.w a.xs a.ws a.bt)
    (Cert.ReferenceIdeal.Gen.k0_pay6 (F := Ideal) a.x a.w a.xs a.ws a.bt) (Cert.ReferenceIdeal.Gen.k0_pay7 (F := Ideal)) a.gamma a.beta
/-- The reference's scales. -/
def refScale (a : TArr) : FVec Ideal Cert.ReferenceIdeal.S12x128x1 .f32 :=
  Cert.ReferenceIdeal.Gen.k0_pay2 (F := Ideal) (Cert.ReferenceIdeal.Gen.k0_pay5 (F := Ideal) a.x a.w a.xs a.ws a.bt)
    (Cert.ReferenceIdeal.Gen.k0_pay6 (F := Ideal) a.x a.w a.xs a.ws a.bt) (Cert.ReferenceIdeal.Gen.k0_pay7 (F := Ideal)) a.gamma a.beta
/-- The reference's codes. -/
def refCodes (a : TArr) : FVec Ideal Cert.ReferenceIdeal.S12x128x1024 .fp8e4m3 :=
  Cert.ReferenceIdeal.Gen.k0_pay3 (F := Ideal) (Cert.ReferenceIdeal.Gen.k0_pay5 (F := Ideal) a.x a.w a.xs a.ws a.bt)
    (Cert.ReferenceIdeal.Gen.k0_pay6 (F := Ideal) a.x a.w a.xs a.ws a.bt) (Cert.ReferenceIdeal.Gen.k0_pay7 (F := Ideal)) a.gamma a.beta

/-- The normalised activations of one document's row. -/
theorem y_eq (o : Of b a d) (s : Fin 128) (h : Fin 1024) :
    Cert.KernelIdeal.Gen.k0_pay6 b.centred b.sumSq b.gamma b.beta (ix2 s h) = refY a (ix3 d s h) := by
  pointwise [refY, Cert.KernelIdeal.Gen.k0_pay6, Cert.ReferenceIdeal.Gen.k0_pay1, Cert.ReferenceIdeal.Gen.k0_pay7]
  simp only [centred_eq o, sumSq_eq o, o.gamma, o.beta]

/-- The scale of one document's row. -/
theorem scale_eq (o : Of b a d) (s : Fin 128) :
    Cert.KernelIdeal.Gen.k0_pay7 b.centred b.sumSq b.gamma b.beta (ix2 s (0 : Fin 1)) = refScale a (ix3 d s (0 : Fin 1)) := by
  have hy := y_eq o s
  unfold refY at hy
  pointwise [refScale, Cert.KernelIdeal.Gen.k0_pay7, Cert.ReferenceIdeal.Gen.k0_pay2]
  simp only [hy]

/-- The codes of one document's row. -/
theorem codes_eq (o : Of b a d) (s : Fin 128) (h : Fin 1024) : b.codes (ix2 s h) = refCodes a (ix3 d s h) := by
  have hy := y_eq o s h
  have hs := scale_eq o s
  unfold refY at hy; unfold refScale at hs
  pointwise [TIn.codes, refCodes, Cert.KernelIdeal.Gen.k0_pay8, Cert.ReferenceIdeal.Gen.k0_pay3]
  simp only [hy, hs]

theorem codesBlk_eq (o : Of b a d) (s : Fin 128) (h : Fin 1024) : b.codesBlk (ix3 (0 : Fin 1) s h) = refCodes a (ix3 d s h) := by
  rw [← codes_eq o]
  pointwise [TIn.codesBlk, TIn.codes, Cert.KernelIdeal.Gen.k0_pay9]

theorem scaleRow_eq (o : Of b a d) (s : Fin 128) : b.scaleRow (ix2 (0 : Fin 1) s) = refScale a (ix3 d s (0 : Fin 1)) := by
  rw [← scale_eq o]
  pointwise [TIn.scaleRow, Cert.KernelIdeal.Gen.k0_pay11, Cert.KernelIdeal.Gen.k0_pay10]

end Cert.TransformValue

end
-- ==== Proof.TransformArr.lean ====
/-
  The transform call's blocks as parts of the launched arrays, and the two arrays of results it leaves: the codes and
  the scales, as the reference's functions of the launched arrays.
-/
module

public import proofs.«01_k».proof.Proof.TransformValue
public import proofs.«01_k».proof.Proof.WholeRun
public import Idealize.ShloMosaic.Lib.Pipeline.ValueKit
public import Idealize.ShloMosaic.Lib.Pointwise

@[expose] public section

set_option maxRecDepth 16384

noncomputable section

namespace Cert.KernelIdeal.Whole

open Cert.KernelIdeal Cert.KernelIdeal.Gen Cert.TransformValue
open Idealize.ShloMosaic
open Idealize.ShloMosaic.TcCoe Idealize.ShloMosaic.Tactic
open Idealize.ShloMosaic.Pipeline (Dat RDat Cfg Window)

variable (m : (ℓ : Loc nD τ sig) → Buf (Elt Ideal) ℓ) (c : Dev nD)

/-- The launched arrays as the reference's transform reads them. -/
def tarr : TArr where
  x := m ((c : Thread nD τ).loc main_arg0)
  xs := fun i => (m ((c : Thread nD τ).loc main_arg1) : FVec Ideal S12x128 .f32) (ix2 (i 0) (i 1))
  w := m ((c : Thread nD τ).loc main_arg3)
  ws := fun i => (m ((c : Thread nD τ).loc main_arg4) : FVec Ideal S1024 .f32) (ix1 (i 2))
  bt := fun i => (m ((c : Thread nD τ).loc main_arg5) : FVec Ideal S1024 .f32) (ix1 (i 2))
  gamma := fun i => (m ((c : Thread nD τ).loc main_arg6) : FVec Ideal S1024 .f32) (ix1 (i 2))
  beta := fun i => (m ((c : Thread nD τ).loc main_arg7) : FVec Ideal S1024 .f32) (ix1 (i 2))

/-- The first host stretch's reshapes, at an index. -/
theorem V1_v0 (h : Fin 1024) : (V1 m c main_v0 : FVec Ideal S1x1024 .f32) (ix2 (0 : Fin 1) h) = (m ((c : Thread nD τ).loc main_arg4) : FVec Ideal S1024 .f32) (ix1 h) := by
  have e : (V1 m c main_v0 : FVec Ideal S1x1024 .f32) = shapeCast (s := S1024) S1x1024 (m ((c : Thread nD τ).loc main_arg4) : FVec Ideal S1024 .f32) shapeCasts_S1024_S1x1024 := by
    show StableHlo.after hostOps0 _ _ = _
    after_results
    rfl
  rw [e]
  pointwise
theorem V1_v1 (h : Fin 1024) : (V1 m c main_v1 : FVec Ideal S1x1024 .f32) (ix2 (0 : Fin 1) h) = (m ((c : Thread nD τ).loc main_arg5) : FVec Ideal S1024 .f32) (ix1 h) := by
  have e : (V1 m c main_v1 : FVec Ideal S1x1024 .f32) = shapeCast (s := S1024) S1x1024 (m ((c : Thread nD τ).loc main_arg5) : FVec Ideal S1024 .f32) shapeCasts_S1024_S1x1024 := by
    show StableHlo.after hostOps0 _ _ = _
    after_results
    rfl
  rw [e]
  pointwise
theorem V1_v2 (h : Fin 1024) : (V1 m c main_v2 : FVec Ideal S1x1024 .f32) (ix2 (0 : Fin 1) h) = (m ((c : Thread nD τ).loc main_arg6) : FVec Ideal S1024 .f32) (ix1 h) := by
  have e : (V1 m c main_v2 : FVec Ideal S1x1024 .f32) = shapeCast (s := S1024) S1x1024 (m ((c : Thread nD τ).loc main_arg6) : FVec Ideal S1024 .f32) shapeCasts_S1024_S1x1024 := by
    show StableHlo.after hostOps0 _ _ = _
    after_results
    rfl
  rw [e]
  pointwise
theorem V1_v3 (h : Fin 1024) : (V1 m c main_v3 : FVec Ideal S1x1024 .f32) (ix2 (0 : Fin 1) h) = (m ((c : Thread nD τ).loc main_arg7) : FVec Ideal S1024 .f32) (ix1 h) := by
  have e : (V1 m c main_v3 : FVec Ideal S1x1024 .f32) = shapeCast (s := S1024) S1x1024 (m ((c : Thread nD τ).loc main_arg7) : FVec Ideal S1024 .f32) shapeCasts_S1024_S1x1024 := by
    show StableHlo.after hostOps0 _ _ = _
    after_results
    rfl
  rw [e]
  pointwise

/-- The point's row of documents, and the blocks its windows stand at. -/
theorem off1_val : ∀ t : Fin grid0.N, k0_off1 (grid0.coords t) 0 = t.val := by decide +kernel
theorem idx0_0 : ∀ t : Fin grid0.N, cc0_transform_0 (grid0.coords t) = ![t.val, 0, 0] := by decide +kernel
theorem idx0_1 : ∀ t : Fin grid0.N, cc0_transform_1 (grid0.coords t) = ![0, 0] := by decide +kernel
theorem idx0_2 : ∀ t : Fin grid0.N, cc0_transform_2 (grid0.coords t) = ![0, 0] := by decide +kernel
theorem idx0_3 : ∀ t : Fin grid0.N, cc0_transform_3 (grid0.coords t) = ![0, 0] := by decide +kernel
theorem idx0_7 : ∀ t : Fin grid0.N, cc0_transform_7 (grid0.coords t) = ![t.val, 0, 0] := by decide +kernel

variable (a : (pcfg0 (F := Ideal)).Adm)

/-- Where a document's block stands in its array. -/
theorem emb0 (t : Fin (cfg0 a).N) (y : S1x128x1024.Idx) : (((cfg0 a).win 0).blk t).view.emb y = (ix3 (⟨t.val, t.isLt⟩ : Fin 12) (y 1) (y 2) : S12x128x1024.Idx) := by
  funext ax
  apply Fin.ext
  refine (Window.rect_emb_val ((cfg0 a).win 0) t y ax).trans ?_
  have hi : ((cfg0 a).win 0).index t = ![t.val, 0, 0] := idx0_0 t
  rw [hi]
  have h0 : (y 0).val < 1 := (y 0).isLt
  fin_cases ax
  · show t.val * 1 + (y 0).val = t.val; omega
  · show 0 * 128 + (y 1).val = (y 1).val; omega
  · show 0 * 1024 + (y 2).val = (y 2).val; omega
theorem emb7 (t : Fin (cfg0 a).N) (y : S1x128x1024.Idx) : (((cfg0 a).win 7).blk t).view.emb y = (ix3 (⟨t.val, t.isLt⟩ : Fin 12) (y 1) (y 2) : S12x128x1024.Idx) := by
  funext ax
  apply Fin.ext
  refine (Window.rect_emb_val ((cfg0 a).win 7) t y ax).trans ?_
  have hi : ((cfg0 a).win 7).index t = ![t.val, 0, 0] := idx0_7 t
  rw [hi]
  have h0 : (y 0).val < 1 := (y 0).isLt
  fin_cases ax
  · show t.val * 1 + (y 0).val = t.val; omega
  · show 0 * 128 + (y 1).val = (y 1).val; omega
  · show 0 * 1024 + (y 2).val = (y 2).val; omega
theorem emb1 (t : Fin (cfg0 a).N) (y : S12x128.Idx) : (((cfg0 a).win 1).blk t).view.emb y = y := by
  funext ax
  apply Fin.ext
  refine (Window.rect_emb_val ((cfg0 a).win 1) t y ax).trans ?_
  have hi : ((cfg0 a).win 1).index t = ![0, 0] := idx0_1 t
  rw [hi]
  fin_cases ax <;> exact (by omega : ∀ n k : ℕ, 0 * n + k = k) _ _
theorem emb2 (t : Fin (cfg0 a).N) (y : S1024x1024.Idx) : (((cfg0 a).win 2).blk t).view.emb y = y := by
  funext ax
  apply Fin.ext
  refine (Window.rect_emb_val ((cfg0 a).win 2) t y ax).trans ?_
  have hi : ((cfg0 a).win 2).index t = ![0, 0] := idx0_2 t
  rw [hi]
  fin_cases ax <;> exact (by omega : ∀ n k : ℕ, 0 * n + k = k) _ _
theorem emb3 (t : Fin (cfg0 a).N) (y : S1x1024.Idx) : (((cfg0 a).win 3).blk t).view.emb y = y := by
  funext ax
  apply Fin.ext
  refine (Window.rect_emb_val ((cfg0 a).win 3) t y ax).trans ?_
  have hi : ((cfg0 a).win 3).index t = ![0, 0] := idx0_3 t
  rw [hi]
  fin_cases ax <;> exact (by omega : ∀ n k : ℕ, 0 * n + k = k) _ _

/-- What a point's blocks read of their arrays. -/
theorem read0 (A : Transform.Arrs a c) (t : Fin (cfg0 a).N) (y : S1x128x1024.Idx) :
    Transform.blk0 a c A 0 t y = (A 0 : FVec Ideal S12x128x1024 .fp8e4m3) (ix3 (⟨t.val, t.isLt⟩ : Fin 12) (y 1) (y 2)) := congrArg (A 0 : FVec Ideal S12x128x1024 .fp8e4m3) (emb0 a t y)
theorem read1 (A : Transform.Arrs a c) (t : Fin (cfg0 a).N) (y : S12x128.Idx) :
    Transform.blk0 a c A 1 t y = (A 1 : FVec Ideal S12x128 .f32) y := congrArg (A 1 : FVec Ideal S12x128 .f32) (emb1 a t y)
theorem read2 (A : Transform.Arrs a c) (t : Fin (cfg0 a).N) (y : S1024x1024.Idx) :
    Transform.blk0 a c A 2 t y = (A 2 : FVec Ideal S1024x1024 .fp8e4m3) y := congrArg (A 2 : FVec Ideal S1024x1024 .fp8e4m3) (emb2 a t y)
theorem read3 (A : Transform.Arrs a c) (t : Fin (cfg0 a).N) (y : S1x1024.Idx) :
    Transform.blk0 a c A 3 t y = (A 3 : FVec Ideal S1x1024 .f32) y := congrArg (A 3 : FVec Ideal S1x1024 .f32) (emb3 a t y)
theorem read4 (A : Transform.Arrs a c) (t : Fin (cfg0 a).N) (y : S1x1024.Idx) :
    Transform.blk0 a c A 4 t y = (A 4 : FVec Ideal S1x1024 .f32) y := congrArg (A 4 : FVec Ideal S1x1024 .f32) (emb3 a t y)
theorem read5 (A : Transform.Arrs a c) (t : Fin (cfg0 a).N) (y : S1x1024.Idx) :
    Transform.blk0 a c A 5 t y = (A 5 : FVec Ideal S1x1024 .f32) y := congrArg (A 5 : FVec Ideal S1x1024 .f32) (emb3 a t y)
theorem read6 (A : Transform.Arrs a c) (t : Fin (cfg0 a).N) (y : S1x1024.Idx) :
    Transform.blk0 a c A 6 t y = (A 6 : FVec Ideal S1x1024 .f32) y := congrArg (A 6 : FVec Ideal S1x1024 .f32) (emb3 a t y)

/-- The window of one row. -/
theorem row_window (x : FVec Ideal S12x128 .f32) (t : Fin 12) (s : Fin 128) :
    VecWindow.window (s := S12x128) x (k0_off2 (grid0.coords t)) S1x128.size (k0_off2_inb (grid0.coords t)) (ix2 (0 : Fin 1) s : S1x128.Idx) = x (ix2 t s) := by
  refine congrArg x (funext fun ax => Fin.ext ?_)
  obtain ⟨o0, o1⟩ := Transform.off2_val t
  match ax with
  | ⟨0, _⟩ => exact (show k0_off2 (grid0.coords t) 0 + 1 * 0 = t.val from by rw [o0]; omega)
  | ⟨1, _⟩ => exact (show k0_off2 (grid0.coords t) 1 + 1 * s.val = s.val from by rw [o1]; omega)

theorem of_x (t : Fin 12) (s : Fin 128) (k : Fin 1024) : (Transform.inT (adm0 m) c (A0 m c) t).x (ix3 (0 : Fin 1) s k) = (tarr m c).x (ix3 t s k) :=
  (read0 c (adm0 m) (A0 m c) t _).trans (congrFun (V1_of m c main_arg0 (by decide)) _)
theorem of_xs (t : Fin 12) (s : Fin 128) : (Transform.inT (adm0 m) c (A0 m c) t).xs (ix2 (0 : Fin 1) s) = (tarr m c).xs (ix3 t s (0 : Fin 1)) :=
  (row_window _ t s).trans ((read1 c (adm0 m) (A0 m c) t _).trans (congrFun (V1_of m c main_arg1 (by decide)) _))
theorem of_w (t : Fin 12) (k h : Fin 1024) : (Transform.inT (adm0 m) c (A0 m c) t).w (ix2 k h) = (tarr m c).w (ix2 k h) :=
  (read2 c (adm0 m) (A0 m c) t _).trans (congrFun (V1_of m c main_arg3 (by decide)) _)
theorem of_ws (t : Fin 12) (h : Fin 1024) : (Transform.inT (adm0 m) c (A0 m c) t).ws (ix2 (0 : Fin 1) h) = (tarr m c).ws (ix3 (0 : Fin 1) (0 : Fin 1) h) :=
  (read3 c (adm0 m) (A0 m c) t _).trans (V1_v0 m c h)
theorem of_bt (t : Fin 12) (h : Fin 1024) : (Transform.inT (adm0 m) c (A0 m c) t).bt (ix2 (0 : Fin 1) h) = (tarr m c).bt (ix3 (0 : Fin 1) (0 : Fin 1) h) :=
  (read4 c (adm0 m) (A0 m c) t _).trans (V1_v1 m c h)
theorem of_gamma (t : Fin 12) (h : Fin 1024) : (Transform.inT (adm0 m) c (A0 m c) t).gamma (ix2 (0 : Fin 1) h) = (tarr m c).gamma (ix3 (0 : Fin 1) (0 : Fin 1) h) :=
  (read5 c (adm0 m) (A0 m c) t _).trans (V1_v2 m c h)
theorem of_beta (t : Fin 12) (h : Fin 1024) : (Transform.inT (adm0 m) c (A0 m c) t).beta (ix2 (0 : Fin 1) h) = (tarr m c).beta (ix3 (0 : Fin 1) (0 : Fin 1) h) :=
  (read6 c (adm0 m) (A0 m c) t _).trans (V1_v3 m c h)

/-- What a point finds is its document's part of the launched arrays. -/
theorem of_point (t : Fin 12) : Of (Transform.inT (adm0 m) c (A0 m c) t) (tarr m c) t :=
  ⟨of_x m c t, of_xs m c t, of_w m c t, of_ws m c t, of_bt m c t, of_gamma m c t, of_beta m c t⟩

/-- Every document's blocks are written back at its point, the scales after the last. -/
theorem fl7 : ∀ t : Fin grid0.N, Window.flushOf grid0 true cc0_transform_7 t = true := by decide +kernel
theorem flush0_7 (t : Fin (cfg0 a).N) : ((cfg0 a).win 7).flush t = true := fl7 t
theorem fl8 : ∀ t : Fin grid0.N, Window.flushOf grid0 true cc0_transform_8 t = true → t.val = 11 := by decide +kernel

theorem blk_index (y : S1x128x1024.Idx) : y = (ix3 (0 : Fin 1) (y 1) (y 2) : S1x128x1024.Idx) := by
  funext ax
  have h0 : (y 0).val < 1 := (y 0).isLt
  fin_cases ax
  · exact Fin.ext (show (y 0).val = 0 by omega)
  · rfl
  · rfl
theorem arr_index (i : S12x128x1024.Idx) : i = (ix3 (⟨(i 0).val, (i 0).isLt⟩ : Fin 12) (i 1) (i 2) : S12x128x1024.Idx) := by
  funext ax
  fin_cases ax <;> rfl

/-- What a view's index stands at is in its set. -/
theorem mem_of_emb {κ} {sp : Space} {s : Shape} {e : EltTy} (v : View sig κ sp s e) (x : s.Idx) (i : v.ty.Idx) (h : v.emb x = i) : i ∈ v.set := h ▸ v.emb_mem_set x

theorem after7 (t : Fin 12) (y : S1x128x1024.Idx) : (Transform.inT (adm0 m) c (A0 m c) t).codesBlk y = refCodes (tarr m c) (ix3 t (y 1) (y 2)) :=
  (congrArg _ (blk_index y)).trans (codesBlk_eq (of_point m c t) (y 1) (y 2))

/-- The codes the call leaves, as its array. -/
def G7 : Buf (Elt Ideal) (((cfg0 (adm0 m)).win 7).arr.view.loc (c : Thread nD τ)) := refCodes (tarr m c)

theorem cover7 (i : S12x128x1024.Idx) : ∃ t : Fin (cfg0 a).N, ((cfg0 a).win 7).flush t = true ∧ i ∈ (((cfg0 a).win 7).blk t).view.set :=
  ⟨(⟨(i 0).val, (i 0).isLt⟩ : Fin 12), flush0_7 a _, mem_of_emb _ (ix3 (0 : Fin 1) (i 1) (i 2) : S1x128x1024.Idx) _ ((emb7 a _ _).trans (arr_index i).symm)⟩

/-- The codes the call leaves. -/
theorem arr7 : (Transform.dat0 (adm0 m) c (A0 m c)).arrAt 7 (cfg0 (adm0 m)).N = G7 m c :=
  (Transform.dat0 (adm0 m) c (A0 m c)).arrAt_eq_of_emb 7 (G7 m c)
    (fun t _ y => (after7 m c t y).trans (congrArg (refCodes (tarr m c)) (emb7 (adm0 m) t y).symm))
    (cover7 (adm0 m))

theorem idx0_8 : ∀ t : Fin grid0.N, cc0_transform_8 (grid0.coords t) = ![0, 0] := by decide +kernel

/-- The last point. -/
def last0 : Fin (cfg0 a).N := (⟨11, by decide⟩ : Fin 12)

theorem whole8 : ((cfg0 a).win 8).WholeAt (last0 a) := by
  refine ⟨(Transform.flush0_8 a _).trans rfl, ?_, ?_⟩
  · intro t h
    exact Fin.ext (fl8 t h)
  · intro ax
    refine ⟨(congrFun (idx0_8 (⟨11, by decide⟩ : Fin 12)) ax).trans ?_, ?_⟩
    · match ax with
      | ⟨0, _⟩ => rfl
      | ⟨1, _⟩ => rfl
    · match ax with
      | ⟨0, _⟩ => rfl
      | ⟨1, _⟩ => rfl

/-- The scales the call leaves, as its array. -/
def scales : FVec Ideal S12x128 .f32 := fun i => refScale (tarr m c) (ix3 (⟨(i 0).val, (i 0).isLt⟩ : Fin 12) (⟨(i 1).val, (i 1).isLt⟩ : Fin 128) (0 : Fin 1))
def G8 : Buf (Elt Ideal) (((cfg0 (adm0 m)).win 8).arr.view.loc (c : Thread nD τ)) := scales m c

theorem scaleAll_eq (j : S12x128.Idx) : Transform.scaleAll (adm0 m) c (A0 m c) j = scales m c j := by
  refine Eq.trans ?_ (scaleRow_eq (of_point m c (⟨(j 0).val, (j 0).isLt⟩ : Fin 12)) (⟨(j 1).val, (j 1).isLt⟩ : Fin 128))
  unfold Transform.scaleAll
  refine congrArg (Transform.inT (adm0 m) c (A0 m c) (⟨(j 0).val, (j 0).isLt⟩ : Fin 12)).scaleRow (funext fun ax => ?_)
  match ax with
  | ⟨0, _⟩ => rfl
  | ⟨1, _⟩ => rfl

section
theorem after0_8 (A : Transform.Arrs a c) (t : Fin (cfg0 a).N) (j : S12x128.Idx) : Transform.after0 a c A 8 t j = Transform.scaleAll a c A j := by unfold Transform.after0; rfl
theorem after8_apply (A : Transform.Arrs a c) (t : Fin (cfg0 a).N) (j : S12x128.Idx) : (Transform.dat0 a c A).after 8 t j = Transform.scaleAll a c A j := by
  unfold Transform.dat0 RDat.withAfter
  dsimp only
  exact after0_8 c a A t j
theorem after8_eq (A : Transform.Arrs a c) (t : Fin (cfg0 a).N) : (Transform.dat0 a c A).after 8 t = Transform.scaleAll a c A := funext fun j => after8_apply c a A t j
attribute [local irreducible] Transform.scaleAll Transform.dat0
def Gs (A : Transform.Arrs a c) : Buf (Elt Ideal) (((cfg0 a).win 8).arr.view.loc (c : Thread nD τ)) := Transform.scaleAll a c A
theorem arr8_eq (A : Transform.Arrs a c) : (Transform.dat0 a c A).arrAt 8 (cfg0 a).N = Gs c a A :=
  (Transform.dat0 a c A).arrAt_eq_of_after_last 8 (last0 _) (whole8 _) (Gs c a A) fun j => by
    exact congrFun (after8_eq c a A (last0 a)) j
end
theorem arr8 : (Transform.dat0 (adm0 m) c (A0 m c)).arrAt 8 (cfg0 (adm0 m)).N = G8 m c :=
  (arr8_eq c (adm0 m) (A0 m c)).trans (show Transform.scaleAll (adm0 m) c (A0 m c) = scales m c from funext fun j => scaleAll_eq m c j)

/-- The program's fifth and sixth results. -/
theorem codes_end (V : Valuation τ sig (Elt Ideal)) (hV : LeftBy m c V) : StableHlo.after hostOps2 V main_v4_0 = (refCodes (tarr m c) : Buf (Elt Ideal) ((c : Thread nD τ).loc main_v4_0)) :=
  (StableHlo.after_of_writes_sub hostOps2 _ hostOps2_writes (by decide)).trans <| (left_of m c V hV main_v4_0 (by decide)).trans <|
    (StableHlo.after_of_writes_sub hostOps1 _ hostOps1_writes (by decide)).trans <| (W2_arr m c 7).trans (arr7 m c)
theorem scale_end (V : Valuation τ sig (Elt Ideal)) (hV : LeftBy m c V) : StableHlo.after hostOps2 V main_v4_1 = (scales m c : Buf (Elt Ideal) ((c : Thread nD τ).loc main_v4_1)) :=
  (StableHlo.after_of_writes_sub hostOps2 _ hostOps2_writes (by decide)).trans <| (left_of m c V hV main_v4_1 (by decide)).trans <|
    (StableHlo.after_of_writes_sub hostOps1 _ hostOps1_writes (by decide)).trans <| (W2_arr m c 8).trans (arr8 m c)

end Cert.KernelIdeal.Whole

end
-- ==== Proof.ZValue.lean ====
/-
  The codes and the scales as the vocabulary call reads them: each tile of 256 channels with its even channels before
  its odd ones, and the rows past the document's length replaced by the first row.
-/
module

public import proofs.«01_k».proof.Proof.TransformValue
public import Idealize.ShloMosaic.Lib.Pointwise

@[expose] public section

set_option maxRecDepth 16384

noncomputable section

namespace Cert.KernelIdeal.ZValue

open Cert.KernelIdeal Cert.KernelIdeal.Gen Cert.KernelIdeal.Transform Cert.TransformValue
open Idealize.ShloMosaic
open Idealize.ShloMosaic.Tactic

/-- The channel that a tile's column selects. -/
def chanOf (c : Fin 256) : Fin 256 := ⟨2 * (c.val % 128) + c.val / 128, by omega⟩

/-- The row that stands in for a row. -/
def rowIn (len : BitVec 32) (s : Fin 128) : Fin 128 := if IntOp.cmpi .slt (BitVec.ofNat 32 s.val) len = 1#1 then s else 0

theorem hot (r c : Fin 256) : (k0_pay16 (F := Ideal)) (ix2 r c) = if r = chanOf c then 1 else 0 := by
  pointwise [k0_pay16]
  have key : ∀ r c : Fin 256, (IntOp.cmpi .eq (BitVec.ofNat 32 r.val) (Scalar.select (IntOp.cmpi .slt (BitVec.ofNat 32 c.val) 128#32) (IntOp.muli 2#32 (BitVec.ofNat 32 c.val)) (IntOp.addi (IntOp.muli 2#32 (IntOp.subi (BitVec.ofNat 32 c.val) 128#32)) 1#32)) = 1#1) ↔ r = chanOf c := by
    have : ∀ c : Fin 256, (Scalar.select (IntOp.cmpi .slt (BitVec.ofNat 32 c.val) 128#32) (IntOp.muli 2#32 (BitVec.ofNat 32 c.val)) (IntOp.addi (IntOp.muli 2#32 (IntOp.subi (BitVec.ofNat 32 c.val) 128#32)) 1#32) : BitVec 32) = BitVec.ofNat 32 (chanOf c).val := by decide +kernel
    intro r c
    rw [this]
    have h1 := r.isLt
    have h2 := (chanOf c).isLt
    constructor
    · intro h
      have : BitVec.ofNat 32 r.val = BitVec.ofNat 32 (chanOf c).val := by
        by_contra hne
        have h2 : (BitVec.ofNat 32 r.val == BitVec.ofNat 32 (chanOf c).val) = false := by simpa using hne
        have h3 : IntOp.cmpi .eq (BitVec.ofNat 32 r.val) (BitVec.ofNat 32 (chanOf c).val) = BitVec.ofBool (BitVec.ofNat 32 r.val == BitVec.ofNat 32 (chanOf c).val) := rfl
        rw [h3, h2] at h
        exact absurd h (by decide)
      have := congrArg BitVec.toNat this
      rw [BitVec.toNat_ofNat, BitVec.toNat_ofNat, Nat.mod_eq_of_lt (by omega), Nat.mod_eq_of_lt (by omega)] at this
      exact Fin.ext this
    · intro h; rw [h]; simp [IntOp.cmpi]
  by_cases h : r = chanOf c
  · rw [if_pos h, (key r c).mpr h]
    refine (show _ = ((((1#1 : BitVec 1).setWidth 32).toInt : ℝ) : EReal) from rfl).trans ?_
    rw [show ((1#1 : BitVec 1).setWidth 32).toInt = 1 from rfl]
    norm_num
  · rw [if_neg h]
    have h0 := mt (key r c).mp h
    have h1 := BitVec.eq_zero_or_eq_one (IntOp.cmpi .eq (BitVec.ofNat 32 r.val) (Scalar.select (IntOp.cmpi .slt (BitVec.ofNat 32 c.val) 128#32) (IntOp.muli 2#32 (BitVec.ofNat 32 c.val)) (IntOp.addi (IntOp.muli 2#32 (IntOp.subi (BitVec.ofNat 32 c.val) 128#32)) 1#32)))
    rw [h1.resolve_right h0]
    refine (show _ = ((((0#1 : BitVec 1).setWidth 32).toInt : ℝ) : EReal) from rfl).trans ?_
    rw [show ((0#1 : BitVec 1).setWidth 32).toInt = 0 from rfl]
    norm_num

theorem valid (len : BitVec 32) (s : Fin 128) : k0_pay12 (F := Ideal) len (ix2 s (0 : Fin 1)) = IntOp.cmpi .slt (BitVec.ofNat 32 s.val) len := by
  pointwise [k0_pay12]

/-- Tile `t`'s selected codes. -/
theorem pick (x : FVec Ideal S128x1024 .fp8e4m3) (o : ℕ) (ho : o + 256 ≤ 1024) (s : Fin 128) (c : Fin 256) :
    (∑ k : Fin 256, x (ix2 s (⟨o + k.val, by omega⟩ : Fin 1024)) * (k0_pay16 (F := Ideal)) (ix2 k c)) = x (ix2 s (⟨o + (chanOf c).val, by omega⟩ : Fin 1024)) := by
  simp only [hot]
  rw [Finset.sum_eq_single (chanOf c)]
  · rw [if_pos rfl, mul_one]
  · intro k _ hk; rw [if_neg hk, mul_zero]
  · intro h; exact absurd (Finset.mem_univ _) h

theorem pay17 (x : FVec Ideal S128x1024 .fp8e4m3) (len : BitVec 32) (s : Fin 128) (c : Fin 256) :
    k0_pay17 x (k0_pay12 (F := Ideal) len) (ix3 (0 : Fin 1) s c) = x (ix2 (rowIn len s) (⟨0 + (chanOf c).val, by omega⟩ : Fin 1024)) := by
  have e := valid len s
  generalize k0_pay12 (F := Ideal) len = v at *
  unfold k0_pay17
  have h := fun s => pick x 0 (by omega) s c
  generalize k0_pay16 (F := Ideal) = w at *
  simp only [Nat.zero_add] at h ⊢
  pointwise
  rw [h s, h 0, e]
  unfold rowIn
  by_cases g : IntOp.cmpi .slt (BitVec.ofNat 32 s.val) len = 1#1
  · rw [if_pos g, g]; rfl
  · rw [if_neg g, (BitVec.eq_zero_or_eq_one _).resolve_right g]; rfl

theorem pay18 (x : FVec Ideal S128x1024 .fp8e4m3) (len : BitVec 32) (s : Fin 128) (c : Fin 256) :
    k0_pay1 (k0_pay18 x (k0_pay12 (F := Ideal) len)) (ix3 (0 : Fin 1) s c) = x (ix2 (rowIn len s) (⟨256 + (chanOf c).val, by omega⟩ : Fin 1024)) := by
  have e := valid len s
  generalize k0_pay12 (F := Ideal) len = v at *
  unfold k0_pay18 k0_pay1
  have h := fun s => pick x 256 (by omega) s c
  generalize k0_pay16 (F := Ideal) = w at *
  pointwise
  rw [h s, h 0, e]
  unfold rowIn
  by_cases g : IntOp.cmpi .slt (BitVec.ofNat 32 s.val) len = 1#1
  · rw [if_pos g, g]; rfl
  · rw [if_neg g, (BitVec.eq_zero_or_eq_one _).resolve_right g]; rfl

theorem pay2 (x : FVec Ideal S128x1024 .fp8e4m3) (len : BitVec 32) (s : Fin 128) (c : Fin 256) :
    k0_pay2 x (k0_pay12 (F := Ideal) len) (k0_pay16 (F := Ideal)) (ix3 (0 : Fin 1) s c) = x (ix2 (rowIn len s) (⟨512 + (chanOf c).val, by omega⟩ : Fin 1024)) := by
  have e := valid len s
  generalize k0_pay12 (F := Ideal) len = v at *
  unfold k0_pay2
  have h := fun s => pick x 512 (by omega) s c
  generalize k0_pay16 (F := Ideal) = w at *
  pointwise
  rw [h s, h 0, e]
  unfold rowIn
  by_cases g : IntOp.cmpi .slt (BitVec.ofNat 32 s.val) len = 1#1
  · rw [if_pos g, g]; rfl
  · rw [if_neg g, (BitVec.eq_zero_or_eq_one _).resolve_right g]; rfl

theorem pay3 (x : FVec Ideal S128x1024 .fp8e4m3) (len : BitVec 32) (s : Fin 128) (c : Fin 256) :
    k0_pay3 x (k0_pay12 (F := Ideal) len) (k0_pay16 (F := Ideal)) (ix3 (0 : Fin 1) s c) = x (ix2 (rowIn len s) (⟨768 + (chanOf c).val, by omega⟩ : Fin 1024)) := by
  have e := valid len s
  generalize k0_pay12 (F := Ideal) len = v at *
  unfold k0_pay3
  have h := fun s => pick x 768 (by omega) s c
  generalize k0_pay16 (F := Ideal) = w at *
  pointwise
  rw [h s, h 0, e]
  unfold rowIn
  by_cases g : IntOp.cmpi .slt (BitVec.ofNat 32 s.val) len = 1#1
  · rw [if_pos g, g]; rfl
  · rw [if_neg g, (BitVec.eq_zero_or_eq_one _).resolve_right g]; rfl

theorem zs_core (y : FVec Ideal S128x1 .f32) (v : IVec S128x1 1) (s l : Fin 128) :
    k0_pay15 (broadcastTo S128x128 (shapeCast S128x1 y shapeCasts_S128x1_S128x1) broadcasts_S128x1_S128x128)
      (extractStridedSlice S1x128 ![0, 0] (broadcastTo S128x128 (shapeCast S128x1 y shapeCasts_S128x1_S128x1) broadcasts_S128x1_S128x128) slices_S128x128_o0_0_S1x128)
      (shapeCast S128x1 v shapeCasts_S128x1_S128x1) (ix3 (0 : Fin 1) s l)
      = Scalar.select (v (ix2 s (0 : Fin 1))) (y (ix2 s (0 : Fin 1))) (y (ix2 (0 : Fin 128) (0 : Fin 1))) := by
  unfold k0_pay15
  pointwise

theorem select_row (v : BitVec 1) (len : BitVec 32) (s : Fin 128) (e : v = IntOp.cmpi .slt (BitVec.ofNat 32 s.val) len) (f : Fin 128 → EReal) :
    Scalar.select v (f s) (f 0) = f (rowIn len s) := by
  subst e
  unfold rowIn
  by_cases g : IntOp.cmpi .slt (BitVec.ofNat 32 s.val) len = 1#1
  · rw [if_pos g, g]; rfl
  · rw [if_neg g, (BitVec.eq_zero_or_eq_one _).resolve_right g]; rfl

theorem zs_pay (v35 : FVec Ideal S128x1024 .f32) (v40 : FVec Ideal S128x1 .f32) (v46 v50 : Vec Ideal S1x1024 .f32) (len : BitVec 32) (s l : Fin 128) :
    k0_pay15 (k0_pay10 v35 v40 v46 v50) (k0_pay13 v35 v40 v46 v50) (k0_pay14 (F := Ideal) len) (ix3 (0 : Fin 1) s l) = k0_pay7 v35 v40 v46 v50 (ix2 (rowIn len s) (0 : Fin 1)) := by
  unfold k0_pay13 k0_pay10 k0_pay14
  exact (zs_core (k0_pay7 v35 v40 v46 v50) (k0_pay12 (F := Ideal) len) s l).trans (select_row _ len s (valid len s) fun s => k0_pay7 v35 v40 v46 v50 (ix2 s (0 : Fin 1)))

theorem zs_apply (b : TIn Ideal) (s l : Fin 128) : b.zsBlk (ix3 (0 : Fin 1) s l) = k0_pay7 b.centred b.sumSq b.gamma b.beta (ix2 (rowIn b.len s) (0 : Fin 1)) :=
  zs_pay b.centred b.sumSq b.gamma b.beta b.len s l

theorem put_tile (y : S1x128x1024.Idx → EReal) (o : ℕ) (w : S1x128x256.Idx → EReal) (s : Fin 128) (k : Fin 1024) :
    VecWindow.put y ![0, 0, o] S1x128x256.size w (ix3 (0 : Fin 1) s k) = if h : o ≤ k.val ∧ k.val < o + 256 then w (ix3 (0 : Fin 1) s (⟨k.val - o, by omega⟩ : Fin 256)) else y (ix3 (0 : Fin 1) s k) := by
  unfold VecWindow.put
  by_cases hk : o ≤ k.val ∧ k.val < o + 256
  · rw [dif_pos hk]
    have h : ∀ a, (![0, 0, o] : Fin 3 → ℕ) a ≤ (ix3 (n0 := 1) (n1 := 128) (n2 := 1024) 0 s k a).val ∧ (ix3 (n0 := 1) (n1 := 128) (n2 := 1024) 0 s k a).val < (![0, 0, o] : Fin 3 → ℕ) a + S1x128x256.size a := fun a => by
      match a with
      | ⟨0, _⟩ => exact ⟨Nat.zero_le _, Nat.zero_lt_one⟩
      | ⟨1, _⟩ => exact ⟨Nat.zero_le _, by show s.val < 0 + 128; omega⟩
      | ⟨2, _⟩ => exact hk
    refine (dif_pos h).trans (congrArg w ?_)
    funext a
    match a with
    | ⟨0, _⟩ => exact Fin.ext (by show 0 - 0 = 0; omega)
    | ⟨1, _⟩ => exact Fin.ext (by show s.val - 0 = s.val; omega)
    | ⟨2, _⟩ => rfl
  · rw [dif_neg hk]
    exact dif_neg fun h => hk (h (2 : Fin 3))

/-- The channel a column of the vocabulary call's block of codes holds. -/
def chan (k : Fin 1024) : Fin 1024 := ⟨256 * (k.val / 256) + 2 * (k.val % 128) + k.val % 256 / 128, by omega⟩

theorem z_apply (b : TIn Ideal) (s : Fin 128) (k : Fin 1024) : b.zBlk (ix3 (0 : Fin 1) s k) = b.codes (ix2 (rowIn b.len s) (chan k)) := by
  unfold TIn.zBlk
  refine (put_tile _ 768 _ s k).trans ?_
  by_cases g768 : 768 ≤ k.val ∧ k.val < 768 + 256
  · rw [dif_pos g768]
    refine (pay3 b.codes b.len s _).trans (congrArg (fun i => b.codes (ix2 (rowIn b.len s) i)) (Fin.ext ?_))
    show 768 + (2 * ((k.val - 768) % 128) + (k.val - 768) / 128) = 256 * (k.val / 256) + 2 * (k.val % 128) + k.val % 256 / 128
    omega
  rw [dif_neg g768]
  refine (put_tile _ 512 _ s k).trans ?_
  by_cases g512 : 512 ≤ k.val ∧ k.val < 512 + 256
  · rw [dif_pos g512]
    refine (pay2 b.codes b.len s _).trans (congrArg (fun i => b.codes (ix2 (rowIn b.len s) i)) (Fin.ext ?_))
    show 512 + (2 * ((k.val - 512) % 128) + (k.val - 512) / 128) = 256 * (k.val / 256) + 2 * (k.val % 128) + k.val % 256 / 128
    omega
  rw [dif_neg g512]
  refine (put_tile _ 256 _ s k).trans ?_
  by_cases g256 : 256 ≤ k.val ∧ k.val < 256 + 256
  · rw [dif_pos g256]
    refine (pay18 b.codes b.len s _).trans (congrArg (fun i => b.codes (ix2 (rowIn b.len s) i)) (Fin.ext ?_))
    show 256 + (2 * ((k.val - 256) % 128) + (k.val - 256) / 128) = 256 * (k.val / 256) + 2 * (k.val % 128) + k.val % 256 / 128
    omega
  rw [dif_neg g256]
  refine (put_tile _ 0 _ s k).trans ?_
  by_cases g0 : 0 ≤ k.val ∧ k.val < 0 + 256
  · rw [dif_pos g0]
    refine (pay17 b.codes b.len s _).trans (congrArg (fun i => b.codes (ix2 (rowIn b.len s) i)) (Fin.ext ?_))
    show 0 + (2 * ((k.val - 0) % 128) + (k.val - 0) / 128) = 256 * (k.val / 256) + 2 * (k.val % 128) + k.val % 256 / 128
    omega
  rw [dif_neg g0]
  omega

end Cert.KernelIdeal.ZValue

end
-- ==== Proof.ZArr.lean ====
/-
  The two arrays that the transform call leaves for the vocabulary call: the codes and the scales of the documents, their
  rows past a document's length replaced by its first row.
-/
module

public import proofs.«01_k».proof.Proof.TransformArr
public import proofs.«01_k».proof.Proof.ZValue

@[expose] public section

set_option maxRecDepth 16384

noncomputable section

namespace Cert.KernelIdeal.Whole

open Cert.KernelIdeal Cert.KernelIdeal.Gen Cert.TransformValue Cert.KernelIdeal.ZValue
open Idealize.ShloMosaic
open Idealize.ShloMosaic.TcCoe Idealize.ShloMosaic.Tactic
open Idealize.ShloMosaic.Pipeline (Dat RDat Cfg Window)

variable (m : (ℓ : Loc nD τ sig) → Buf (Elt Ideal) ℓ) (c : Dev nD)

/-- A document's length. -/
def lenOf (d : Fin 12) : BitVec 32 := (m ((c : Thread nD τ).loc main_arg2) : IVec S12 32) (ix1 d)

theorem len_point (t : Fin 12) : (Transform.inT (adm0 m) c (A0 m c) t).len = lenOf m c t := by
  have hc : c = 0 := Subsingleton.elim _ _
  subst hc
  show (lens m) _ = lens m (ix1 t)
  refine congrArg (lens m) (funext fun ax => Fin.ext ?_)
  match ax with
  | ⟨0, _⟩ => exact (show k0_off1 (grid0.coords t) 0 + 1 * 0 = t.val from (Nat.add_zero _).trans (off1_val t))

theorem idx0_9 : ∀ t : Fin grid0.N, cc0_transform_9 (grid0.coords t) = ![t.val, 0, 0] := by decide +kernel
theorem idx0_10 : ∀ t : Fin grid0.N, cc0_transform_10 (grid0.coords t) = ![t.val, 0, 0] := by decide +kernel
theorem fl9 : ∀ t : Fin grid0.N, Window.flushOf grid0 true cc0_transform_9 t = true := by decide +kernel
theorem fl10 : ∀ t : Fin grid0.N, Window.flushOf grid0 true cc0_transform_10 t = true := by decide +kernel

variable (a : (pcfg0 (F := Ideal)).Adm)

theorem flush0_9 (t : Fin (cfg0 a).N) : ((cfg0 a).win 9).flush t = true := fl9 t
theorem flush0_10 (t : Fin (cfg0 a).N) : ((cfg0 a).win 10).flush t = true := fl10 t
theorem emb9 (t : Fin (cfg0 a).N) (y : S1x128x1024.Idx) : (((cfg0 a).win 9).blk t).view.emb y = (ix3 (⟨t.val, t.isLt⟩ : Fin 12) (y 1) (y 2) : S12x128x1024.Idx) := by
  funext ax
  apply Fin.ext
  refine (Window.rect_emb_val ((cfg0 a).win 9) t y ax).trans ?_
  have hi : ((cfg0 a).win 9).index t = ![t.val, 0, 0] := idx0_9 t
  rw [hi]
  have h0 : (y 0).val < 1 := (y 0).isLt
  fin_cases ax
  · show t.val * 1 + (y 0).val = t.val; omega
  · show 0 * 128 + (y 1).val = (y 1).val; omega
  · show 0 * 1024 + (y 2).val = (y 2).val; omega
theorem emb10 (t : Fin (cfg0 a).N) (y : S1x128x128.Idx) : (((cfg0 a).win 10).blk t).view.emb y = (ix3 (⟨t.val, t.isLt⟩ : Fin 12) (y 1) (y 2) : S12x128x128.Idx) := by
  funext ax
  apply Fin.ext
  refine (Window.rect_emb_val ((cfg0 a).win 10) t y ax).trans ?_
  have hi : ((cfg0 a).win 10).index t = ![t.val, 0, 0] := idx0_10 t
  rw [hi]
  have h0 : (y 0).val < 1 := (y 0).isLt
  fin_cases ax
  · show t.val * 1 + (y 0).val = t.val; omega
  · show 0 * 128 + (y 1).val = (y 1).val; omega
  · show 0 * 128 + (y 2).val = (y 2).val; omega

theorem blk_index10 (y : S1x128x128.Idx) : y = (ix3 (0 : Fin 1) (y 1) (y 2) : S1x128x128.Idx) := by
  funext ax
  have h0 : (y 0).val < 1 := (y 0).isLt
  fin_cases ax
  · exact Fin.ext (show (y 0).val = 0 by omega)
  · rfl
  · rfl
theorem arr_index10 (i : S12x128x128.Idx) : i = (ix3 (⟨(i 0).val, (i 0).isLt⟩ : Fin 12) (i 1) (i 2) : S12x128x128.Idx) := by
  funext ax
  fin_cases ax <;> rfl

/-- The codes as the vocabulary call reads them. -/
def zAll : FVec Ideal S12x128x1024 .bf16 := fun i =>
  refCodes (tarr m c) (ix3 (⟨(i 0).val, (i 0).isLt⟩ : Fin 12) (rowIn (lenOf m c ⟨(i 0).val, (i 0).isLt⟩) ⟨(i 1).val, (i 1).isLt⟩) (chan ⟨(i 2).val, (i 2).isLt⟩))
/-- The scales as the vocabulary call reads them. -/
def zsAll : FVec Ideal S12x128x128 .f32 := fun i =>
  refScale (tarr m c) (ix3 (⟨(i 0).val, (i 0).isLt⟩ : Fin 12) (rowIn (lenOf m c ⟨(i 0).val, (i 0).isLt⟩) ⟨(i 1).val, (i 1).isLt⟩) (0 : Fin 1))

theorem after9 (t : Fin 12) (y : S1x128x1024.Idx) : (Transform.inT (adm0 m) c (A0 m c) t).zBlk y = zAll m c (ix3 t (y 1) (y 2)) := by
  refine (congrArg _ (blk_index y)).trans ((z_apply _ (y 1) (y 2)).trans ?_)
  refine (codes_eq (of_point m c t) _ _).trans ?_
  rw [len_point]
  rfl
theorem after10 (t : Fin 12) (y : S1x128x128.Idx) : (Transform.inT (adm0 m) c (A0 m c) t).zsBlk y = zsAll m c (ix3 t (y 1) (y 2)) := by
  refine (congrArg _ (blk_index10 y)).trans ((zs_apply _ (y 1) (y 2)).trans ?_)
  refine (scale_eq (of_point m c t) _).trans ?_
  rw [len_point]
  rfl

def G9 : Buf (Elt Ideal) (((cfg0 (adm0 m)).win 9).arr.view.loc (c : Thread nD τ)) := zAll m c
def G10 : Buf (Elt Ideal) (((cfg0 (adm0 m)).win 10).arr.view.loc (c : Thread nD τ)) := zsAll m c

theorem cover9 (i : S12x128x1024.Idx) : ∃ t : Fin (cfg0 a).N, ((cfg0 a).win 9).flush t = true ∧ i ∈ (((cfg0 a).win 9).blk t).view.set :=
  ⟨(⟨(i 0).val, (i 0).isLt⟩ : Fin 12), flush0_9 a _, mem_of_emb _ (ix3 (0 : Fin 1) (i 1) (i 2) : S1x128x1024.Idx) _ ((emb9 a _ _).trans (arr_index i).symm)⟩
theorem cover10 (i : S12x128x128.Idx) : ∃ t : Fin (cfg0 a).N, ((cfg0 a).win 10).flush t = true ∧ i ∈ (((cfg0 a).win 10).blk t).view.set :=
  ⟨(⟨(i 0).val, (i 0).isLt⟩ : Fin 12), flush0_10 a _, mem_of_emb _ (ix3 (0 : Fin 1) (i 1) (i 2) : S1x128x128.Idx) _ ((emb10 a _ _).trans (arr_index10 i).symm)⟩

theorem arr9 : (Transform.dat0 (adm0 m) c (A0 m c)).arrAt 9 (cfg0 (adm0 m)).N = G9 m c :=
  (Transform.dat0 (adm0 m) c (A0 m c)).arrAt_eq_of_emb 9 (G9 m c)
    (fun t _ y => (after9 m c t y).trans (congrArg (zAll m c) (emb9 (adm0 m) t y).symm))
    (cover9 (adm0 m))
theorem arr10 : (Transform.dat0 (adm0 m) c (A0 m c)).arrAt 10 (cfg0 (adm0 m)).N = G10 m c :=
  (Transform.dat0 (adm0 m) c (A0 m c)).arrAt_eq_of_emb 10 (G10 m c)
    (fun t _ y => (after10 m c t y).trans (congrArg (zsAll m c) (emb10 (adm0 m) t y).symm))
    (cover10 (adm0 m))

theorem transpose_at (x : FVec Ideal S50368x8 .f32) (g : Fin 8) (v : Fin 50368) : transpose S8x50368 [1, 0] x transposes_S50368x8_S8x50368_1_0 (ix2 g v) = x (ix2 v g) := by
  pointwise
theorem row_at (x : FVec Ideal S50368 .f32) (v : Fin 50368) : shapeCast (s := S50368) S1x50368 x shapeCasts_S50368_S1x50368 (ix2 (0 : Fin 1) v) = x (ix1 v) := by
  pointwise

/-- The arrays the vocabulary call finds. -/
theorem A1_0 : A1 m c 0 = (zAll m c : Buf (Elt Ideal) ((c : Thread nD τ).loc main_v4_2)) :=
  (StableHlo.after_of_writes_sub hostOps1 _ hostOps1_writes (by decide)).trans ((W2_arr m c 9).trans (arr9 m c))
theorem A1_1 : A1 m c 1 = (zsAll m c : Buf (Elt Ideal) ((c : Thread nD τ).loc main_v4_3)) :=
  (StableHlo.after_of_writes_sub hostOps1 _ hostOps1_writes (by decide)).trans ((W2_arr m c 10).trans (arr10 m c))
theorem A1_2 : A1 m c 2 = (m ((c : Thread nD τ).loc main_arg8) : Buf (Elt Ideal) ((c : Thread nD τ).loc main_arg8)) :=
  (StableHlo.after_of_writes_sub hostOps1 _ hostOps1_writes (by decide)).trans ((W2_of m c main_arg8 (by decide)).trans (V1_of m c main_arg8 (by decide)))
theorem A1_3 (g : Fin 8) (v : Fin 50368) : (A1 m c 3 : FVec Ideal S8x50368 .f32) (ix2 g v) = (m ((c : Thread nD τ).loc main_arg9) : FVec Ideal S50368x8 .f32) (ix2 v g) := by
  have e : (StableHlo.after hostOps1 (W2 m c) main_v5 : FVec Ideal S8x50368 .f32) = transpose S8x50368 [1, 0] (W2 m c main_arg9 : FVec Ideal S50368x8 .f32) transposes_S50368x8_S8x50368_1_0 := by
    show StableHlo.after hostOps1 _ _ = _
    after_results
  refine (congrFun e _).trans ((transpose_at _ g v).trans ?_)
  exact congrFun ((W2_of m c main_arg9 (by decide)).trans (V1_of m c main_arg9 (by decide))) _
theorem A1_4 (v : Fin 50368) : (A1 m c 4 : FVec Ideal S1x50368 .f32) (ix2 (0 : Fin 1) v) = (m ((c : Thread nD τ).loc main_arg10) : FVec Ideal S50368 .f32) (ix1 v) := by
  have e : (StableHlo.after hostOps1 (W2 m c) main_v6 : FVec Ideal S1x50368 .f32) = shapeCast (s := S50368) S1x50368 (W2 m c main_arg10 : FVec Ideal S50368 .f32) shapeCasts_S50368_S1x50368 := by
    show StableHlo.after hostOps1 _ _ = _
    after_results
    rfl
  refine (congrFun e _).trans ((row_at _ v).trans ?_)
  exact congrFun ((W2_of m c main_arg10 (by decide)).trans (V1_of m c main_arg10 (by decide))) _

end Cert.KernelIdeal.Whole

end
-- ==== Proof.VocabTile.lean ====
/-
  The vocabulary call's tile of dequantised rows, at an index: which byte of the packed block and which group's scale
  each element is made of.
-/
module

public import proofs.«01_k».proof.Proof.VocabPure
public import Idealize.ShloMosaic.Lib.Pointwise
public import Idealize.ShloMosaic.Lib.BitcastPair
public import Idealize.ShloMosaic.Lib.BitcastFour
public import Idealize.ShloMosaic.Lib.Pipeline.Value

@[expose] public section

set_option maxRecDepth 16384

noncomputable section

namespace Cert.KernelIdeal.Vocab

open Cert.KernelIdeal Cert.KernelIdeal.Gen
open Idealize.ShloMosaic Idealize.SL.Sem
open Idealize.ShloMosaic.Tactic

/-! ## The tile's pieces, each a function of the lane group's offset, the byte column and the shift -/

/-- The lanes to gather the scales of: the lane group `n` on. -/
def gIdx (n : BitVec 32) : IVec S64x128 32 :=
  shapeCast S64x128 (shapeCast S64x128x1 (select (cmpi .slt (addi k1_pay12 (broadcast S64x128 n)) (broadcast S64x128 0#32)) (addi (addi k1_pay12 (broadcast S64x128 n)) (broadcast S64x128 128#32)) (addi k1_pay12 (broadcast S64x128 n))) shapeCasts_S64x128_S64x128x1) shapeCasts_S64x128x1_S64x128

/-- The scales of one row out of four. -/
def gsRow (k : ℕ) (h : S64x4x128.Slices ![0, k, 0] S64x1x128) (gs : FVec Ideal S64x4x128 .f32) : FVec Ideal S64x128 .f32 :=
  shapeCast S64x128 (extractStridedSlice S64x1x128 ![0, k, 0] gs h) shapeCasts_S64x1x128_S64x128

/-- The scales of half a tile's rows. -/
def scl (k k' : ℕ) (h : S64x4x128.Slices ![0, k, 0] S64x1x128) (h' : S64x4x128.Slices ![0, k', 0] S64x1x128) (n : BitVec 32) (gs : FVec Ideal S64x4x128 .f32) : FVec Ideal S128x128 .bf16 :=
  interleaveRows S128x128 (truncf .bf16 (dynamicGather 1 (gsRow k h gs) (gIdx n))) (truncf .bf16 (dynamicGather 1 (gsRow k' h' gs) (gIdx n))) bitcasts_S128x128_w16_S64x128_w32

/-- Half a tile's words, masked to one nibble of each half word and set below the exponent. -/
def nibW (o : ℕ) (h : S64x512.Slices ![0, o] S64x128) (sh : BitVec 32) (q : IVec S64x512 32) : IVec S64x128 32 :=
  xori (andi (shrui (extractStridedSlice S64x128 ![0, o] q h) (broadcast S64x128 sh)) (broadcast S64x128 983055#32)) (broadcast S64x128 1124614920#32)

/-- The signed nibbles of half a tile. -/
def nib (o : ℕ) (h : S64x512.Slices ![0, o] S64x128) (sh : BitVec 32) (q : IVec S64x512 32) : FVec Ideal S128x128 .bf16 :=
  subf (bitcastToFloat .bf16 (bitcast S128x128 16 (nibW o h sh q) bitcasts_S64x128_w32_S128x128_w16)) (broadcast S128x128 (Scalar.ofBits .bf16 0x4308#16))

/-- A tile's half: low nibbles, then high ones, of the rows whose bytes are the words' `p`th and `p + 2`th. -/
def half (o : ℕ) (h : S64x512.Slices ![0, o] S64x128) (sh sh' : BitVec 32) (q : IVec S64x512 32) (s : FVec Ideal S128x128 .bf16) : FVec Ideal S128x256 .bf16 :=
  concatenate S128x256 1 [⟨S128x128, mulf (nib o h sh q) s⟩, ⟨S128x128, mulf (nib o h sh' q) s⟩] concatenates_S128x128_S128x128_S128x256_d1

def tile (o : ℕ) (h : S64x512.Slices ![0, o] S64x128) (n : BitVec 32) (q : IVec S64x512 32) (gs : FVec Ideal S64x4x128 .f32) : FVec Ideal S256x256 .bf16 :=
  concatenate S256x256 0 [⟨S128x256, half o h 0#32 4#32 q (scl 0 2 slices_S64x4x128_o0_0_0_S64x1x128 slices_S64x4x128_o0_2_0_S64x1x128 n gs)⟩,
    ⟨S128x256, half o h 8#32 12#32 q (scl 1 3 slices_S64x4x128_o0_1_0_S64x1x128 slices_S64x4x128_o0_3_0_S64x1x128 n gs)⟩] concatenates_S128x256_S128x256_S256x256_d0

theorem wTile_eq (x3 : Vec Ideal S256x512 .i8) (x4 : Vec Ideal S8x256 .f32) :
    wTile x3 x4 = concatenate S256x1024 1 [⟨S256x256, tile 0 slices_S64x512_o0_0_S64x128 0#32 (wq0 (F := Ideal) x3) (wq1 x4)⟩, ⟨S256x256, tile 128 slices_S64x512_o0_128_S64x128 2#32 (wq0 (F := Ideal) x3) (wq1 x4)⟩,
      ⟨S256x256, tile 256 slices_S64x512_o0_256_S64x128 4#32 (wq0 (F := Ideal) x3) (wq1 x4)⟩, ⟨S256x256, tile 384 slices_S64x512_o0_384_S64x128 6#32 (wq0 (F := Ideal) x3) (wq1 x4)⟩] concatenates_S256x256_S256x256_S256x256_S256x256_S256x1024_d1 := rfl

/-! ## At an index -/

theorem lane_eq0 : ∀ l : Fin 128, (k1_pay12 : IVec S64x128 32) (ix2 (0 : Fin 64) l) = BitVec.ofNat 32 (l.val / 64) := by decide +kernel
theorem lane_eq (m : Fin 64) (l : Fin 128) : (k1_pay12 : IVec S64x128 32) (ix2 m l) = BitVec.ofNat 32 (l.val / 64) :=
  (show (k1_pay12 : IVec S64x128 32) (ix2 m l) = (k1_pay12 : IVec S64x128 32) (ix2 (0 : Fin 64) l) from rfl).trans (lane_eq0 l)

/-- The eight groups' scales, laid sixteen times below one another. -/
theorem wq1_eq (x4 : Vec Ideal S8x256 .f32) : (wq1 x4 : FVec Ideal S64x4x128 .f32) = shapeCast S64x4x128 (transpose S256x128 [1, 0]
    (concatenate S128x256 0 (List.replicate 16 ⟨S8x256, shapeCast S8x256 x4 shapeCasts_S8x256_S8x256⟩) concatenates_S8x256_S8x256_S8x256_S8x256_S8x256_S8x256_S8x256_S8x256_S8x256_S8x256_S8x256_S8x256_S8x256_S8x256_S8x256_S8x256_S128x256_d0)
    transposes_S128x256_p1_0_S256x128) shapeCasts_S256x128_S64x4x128 := rfl
theorem cat_apply (x : FVec Ideal S8x256 .f32) (a : Fin 128) (v : Fin 256) :
    concatenate S128x256 0 (List.replicate 16 ⟨S8x256, x⟩) concatenates_S8x256_S8x256_S8x256_S8x256_S8x256_S8x256_S8x256_S8x256_S8x256_S8x256_S8x256_S8x256_S8x256_S8x256_S8x256_S8x256_S128x256_d0 (ix2 a v) = x (ix2 (⟨a.val % 8, by omega⟩ : Fin 8) v) :=
  concatenate_replicate_apply (t := S128x256) (s₁ := S8x256) 0 16 x _ rfl _ _ rfl fun b hb => by
    match b, hb with
    | ⟨0, _⟩, hb => exact absurd rfl hb
    | ⟨1, _⟩, _ => rfl
theorem wq1_apply (x4 : Vec Ideal S8x256 .f32) (m : Fin 64) (k : Fin 4) (l : Fin 128) :
    (wq1 x4 : FVec Ideal S64x4x128 .f32) (ix3 m k l) = (x4 : FVec Ideal S8x256 .f32) (ix2 (⟨l.val % 8, by omega⟩ : Fin 8) (⟨4 * m.val + k.val, by omega⟩ : Fin 256)) := by
  rw [wq1_eq]
  generalize hx : shapeCast S8x256 x4 shapeCasts_S8x256_S8x256 = x
  have hx' : x = x4 := by rw [← hx]; funext j; idx_vars j; pointwise
  generalize hc : concatenate S128x256 0 (List.replicate 16 ⟨S8x256, x⟩) concatenates_S8x256_S8x256_S8x256_S8x256_S8x256_S8x256_S8x256_S8x256_S8x256_S8x256_S8x256_S8x256_S8x256_S8x256_S8x256_S8x256_S128x256_d0 = y
  have hy : y (ix2 l (⟨4 * m.val + k.val, by omega⟩ : Fin 256)) = x (ix2 (⟨l.val % 8, by omega⟩ : Fin 8) (⟨4 * m.val + k.val, by omega⟩ : Fin 256)) := by rw [← hc]; exact cat_apply x l _
  pointwise
  rw [← hx', ← hy]
  first | rfl | (congr 1; done) | (congr 2; ext; simp; omega)

theorem gIdx_apply (n : Fin 4) (m : Fin 64) (l : Fin 128) : gIdx (BitVec.ofNat 32 (2 * n.val)) (ix2 m l) = BitVec.ofNat 32 (2 * n.val + l.val / 64) := by
  pointwise [gIdx]
  rw [lane_eq]
  revert n l
  decide +kernel

theorem scl_apply (k k' : ℕ) (h : S64x4x128.Slices ![0, k, 0] S64x1x128) (h' : S64x4x128.Slices ![0, k', 0] S64x1x128) (hk : k < 4) (hk' : k' < 4) (n : Fin 4) (x4 : Vec Ideal S8x256 .f32) (r l : Fin 128) :
    scl k k' h h' (BitVec.ofNat 32 (2 * n.val)) (wq1 x4) (ix2 r l) = (x4 : FVec Ideal S8x256 .f32) (ix2 (⟨2 * n.val + l.val / 64, by omega⟩ : Fin 8) (⟨4 * (r.val / 2) + if r.val % 2 = 0 then k else k', by split <;> omega⟩ : Fin 256)) := by
  pointwise [scl, gsRow]
  simp only [gIdx_apply, wq1_apply]
  have e : (BitVec.ofNat 32 (2 * n.val + l.val / 64)).toNat % 128 % 8 = 2 * n.val + l.val / 64 := by
    rw [BitVec.toNat_ofNat]; omega
  simp only [e]
  split <;> rfl

theorem half_row (x : IVec S64x128 32) (r l : Fin 128) :
    bitcast S128x128 16 x bitcasts_S64x128_w32_S128x128_w16 (ix2 r l) = (x (ix2 (⟨r.val / 2, by omega⟩ : Fin 64) l)).extractLsb' (16 * (r.val % 2)) 16 := by
  rw [bitcast_32_16]
  have e0 : ∀ hh, bitcasts_S64x128_w32_S128x128_w16.srcIdx (ix2 r l) (r.val / 2) hh = ix2 (⟨r.val / 2, by omega⟩ : Fin 64) l := fun hh => by
    funext a
    match a with
    | ⟨0, _⟩ => exact Fin.ext (Shape.Bitcasts.srcIdx_row bitcasts_S64x128_w32_S128x128_w16 _ _ _ ⟨0, Nat.zero_lt_two⟩ rfl)
    | ⟨1, _⟩ => exact Fin.ext (Shape.Bitcasts.srcIdx_other bitcasts_S64x128_w32_S128x128_w16 _ _ _ ⟨1, Nat.one_lt_two⟩ (by show ¬ 1 + 2 = 2; omega))
  exact congrArg (fun i => (x i).extractLsb' (16 * (r.val % 2)) 16) (e0 _)

theorem nib_apply (o : ℕ) (h : S64x512.Slices ![0, o] S64x128) (ho : o ≤ 384) (sh : BitVec 32) (q : IVec S64x512 32) (r l : Fin 128) :
    nib o h sh q (ix2 r l) = Ideal.ofBits .bf16 ((IntOp.xori (IntOp.andi (IntOp.shrui .vector (q (ix2 (⟨r.val / 2, by omega⟩ : Fin 64) (⟨o + l.val, by omega⟩ : Fin 512))) sh) 983055#32) 1124614920#32).extractLsb' (16 * (r.val % 2)) 16) - Ideal.ofBits .bf16 0x4308#16 := by
  unfold nib
  pointwise
  rw [half_row]
  pointwise [nibW]
  done

/-- A half word after the shift and the masks: the exponent's bits over the byte's nibble, its sign bit flipped. -/
theorem halfWord (w : BitVec 32) (y : BitVec 8) (p b h : Fin 2) (hw : ∀ i, i < 8 → y.getLsbD i = w.getLsbD (8 * (p.val + 2 * b.val) + i)) :
    (IntOp.xori (IntOp.andi (IntOp.shrui .vector w (BitVec.ofNat 32 (8 * p.val + 4 * h.val))) 983055#32) 1124614920#32).extractLsb' (16 * b.val) 16
      = 0x4308#16 ^^^ ((y >>> (4 * h.val)) &&& 15#8).setWidth 16 := by
  apply BitVec.eq_of_getLsbD_eq
  intro i hi
  have h0 := hw 0 (by omega); have h1 := hw 1 (by omega); have h2 := hw 2 (by omega); have h3 := hw 3 (by omega)
  have h4 := hw 4 (by omega); have h5 := hw 5 (by omega); have h6 := hw 6 (by omega); have h7 := hw 7 (by omega)
  fin_cases p <;> fin_cases b <;> fin_cases h <;> interval_cases i <;> simp_all [IntOp.xori, IntOp.andi, IntOp.shrui]

theorem nibNum : ∀ n : Fin 16, Ideal.ofBits .bf16 (0x4308#16 ^^^ BitVec.ofNat 16 n.val) - Ideal.ofBits .bf16 0x4308#16 = (((((n.val ^^^ 8 : ℕ) : ℤ) - 8 : ℤ) : ℝ) : EReal) := by
  intro n
  fin_cases n <;> simp [Ideal.ofBits, Ideal.ieee, -EReal.coe_mul] <;> norm_num <;> norm_cast
  rw [show Int.subNatNat 135 136 = -1 from rfl]
  simp

theorem lowNum : ∀ y : BitVec 8, (IntOp.shrsi .host (IntOp.shli .host (y.signExtend 32) 28#32) 28#32).toInt = (((((y >>> 0) &&& 15#8).toNat ^^^ 8 : ℕ) : ℤ) - 8 : ℤ) := by decide +kernel
theorem highNum : ∀ y : BitVec 8, (IntOp.shrsi .host (y.signExtend 32) 4#32).toInt = (((((y >>> 4) &&& 15#8).toNat ^^^ 8 : ℕ) : ℤ) - 8 : ℤ) := by decide +kernel

/-- A byte's nibble, signed: the low one, or the high one. -/
def nibInt (b : Fin 2) (y : BitVec 8) : ℤ :=
  if b.val = 0 then (IntOp.shrsi .host (IntOp.shli .host (y.signExtend 32) 28#32) 28#32).toInt else (IntOp.shrsi .host (y.signExtend 32) 4#32).toInt

theorem nib_eq (b : Fin 2) (y : BitVec 8) : Ideal.ofBits .bf16 (0x4308#16 ^^^ ((y >>> (4 * b.val)) &&& 15#8).setWidth 16) - Ideal.ofBits .bf16 0x4308#16 = (((nibInt b y : ℤ) : ℝ) : EReal) := by
  have key : ∀ z : BitVec 8, (z &&& 15#8).setWidth 16 = BitVec.ofNat 16 (z &&& 15#8).toNat ∧ (z &&& 15#8).toNat < 16 := by decide +kernel
  obtain ⟨h1, h2⟩ := key (y >>> (4 * b.val))
  rw [h1, nibNum ⟨_, h2⟩]
  unfold nibInt
  by_cases hb : b.val = 0
  · rw [if_pos hb, lowNum]
    simp only [hb, Nat.mul_zero]
  · have hb1 : b.val = 1 := by omega
    rw [if_neg hb, highNum]
    simp only [hb1, Nat.mul_one]

/-- The weight of a packed block: a byte's nibble times its group's scale. -/
def wAt (x3 : Vec Ideal S256x512 .i8) (x4 : Vec Ideal S8x256 .f32) (v : Fin 256) (c : Fin 512) (b : Fin 2) : EReal :=
  (((nibInt b (x3 (ix2 v c)) : ℤ) : ℝ) : EReal) * x4 (ix2 (⟨c.val / 64, by omega⟩ : Fin 8) v)

theorem wq0_bit (x3 : Vec Ideal S256x512 .i8) (m : Fin 64) (c : Fin 512) (q : ℕ) (hq : q < 32) (v : Fin 256) (hv : v.val = 4 * m.val + q / 8) :
    (wq0 (F := Ideal) x3 (ix2 m c)).getLsbD q = BitVec.getLsbD (x3 (ix2 v c)) (q % 8) :=
  bitcast_8_32_getLsbD_ix2 x3 bitcasts_S256x512_w8_S64x512_w32 m c q hq v hv

theorem piece (x3 : Vec Ideal S256x512 .i8) (x4 : Vec Ideal S8x256 .f32) (τ : Fin 4) (h : S64x512.Slices ![0, 128 * τ.val] S64x128) (p b : Fin 2) (r l : Fin 128)
    (s1 : S64x4x128.Slices ![0, p.val, 0] S64x1x128) (s2 : S64x4x128.Slices ![0, p.val + 2, 0] S64x1x128) :
    mulf (nib (128 * τ.val) h (BitVec.ofNat 32 (8 * p.val + 4 * b.val)) (wq0 (F := Ideal) x3)) (scl p.val (p.val + 2) s1 s2 (BitVec.ofNat 32 (2 * τ.val)) (wq1 x4)) (ix2 r l)
      = wAt x3 x4 ⟨4 * (r.val / 2) + p.val + 2 * (r.val % 2), by omega⟩ ⟨128 * τ.val + l.val, by omega⟩ b := by
  pointwise
  rw [nib_apply _ _ (by omega), scl_apply (hk := by omega) (hk' := by omega)]
  rw [halfWord _ (x3 (ix2 (⟨4 * (r.val / 2) + p.val + 2 * (r.val % 2), by omega⟩ : Fin 256) (⟨128 * τ.val + l.val, by omega⟩ : Fin 512))) p ⟨r.val % 2, by omega⟩ b ?_, nib_eq]
  · unfold wAt
    have e1 : (⟨2 * τ.val + l.val / 64, by omega⟩ : Fin 8) = ⟨(128 * τ.val + l.val) / 64, by omega⟩ := Fin.ext (by show 2 * τ.val + l.val / 64 = (128 * τ.val + l.val) / 64; omega)
    have e2 : (⟨4 * (r.val / 2) + if r.val % 2 = 0 then p.val else p.val + 2, by split <;> omega⟩ : Fin 256) = ⟨4 * (r.val / 2) + p.val + 2 * (r.val % 2), by omega⟩ :=
      Fin.ext (by show 4 * (r.val / 2) + (if r.val % 2 = 0 then p.val else p.val + 2) = 4 * (r.val / 2) + p.val + 2 * (r.val % 2); split <;> omega)
    rw [e1, e2]
  · intro i hi
    have e3 := wq0_bit x3 ⟨r.val / 2, by omega⟩ ⟨128 * τ.val + l.val, by omega⟩ (8 * (p.val + 2 * (r.val % 2)) + i) (by omega) ⟨4 * (r.val / 2) + p.val + 2 * (r.val % 2), by omega⟩
      (by show 4 * (r.val / 2) + p.val + 2 * (r.val % 2) = 4 * (r.val / 2) + (8 * (p.val + 2 * (r.val % 2)) + i) / 8; omega)
    have e4 : (8 * (p.val + 2 * (r.val % 2)) + i) % 8 = i := by omega
    rw [e4] at e3
    exact e3.symm

theorem half_eq (x3 : Vec Ideal S256x512 .i8) (x4 : Vec Ideal S8x256 .f32) (τ : Fin 4) (h : S64x512.Slices ![0, 128 * τ.val] S64x128) (p : Fin 2)
    (s1 : S64x4x128.Slices ![0, p.val, 0] S64x1x128) (s2 : S64x4x128.Slices ![0, p.val + 2, 0] S64x1x128) (r : Fin 128) (k : Fin 256) :
    half (128 * τ.val) h (BitVec.ofNat 32 (8 * p.val + 4 * 0)) (BitVec.ofNat 32 (8 * p.val + 4 * 1)) (wq0 (F := Ideal) x3) (scl p.val (p.val + 2) s1 s2 (BitVec.ofNat 32 (2 * τ.val)) (wq1 x4)) (ix2 r k)
      = wAt x3 x4 ⟨4 * (r.val / 2) + p.val + 2 * (r.val % 2), by omega⟩ ⟨128 * τ.val + k.val % 128, by omega⟩ ⟨k.val / 128, by omega⟩ := by
  unfold half
  generalize hA : mulf (nib (128 * τ.val) h (BitVec.ofNat 32 (8 * p.val + 4 * 0)) (wq0 (F := Ideal) x3)) (scl p.val (p.val + 2) s1 s2 (BitVec.ofNat 32 (2 * τ.val)) (wq1 x4)) = A
  generalize hB : mulf (nib (128 * τ.val) h (BitVec.ofNat 32 (8 * p.val + 4 * 1)) (wq0 (F := Ideal) x3)) (scl p.val (p.val + 2) s1 s2 (BitVec.ofNat 32 (2 * τ.val)) (wq1 x4)) = B
  pointwise
  split
  · rename_i hk
    rw [← hA]
    refine (piece x3 x4 τ h p 0 _ _ s1 s2).trans ?_
    unfold wAt
    have e1 : k.val % 128 = k.val := Nat.mod_eq_of_lt hk
    have e2 : (⟨k.val / 128, by omega⟩ : Fin 2) = 0 := Fin.ext (Nat.div_eq_of_lt hk)
    rw [e2]
    simp only [e1]
  · rename_i hk
    rw [← hB]
    refine (piece x3 x4 τ h p 1 _ _ s1 s2).trans ?_
    unfold wAt
    have e1 : k.val % 128 = k.val - 128 := by omega
    have e2 : (⟨k.val / 128, by omega⟩ : Fin 2) = 1 := Fin.ext (by show k.val / 128 = 1; omega)
    rw [e2]
    simp only [e1]

/-- The vocabulary row a tile row holds. -/
def vocOf (r : Fin 256) : Fin 256 := ⟨4 * (r.val % 128 / 2) + r.val / 128 + 2 * (r.val % 2), by omega⟩

theorem tile_eq (x3 : Vec Ideal S256x512 .i8) (x4 : Vec Ideal S8x256 .f32) (τ : Fin 4) (h : S64x512.Slices ![0, 128 * τ.val] S64x128) (r k : Fin 256) :
    tile (128 * τ.val) h (BitVec.ofNat 32 (2 * τ.val)) (wq0 (F := Ideal) x3) (wq1 x4) (ix2 r k)
      = wAt x3 x4 (vocOf r) ⟨128 * τ.val + k.val % 128, by omega⟩ ⟨k.val / 128, by omega⟩ := by
  have h0 := half_eq x3 x4 τ h 0 slices_S64x4x128_o0_0_0_S64x1x128 slices_S64x4x128_o0_2_0_S64x1x128
  have h1 := half_eq x3 x4 τ h 1 slices_S64x4x128_o0_1_0_S64x1x128 slices_S64x4x128_o0_3_0_S64x1x128
  unfold tile
  generalize hA : half (128 * τ.val) h 0#32 4#32 (wq0 (F := Ideal) x3) (scl 0 2 slices_S64x4x128_o0_0_0_S64x1x128 slices_S64x4x128_o0_2_0_S64x1x128 (BitVec.ofNat 32 (2 * τ.val)) (wq1 x4)) = A
  generalize hB : half (128 * τ.val) h 8#32 12#32 (wq0 (F := Ideal) x3) (scl 1 3 slices_S64x4x128_o0_1_0_S64x1x128 slices_S64x4x128_o0_3_0_S64x1x128 (BitVec.ofNat 32 (2 * τ.val)) (wq1 x4)) = B
  have h0' : ∀ r k, A (ix2 r k) = _ := fun r k => (congrFun hA.symm _).trans (h0 r k)
  have h1' : ∀ r k, B (ix2 r k) = _ := fun r k => (congrFun hB.symm _).trans (h1 r k)
  pointwise
  split
  · rename_i hr
    rw [h0']
    congr 1
    refine Fin.ext ?_
    show 4 * (r.val / 2) + 0 + 2 * (r.val % 2) = 4 * (r.val % 128 / 2) + r.val / 128 + 2 * (r.val % 2)
    omega
  · rename_i hr
    rw [h1']
    congr 1
    refine Fin.ext ?_
    show 4 * ((r.val - 128) / 2) + 1 + 2 * ((r.val - 128) % 2) = 4 * (r.val % 128 / 2) + r.val / 128 + 2 * (r.val % 2)
    omega

/-- The tile of dequantised rows, at an index. -/
theorem wTile_apply (x3 : Vec Ideal S256x512 .i8) (x4 : Vec Ideal S8x256 .f32) (r : Fin 256) (k : Fin 1024) :
    wTile x3 x4 (ix2 r k) = wAt x3 x4 (vocOf r) ⟨128 * (k.val / 256) + k.val % 128, by omega⟩ ⟨k.val % 256 / 128, by omega⟩ := by
  rw [wTile_eq]
  have h0 := tile_eq x3 x4 0 slices_S64x512_o0_0_S64x128
  have h1 := tile_eq x3 x4 1 slices_S64x512_o0_128_S64x128
  have h2 := tile_eq x3 x4 2 slices_S64x512_o0_256_S64x128
  have h3 := tile_eq x3 x4 3 slices_S64x512_o0_384_S64x128
  generalize hA : tile 0 slices_S64x512_o0_0_S64x128 0#32 (wq0 (F := Ideal) x3) (wq1 x4) = A
  generalize hB : tile 128 slices_S64x512_o0_128_S64x128 2#32 (wq0 (F := Ideal) x3) (wq1 x4) = B
  generalize hC : tile 256 slices_S64x512_o0_256_S64x128 4#32 (wq0 (F := Ideal) x3) (wq1 x4) = C
  generalize hD : tile 384 slices_S64x512_o0_384_S64x128 6#32 (wq0 (F := Ideal) x3) (wq1 x4) = D
  have h0' : ∀ r k, A (ix2 r k) = _ := fun r k => (congrFun hA.symm _).trans (h0 r k)
  have h1' : ∀ r k, B (ix2 r k) = _ := fun r k => (congrFun hB.symm _).trans (h1 r k)
  have h2' : ∀ r k, C (ix2 r k) = _ := fun r k => (congrFun hC.symm _).trans (h2 r k)
  have h3' : ∀ r k, D (ix2 r k) = _ := fun r k => (congrFun hD.symm _).trans (h3 r k)
  pointwise
  split
  · rename_i g0
    rw [h0']
    have e1 : 128 * 0 + (k.val) % 128 = 128 * (k.val / 256) + k.val % 128 := by omega
    have e2 : (k.val) / 128 = k.val % 256 / 128 := by omega
    have e3 : (⟨128 * 0 + (k.val) % 128, by omega⟩ : Fin 512) = ⟨128 * (k.val / 256) + k.val % 128, by omega⟩ := Fin.ext e1
    have e4 : (⟨(k.val) / 128, by omega⟩ : Fin 2) = ⟨k.val % 256 / 128, by omega⟩ := Fin.ext e2
    exact congrArg₂ (fun c b => wAt x3 x4 (vocOf r) c b) e3 e4
  · split
    · rename_i g0 g1
      rw [h1']
      have e1 : 128 * 1 + (k.val - 256) % 128 = 128 * (k.val / 256) + k.val % 128 := by omega
      have e2 : (k.val - 256) / 128 = k.val % 256 / 128 := by omega
      have e3 : (⟨128 * 1 + (k.val - 256) % 128, by omega⟩ : Fin 512) = ⟨128 * (k.val / 256) + k.val % 128, by omega⟩ := Fin.ext e1
      have e4 : (⟨(k.val - 256) / 128, by omega⟩ : Fin 2) = ⟨k.val % 256 / 128, by omega⟩ := Fin.ext e2
      exact congrArg₂ (fun c b => wAt x3 x4 (vocOf r) c b) e3 e4
    · split
      · rename_i g0 g1 g2
        rw [h2']
        have e1 : 128 * 2 + (k.val - 256 - 256) % 128 = 128 * (k.val / 256) + k.val % 128 := by omega
        have e2 : (k.val - 256 - 256) / 128 = k.val % 256 / 128 := by omega
        have e3 : (⟨128 * 2 + (k.val - 256 - 256) % 128, by omega⟩ : Fin 512) = ⟨128 * (k.val / 256) + k.val % 128, by omega⟩ := Fin.ext e1
        have e4 : (⟨(k.val - 256 - 256) / 128, by omega⟩ : Fin 2) = ⟨k.val % 256 / 128, by omega⟩ := Fin.ext e2
        exact congrArg₂ (fun c b => wAt x3 x4 (vocOf r) c b) e3 e4
      · rename_i g0 g1 g2
        rw [h3']
        have e1 : 128 * 3 + (k.val - 256 - 256 - 256) % 128 = 128 * (k.val / 256) + k.val % 128 := by omega
        have e2 : (k.val - 256 - 256 - 256) / 128 = k.val % 256 / 128 := by omega
        have e3 : (⟨128 * 3 + (k.val - 256 - 256 - 256) % 128, by omega⟩ : Fin 512) = ⟨128 * (k.val / 256) + k.val % 128, by omega⟩ := Fin.ext e1
        have e4 : (⟨(k.val - 256 - 256 - 256) / 128, by omega⟩ : Fin 2) = ⟨k.val % 256 / 128, by omega⟩ := Fin.ext e2
        exact congrArg₂ (fun c b => wAt x3 x4 (vocOf r) c b) e3 e4

end Cert.KernelIdeal.Vocab

end
-- ==== Proof.VocabLogit.lean ====
/-
  The vocabulary call's logits, at an index: one document's largest score over its positions, the maxima of all twelve
  documents, and the lanes put back in vocabulary order.
-/
module

public import proofs.«01_k».proof.Proof.VocabPure
public import Idealize.ShloMosaic.Lib.Pointwise

@[expose] public section

set_option maxRecDepth 16384

noncomputable section

namespace Cert.KernelIdeal.Vocab

open Cert.KernelIdeal Cert.KernelIdeal.Gen
open Idealize.ShloMosaic Idealize.SL.Sem
open Idealize.ShloMosaic.Tactic

/-- The least value, as the reduction starts from it. -/
theorem botBits : Ideal.ofBits .f32 0xFF800000#32 = ⊥ := by
  simp [Ideal.ofBits, Ideal.ieee]

/-- One document's scores over its 128 positions, against tile row `r`: the largest. -/
def topOf (w : FVec Ideal S256x1024 .bf16) (z : Fin 128 → Fin 1024 → EReal) (s : Fin 128 → EReal) (r : Fin 256) : EReal :=
  Finset.univ.sup fun x : Fin 128 => (∑ k : Fin 1024, z x k * w (ix2 r k)) * s x

theorem rowOf_apply (w : FVec Ideal S256x1024 .bf16) (z : Vec Ideal S1x128x1024 .bf16) (s : Vec Ideal S1x128x1 .f32) (r : Fin 256) :
    rowOf w z s (ix2 (0 : Fin 1) r) = topOf w (fun x k => z (ix3 0 x k)) (fun x => s (ix3 0 x 0)) r := by
  unfold rowOf
  pointwise [k1_pay54]
  rw [botBits]
  rfl

theorem lq32_eq (l : Fin 128) : ∀ d : Fin 16, k1_pay69 lq32 (k1_pay67 laneIota) 2#32 k1_pay68 (ix2 d l) = k1_pay69 lq32 (k1_pay67 laneIota) 2#32 k1_pay68 (ix2 (0 : Fin 16) l) := fun d => rfl
theorem lq32_0 (l : Fin 128) : k1_pay69 lq32 (k1_pay67 laneIota) 2#32 k1_pay68 (ix2 (0 : Fin 16) l) = BitVec.ofNat 32 (2 * (l.val / 4) + l.val % 4 / 2) := by
  revert l
  decide +kernel
theorem lq36_eq (l : Fin 128) : ∀ d : Fin 16, lq36 (ix2 d l) = lq36 (ix2 (0 : Fin 16) l) := fun d => rfl
theorem lq36_0 (l : Fin 128) : lq36 (ix2 (0 : Fin 16) l) = BitVec.ofNat 32 (64 + 2 * (l.val / 4) + l.val % 4 / 2) := by
  revert l
  decide +kernel

theorem put_row (x : Vec Ideal S16x256 .f32) (k : ℕ) (w : Vec Ideal S1x256 .f32) (i : Fin 16) (r : Fin 256) :
    VecWindow.put x ![k, 0] S1x256.size w (ix2 i r) = if i.val = k then w (ix2 (0 : Fin 1) r) else x (ix2 i r) := by
  unfold VecWindow.put
  by_cases hi : i.val = k
  · have h : ∀ a, (![k, 0] : Fin 2 → ℕ) a ≤ (ix2 (n0 := 16) (n1 := 256) i r a).val ∧ (ix2 (n0 := 16) (n1 := 256) i r a).val < (![k, 0] : Fin 2 → ℕ) a + S1x256.size a := fun a => by
      match a with
      | ⟨0, _⟩ => exact ⟨by show k ≤ i.val; omega, by show i.val < k + 1; omega⟩
      | ⟨1, _⟩ => exact ⟨Nat.zero_le _, by show r.val < 0 + 256; omega⟩
    rw [if_pos hi]
    refine (dif_pos h).trans (congrArg w ?_)
    funext a
    match a with
    | ⟨0, _⟩ => exact Fin.ext (by show i.val - k = 0; omega)
    | ⟨1, _⟩ => exact Fin.ext (by show r.val - 0 = r.val; omega)
  · rw [if_neg hi]
    refine dif_neg fun h => hi ?_
    have := h ⟨0, Nat.zero_lt_two⟩
    have h1 : k ≤ i.val := this.1
    have h2 : i.val < k + 1 := this.2
    omega

theorem window_z (x : Vec Ideal S12x128x1024 .bf16) (k : Fin 12) (inb : ∀ a, (![k.val, 0, 0] : Fin 3 → ℕ) a + S1x128x1024.size a ≤ S12x128x1024.size a) (s : Fin 128) (c : Fin 1024) :
    VecWindow.window x ![k.val, 0, 0] S1x128x1024.size inb (ix3 (0 : Fin 1) s c) = x (ix3 k s c) := by
  refine congrArg x (funext fun a => ?_)
  match a with
  | ⟨0, _⟩ => exact Fin.ext (by show k.val + 1 * 0 = k.val; omega)
  | ⟨1, _⟩ => exact Fin.ext (by show 0 + 1 * s.val = s.val; omega)
  | ⟨2, _⟩ => exact Fin.ext (by show 0 + 1 * c.val = c.val; omega)

theorem window_s (x : Vec Ideal S12x128x128 .f32) (k : Fin 12) (inb : ∀ a, (![k.val, 0, 0] : Fin 3 → ℕ) a + S1x128x1.size a ≤ S12x128x128.size a) (s : Fin 128) :
    VecWindow.window x ![k.val, 0, 0] S1x128x1.size inb (ix3 (0 : Fin 1) s (0 : Fin 1)) = x (ix3 k s (0 : Fin 128)) := by
  refine congrArg x (funext fun a => ?_)
  match a with
  | ⟨0, _⟩ => exact Fin.ext (by show k.val + 1 * 0 = k.val; omega)
  | ⟨1, _⟩ => exact Fin.ext (by show 0 + 1 * s.val = s.val; omega)
  | ⟨2, _⟩ => exact Fin.ext (by show 0 + 1 * 0 = 0; omega)

theorem rowOf_window (w : FVec Ideal S256x1024 .bf16) (x1 : Vec Ideal S12x128x1024 .bf16) (x2 : Vec Ideal S12x128x128 .f32) (k : Fin 12)
    (i1 : ∀ a, (![k.val, 0, 0] : Fin 3 → ℕ) a + S1x128x1024.size a ≤ S12x128x1024.size a) (i2 : ∀ a, (![k.val, 0, 0] : Fin 3 → ℕ) a + S1x128x1.size a ≤ S12x128x128.size a) (r : Fin 256) :
    rowOf w (VecWindow.window x1 ![k.val, 0, 0] S1x128x1024.size i1) (VecWindow.window x2 ![k.val, 0, 0] S1x128x1.size i2) (ix2 (0 : Fin 1) r)
      = topOf w (fun x c => x1 (ix3 k x c)) (fun x => x2 (ix3 k x (0 : Fin 128))) r := by
  refine (rowOf_apply w _ _ r).trans ?_
  have e1 : (fun (x : Fin 128) (c : Fin 1024) => VecWindow.window x1 ![k.val, 0, 0] S1x128x1024.size i1 (ix3 (0 : Fin 1) x c)) = fun x c => x1 (ix3 k x c) := funext fun x => funext fun c => window_z x1 k i1 x c
  have e2 : (fun (x : Fin 128) => VecWindow.window x2 ![k.val, 0, 0] S1x128x1.size i2 (ix3 (0 : Fin 1) x (0 : Fin 1))) = fun x => x2 (ix3 k x (0 : Fin 128)) := funext fun x => window_s x2 k i2 x
  exact congrArg₂ (fun a b => topOf w a b r) e1 e2

theorem mxStep_apply (x1 : Vec Ideal S12x128x1024 .bf16) (x2 : Vec Ideal S12x128x128 .f32) (w : FVec Ideal S256x1024 .bf16) (mx : Vec Ideal S16x256 .f32) (d : Fin 16) (hd : d.val < 12) (r : Fin 256) :
    mxStep x1 x2 w mx (ix2 d r) = topOf w (fun x c => x1 (ix3 (⟨d.val, hd⟩ : Fin 12) x c)) (fun x => x2 (ix3 (⟨d.val, hd⟩ : Fin 12) x (0 : Fin 128))) r := by
  unfold mxStep
  refine (put_row _ 11 _ d r).trans ?_
  by_cases h11 : d.val = 11
  · rw [if_pos h11]
    refine Eq.trans (b := topOf w (fun x c => x1 (ix3 (⟨11, by omega⟩ : Fin 12) x c)) (fun x => x2 (ix3 (⟨11, by omega⟩ : Fin 12) x (0 : Fin 128))) r) ?_ ?_
    · exact rowOf_window w x1 x2 (⟨11, by omega⟩ : Fin 12) _ _ r
    · rw [show (⟨d.val, hd⟩ : Fin 12) = ⟨11, by omega⟩ from Fin.ext h11]
  rw [if_neg h11]
  refine (put_row _ 10 _ d r).trans ?_
  by_cases h10 : d.val = 10
  · rw [if_pos h10]
    refine Eq.trans (b := topOf w (fun x c => x1 (ix3 (⟨10, by omega⟩ : Fin 12) x c)) (fun x => x2 (ix3 (⟨10, by omega⟩ : Fin 12) x (0 : Fin 128))) r) ?_ ?_
    · exact rowOf_window w x1 x2 (⟨10, by omega⟩ : Fin 12) _ _ r
    · rw [show (⟨d.val, hd⟩ : Fin 12) = ⟨10, by omega⟩ from Fin.ext h10]
  rw [if_neg h10]
  refine (put_row _ 9 _ d r).trans ?_
  by_cases h9 : d.val = 9
  · rw [if_pos h9]
    refine Eq.trans (b := topOf w (fun x c => x1 (ix3 (⟨9, by omega⟩ : Fin 12) x c)) (fun x => x2 (ix3 (⟨9, by omega⟩ : Fin 12) x (0 : Fin 128))) r) ?_ ?_
    · exact rowOf_window w x1 x2 (⟨9, by omega⟩ : Fin 12) _ _ r
    · rw [show (⟨d.val, hd⟩ : Fin 12) = ⟨9, by omega⟩ from Fin.ext h9]
  rw [if_neg h9]
  refine (put_row _ 8 _ d r).trans ?_
  by_cases h8 : d.val = 8
  · rw [if_pos h8]
    refine Eq.trans (b := topOf w (fun x c => x1 (ix3 (⟨8, by omega⟩ : Fin 12) x c)) (fun x => x2 (ix3 (⟨8, by omega⟩ : Fin 12) x (0 : Fin 128))) r) ?_ ?_
    · exact rowOf_window w x1 x2 (⟨8, by omega⟩ : Fin 12) _ _ r
    · rw [show (⟨d.val, hd⟩ : Fin 12) = ⟨8, by omega⟩ from Fin.ext h8]
  rw [if_neg h8]
  refine (put_row _ 7 _ d r).trans ?_
  by_cases h7 : d.val = 7
  · rw [if_pos h7]
    refine Eq.trans (b := topOf w (fun x c => x1 (ix3 (⟨7, by omega⟩ : Fin 12) x c)) (fun x => x2 (ix3 (⟨7, by omega⟩ : Fin 12) x (0 : Fin 128))) r) ?_ ?_
    · exact rowOf_window w x1 x2 (⟨7, by omega⟩ : Fin 12) _ _ r
    · rw [show (⟨d.val, hd⟩ : Fin 12) = ⟨7, by omega⟩ from Fin.ext h7]
  rw [if_neg h7]
  refine (put_row _ 6 _ d r).trans ?_
  by_cases h6 : d.val = 6
  · rw [if_pos h6]
    refine Eq.trans (b := topOf w (fun x c => x1 (ix3 (⟨6, by omega⟩ : Fin 12) x c)) (fun x => x2 (ix3 (⟨6, by omega⟩ : Fin 12) x (0 : Fin 128))) r) ?_ ?_
    · exact rowOf_window w x1 x2 (⟨6, by omega⟩ : Fin 12) _ _ r
    · rw [show (⟨d.val, hd⟩ : Fin 12) = ⟨6, by omega⟩ from Fin.ext h6]
  rw [if_neg h6]
  refine (put_row _ 5 _ d r).trans ?_
  by_cases h5 : d.val = 5
  · rw [if_pos h5]
    refine Eq.trans (b := topOf w (fun x c => x1 (ix3 (⟨5, by omega⟩ : Fin 12) x c)) (fun x => x2 (ix3 (⟨5, by omega⟩ : Fin 12) x (0 : Fin 128))) r) ?_ ?_
    · exact rowOf_window w x1 x2 (⟨5, by omega⟩ : Fin 12) _ _ r
    · rw [show (⟨d.val, hd⟩ : Fin 12) = ⟨5, by omega⟩ from Fin.ext h5]
  rw [if_neg h5]
  refine (put_row _ 4 _ d r).trans ?_
  by_cases h4 : d.val = 4
  · rw [if_pos h4]
    refine Eq.trans (b := topOf w (fun x c => x1 (ix3 (⟨4, by omega⟩ : Fin 12) x c)) (fun x => x2 (ix3 (⟨4, by omega⟩ : Fin 12) x (0 : Fin 128))) r) ?_ ?_
    · exact rowOf_window w x1 x2 (⟨4, by omega⟩ : Fin 12) _ _ r
    · rw [show (⟨d.val, hd⟩ : Fin 12) = ⟨4, by omega⟩ from Fin.ext h4]
  rw [if_neg h4]
  refine (put_row _ 3 _ d r).trans ?_
  by_cases h3 : d.val = 3
  · rw [if_pos h3]
    refine Eq.trans (b := topOf w (fun x c => x1 (ix3 (⟨3, by omega⟩ : Fin 12) x c)) (fun x => x2 (ix3 (⟨3, by omega⟩ : Fin 12) x (0 : Fin 128))) r) ?_ ?_
    · exact rowOf_window w x1 x2 (⟨3, by omega⟩ : Fin 12) _ _ r
    · rw [show (⟨d.val, hd⟩ : Fin 12) = ⟨3, by omega⟩ from Fin.ext h3]
  rw [if_neg h3]
  refine (put_row _ 2 _ d r).trans ?_
  by_cases h2 : d.val = 2
  · rw [if_pos h2]
    refine Eq.trans (b := topOf w (fun x c => x1 (ix3 (⟨2, by omega⟩ : Fin 12) x c)) (fun x => x2 (ix3 (⟨2, by omega⟩ : Fin 12) x (0 : Fin 128))) r) ?_ ?_
    · exact rowOf_window w x1 x2 (⟨2, by omega⟩ : Fin 12) _ _ r
    · rw [show (⟨d.val, hd⟩ : Fin 12) = ⟨2, by omega⟩ from Fin.ext h2]
  rw [if_neg h2]
  refine (put_row _ 1 _ d r).trans ?_
  by_cases h1 : d.val = 1
  · rw [if_pos h1]
    refine Eq.trans (b := topOf w (fun x c => x1 (ix3 (⟨1, by omega⟩ : Fin 12) x c)) (fun x => x2 (ix3 (⟨1, by omega⟩ : Fin 12) x (0 : Fin 128))) r) ?_ ?_
    · exact rowOf_window w x1 x2 (⟨1, by omega⟩ : Fin 12) _ _ r
    · rw [show (⟨d.val, hd⟩ : Fin 12) = ⟨1, by omega⟩ from Fin.ext h1]
  rw [if_neg h1]
  refine (put_row _ 0 _ d r).trans ?_
  by_cases h0 : d.val = 0
  · rw [if_pos h0]
    refine Eq.trans (b := topOf w (fun x c => x1 (ix3 (⟨0, by omega⟩ : Fin 12) x c)) (fun x => x2 (ix3 (⟨0, by omega⟩ : Fin 12) x (0 : Fin 128))) r) ?_ ?_
    · exact rowOf_window w x1 x2 (⟨0, by omega⟩ : Fin 12) _ _ r
    · rw [show (⟨d.val, hd⟩ : Fin 12) = ⟨0, by omega⟩ from Fin.ext h0]
  rw [if_neg h0]
  omega

/-- The tile row whose logit goes to lane `l`. -/
def rowAt (l : Fin 256) : Fin 256 := ⟨128 * (l.val % 2) + 64 * (l.val / 128) + 2 * (l.val % 128 / 4) + l.val % 4 / 2, by omega⟩

/-- The lanes of half the maxima, gathered at `g`. -/
def gatherL (x : FVec Ideal S16x128 .f32) (g : IVec S16x128 32) : FVec Ideal S16x128 .f32 :=
  dynamicGather 1 x (shapeCast S16x128 (shapeCast S16x128x1 (select (cmpi .slt g (broadcast S16x128 0#32)) (addi g (broadcast S16x128 128#32)) g) shapeCasts_S16x128_S16x128x1) shapeCasts_S16x128x1_S16x128)

theorem gatherL_apply (x : FVec Ideal S16x128 .f32) (g : IVec S16x128 32) (d : Fin 16) (l f : Fin 128) (h : g (ix2 d l) = BitVec.ofNat 32 f.val) : gatherL x g (ix2 d l) = x (ix2 d f) := by
  unfold gatherL
  pointwise
  simp only [h]
  have key : ∀ f : Fin 128, (Scalar.select (IntOp.cmpi .slt (BitVec.ofNat 32 f.val) 0#32) (IntOp.addi (BitVec.ofNat 32 f.val) 128#32) (BitVec.ofNat 32 f.val) : BitVec 32).toNat % 128 = f.val := by decide +kernel
  exact congrArg (fun i => x (ix2 d i)) (Fin.ext (key f))

/-- The even lanes. -/
def parM : IVec S16x128 1 :=
  cmpi .eq (select (andi (xori (cmpi .slt (k1_pay72 laneIota) (broadcast S16x128 0#32)) (broadcastTo S16x128 (broadcast S16x128 (Scalar.cmpi .slt 2#32 0#32)) broadcasts_S16x128_S16x128)) (cmpi .ne (k1_pay72 laneIota) (broadcast S16x128 0#32)))
    (addi (k1_pay72 laneIota) (broadcast S16x128 2#32)) (k1_pay72 laneIota)) (broadcast S16x128 0#32)

theorem parM_eq (l : Fin 128) : ∀ d : Fin 16, parM (ix2 d l) = parM (ix2 (0 : Fin 16) l) := fun d => rfl
theorem parM_0 (l : Fin 128) : parM (ix2 (0 : Fin 16) l) = if l.val % 2 = 0 then 1#1 else 0#1 := by
  revert l
  decide +kernel

def halfL (mx : FVec Ideal S16x256 .f32) (g : IVec S16x128 32) : FVec Ideal S16x128 .f32 :=
  select parM (gatherL (extractStridedSlice S16x128 ![0, 0] mx slices_S16x256_o0_0_S16x128) g) (gatherL (extractStridedSlice S16x128 ![0, 128] mx slices_S16x256_o0_128_S16x128) g)

theorem halfL_apply (mx : FVec Ideal S16x256 .f32) (g : IVec S16x128 32) (d : Fin 16) (l f : Fin 128) (h : g (ix2 d l) = BitVec.ofNat 32 f.val) :
    halfL mx g (ix2 d l) = mx (ix2 d (⟨128 * (l.val % 2) + f.val, by omega⟩ : Fin 256)) := by
  unfold halfL
  have e0 := gatherL_apply (extractStridedSlice S16x128 ![0, 0] mx slices_S16x256_o0_0_S16x128) g d l f h
  have e1 := gatherL_apply (extractStridedSlice S16x128 ![0, 128] mx slices_S16x256_o0_128_S16x128) g d l f h
  have e2 := (parM_eq l d).trans (parM_0 l)
  refine (show _ = if parM (ix2 d l) = 1#1 then gatherL (extractStridedSlice S16x128 ![0, 0] mx slices_S16x256_o0_0_S16x128) g (ix2 d l) else gatherL (extractStridedSlice S16x128 ![0, 128] mx slices_S16x256_o0_128_S16x128) g (ix2 d l) from rfl).trans ?_
  rw [e0, e1, e2]
  pointwise
  by_cases hl : l.val % 2 = 0
  · rw [if_pos hl, if_pos rfl]
    exact congrArg (fun i => mx (ix2 d i)) (Fin.ext (by show f.val = 128 * (l.val % 2) + f.val; omega))
  · rw [if_neg hl, if_neg (by decide)]
    exact congrArg (fun i => mx (ix2 d i)) (Fin.ext (by show 128 + f.val = 128 * (l.val % 2) + f.val; omega))

theorem logitT_eq (mx : Vec Ideal S16x256 .f32) (x5 : Vec Ideal S1x256 .f32) :
    logitT mx x5 = maximumf (addf (concatenate S16x256 1 [⟨S16x128, halfL mx (k1_pay69 lq32 (k1_pay67 laneIota) 2#32 k1_pay68)⟩, ⟨S16x128, halfL mx lq36⟩] concatenates_S16x128_S16x128_S16x256_d1)
      (broadcastTo S16x256 (shapeCast S1x256 x5 shapeCasts_S1x256_S1x256) broadcasts_S1x256_S16x256)) (broadcast S16x256 (Scalar.ofBits .f32 0x00000000#32)) := rfl

theorem logitT_apply (mx : Vec Ideal S16x256 .f32) (x5 : Vec Ideal S1x256 .f32) (d : Fin 16) (l : Fin 256) :
    logitT mx x5 (ix2 d l) = max (mx (ix2 d (rowAt l)) + x5 (ix2 (0 : Fin 1) l)) 0 := by
  rw [logitT_eq]
  have h0 := fun l f h => halfL_apply mx (k1_pay69 lq32 (k1_pay67 laneIota) 2#32 k1_pay68) d l f h
  have h1 := fun l f h => halfL_apply mx lq36 d l f h
  have g0 := fun l => (lq32_eq l d).trans (lq32_0 l)
  have g1 := fun l => (lq36_eq l d).trans (lq36_0 l)
  generalize halfL mx (k1_pay69 lq32 (k1_pay67 laneIota) 2#32 k1_pay68) = A at *
  generalize halfL mx lq36 = B at *
  pointwise
  refine congrArg (fun v => max (v + x5 (ix2 (0 : Fin 1) l)) 0) ?_
  split
  · rename_i hl
    refine (h0 ⟨l.val, hl⟩ ⟨2 * (l.val / 4) + l.val % 4 / 2, by omega⟩ (g0 _)).trans (congrArg (fun i => mx (ix2 d i)) (Fin.ext ?_))
    show 128 * (l.val % 2) + (2 * (l.val / 4) + l.val % 4 / 2) = 128 * (l.val % 2) + 64 * (l.val / 128) + 2 * (l.val % 128 / 4) + l.val % 4 / 2
    omega
  · rename_i hl
    refine (h1 ⟨l.val - 128, by omega⟩ ⟨64 + 2 * ((l.val - 128) / 4) + (l.val - 128) % 4 / 2, by omega⟩ (g1 _)).trans (congrArg (fun i => mx (ix2 d i)) (Fin.ext ?_))
    show 128 * ((l.val - 128) % 2) + (64 + 2 * ((l.val - 128) / 4) + (l.val - 128) % 4 / 2) = 128 * (l.val % 2) + 64 * (l.val / 128) + 2 * (l.val % 128 / 4) + l.val % 4 / 2
    omega

end Cert.KernelIdeal.Vocab

end
-- ==== Proof.VocabArr.lean ====
/-
  The representation and its mean that the vocabulary call leaves, element by element, from the arrays it finds.
-/
module

public import proofs.«01_k».proof.Proof.ZArr
public import proofs.«01_k».proof.Proof.VocabTile
public import proofs.«01_k».proof.Proof.VocabLogit
public import Idealize.ShloMosaic.Lib.Pipeline.ArrRel

@[expose] public section

set_option maxRecDepth 16384

noncomputable section

namespace Cert.KernelIdeal.Whole

open Cert.KernelIdeal Cert.KernelIdeal.Gen Cert.TransformValue Cert.KernelIdeal.ZValue Cert.KernelIdeal.Vocab
open Idealize.ShloMosaic
open Idealize.ShloMosaic.TcCoe Idealize.ShloMosaic.Tactic
open Idealize.ShloMosaic.Pipeline (Dat RDat Cfg Window)

variable (m : (ℓ : Loc nD τ sig) → Buf (Elt Ideal) ℓ) (c : Dev nD)

theorem idx1_0 : ∀ t : Fin grid1.N, cc1_transform_0 (grid1.coords t) = ![0, 0, 0] := by decide +kernel
theorem idx1_1 : ∀ t : Fin grid1.N, cc1_transform_1 (grid1.coords t) = ![0, 0, 0] := by decide +kernel
theorem idx1_2 : ∀ t : Fin grid1.N, cc1_transform_2 (grid1.coords t) = ![t.val, 0] := by decide +kernel
theorem idx1_3 : ∀ t : Fin grid1.N, cc1_transform_3 (grid1.coords t) = ![0, t.val] := by decide +kernel
theorem idx1_4 : ∀ t : Fin grid1.N, cc1_transform_4 (grid1.coords t) = ![0, t.val] := by decide +kernel
theorem idx1_5 : ∀ t : Fin grid1.N, cc1_transform_5 (grid1.coords t) = ![0, t.val] := by decide +kernel
theorem idx1_6 : ∀ t : Fin grid1.N, cc1_transform_6 (grid1.coords t) = ![0, t.val] := by decide +kernel
theorem xsz2 : ∀ (t : Fin grid1.N) (a : Fin 2), win1_2.xsize (grid1.coords t) a = ![min 256 (50368 - 256 * t.val), 512] a := by decide +kernel
theorem xsz3 : ∀ (t : Fin grid1.N) (a : Fin 2), win1_3.xsize (grid1.coords t) a = ![8, min 256 (50368 - 256 * t.val)] a := by decide +kernel
theorem xsz4 : ∀ (t : Fin grid1.N) (a : Fin 2), win1_4.xsize (grid1.coords t) a = ![1, min 256 (50368 - 256 * t.val)] a := by decide +kernel
theorem xsz5 : ∀ (t : Fin grid1.N) (a : Fin 2), win1_5.xsize (grid1.coords t) a = ![12, min 256 (50368 - 256 * t.val)] a := by decide +kernel
theorem xsz6 : ∀ (t : Fin grid1.N) (a : Fin 2), win1_6.xsize (grid1.coords t) a = ![1, min 256 (50368 - 256 * t.val)] a := by decide +kernel

variable (A : Vocab.Arrs (F := Ideal) c) (t : Fin cfg1.N)

theorem in0 (d) (j : S12x128x1024.Idx) : blkAt c A 0 t d j = (A 0 : FVec Ideal S12x128x1024 .bf16) j := by
  unfold blkAt Window.fill
  refine (dif_pos ?_).trans (congrArg (A 0 : FVec Ideal S12x128x1024 .bf16) (funext fun ax => Fin.ext ((Window.rect_emb_val (cfg1.win 0) t _ ax).trans ?_)))
  · exact (Window.moved_iff (cfg1.win 0) _ _).mpr fun a => (j a).isLt
  · have hi : (cfg1.win 0).index t = ![0, 0, 0] := idx1_0 t
    rw [hi]
    fin_cases ax <;> exact (by omega : ∀ n k : ℕ, 0 * n + k = k) _ _
theorem in1 (d) (j : S12x128x128.Idx) : blkAt c A 1 t d j = (A 1 : FVec Ideal S12x128x128 .f32) j := by
  unfold blkAt Window.fill
  refine (dif_pos ?_).trans (congrArg (A 1 : FVec Ideal S12x128x128 .f32) (funext fun ax => Fin.ext ((Window.rect_emb_val (cfg1.win 1) t _ ax).trans ?_)))
  · exact (Window.moved_iff (cfg1.win 1) _ _).mpr fun a => (j a).isLt
  · have hi : (cfg1.win 1).index t = ![0, 0, 0] := idx1_1 t
    rw [hi]
    fin_cases ax <;> exact (by omega : ∀ n k : ℕ, 0 * n + k = k) _ _
theorem in2 (d) (l : Fin 256) (k : Fin 512) (v : Fin 50368) (hv : v.val = 256 * t.val + l.val) :
    blkAt c A 2 t d (ix2 l k : S256x512.Idx) = (A 2 : IVec S50368x512 8) (ix2 v k) := by
  have hvl := v.isLt
  unfold blkAt Window.fill
  refine (dif_pos ?_).trans (congrArg (A 2 : IVec S50368x512 8) (funext fun ax => Fin.ext ((Window.rect_emb_val (cfg1.win 2) t _ ax).trans ?_)))
  · refine (Window.moved_iff (cfg1.win 2) _ _).mpr fun a => ?_
    refine lt_of_lt_of_eq ?_ (xsz2 t a).symm
    match a with
    | ⟨0, _⟩ => show l.val < min 256 (50368 - 256 * t.val); omega
    | ⟨1, _⟩ => exact k.isLt
  · have hi : (cfg1.win 2).index t = ![t.val, 0] := idx1_2 t
    rw [hi]
    match ax with
    | ⟨0, _⟩ => show t.val * 256 + l.val = v.val; omega
    | ⟨1, _⟩ => show 0 * 512 + k.val = k.val; omega
theorem in3 (d) (g : Fin 8) (l : Fin 256) (v : Fin 50368) (hv : v.val = 256 * t.val + l.val) :
    blkAt c A 3 t d (ix2 g l : S8x256.Idx) = (A 3 : FVec Ideal S8x50368 .f32) (ix2 g v) := by
  have hvl := v.isLt
  unfold blkAt Window.fill
  refine (dif_pos ?_).trans (congrArg (A 3 : FVec Ideal S8x50368 .f32) (funext fun ax => Fin.ext ((Window.rect_emb_val (cfg1.win 3) t _ ax).trans ?_)))
  · refine (Window.moved_iff (cfg1.win 3) _ _).mpr fun a => ?_
    refine lt_of_lt_of_eq ?_ (xsz3 t a).symm
    match a with
    | ⟨0, _⟩ => exact g.isLt
    | ⟨1, _⟩ => show l.val < min 256 (50368 - 256 * t.val); omega
  · have hi : (cfg1.win 3).index t = ![0, t.val] := idx1_3 t
    rw [hi]
    match ax with
    | ⟨0, _⟩ => show 0 * 8 + g.val = g.val; omega
    | ⟨1, _⟩ => show t.val * 256 + l.val = v.val; omega
theorem in4 (d) (l : Fin 256) (v : Fin 50368) (hv : v.val = 256 * t.val + l.val) :
    blkAt c A 4 t d (ix2 (0 : Fin 1) l : S1x256.Idx) = (A 4 : FVec Ideal S1x50368 .f32) (ix2 (0 : Fin 1) v) := by
  have hvl := v.isLt
  unfold blkAt Window.fill
  refine (dif_pos ?_).trans (congrArg (A 4 : FVec Ideal S1x50368 .f32) (funext fun ax => Fin.ext ((Window.rect_emb_val (cfg1.win 4) t _ ax).trans ?_)))
  · refine (Window.moved_iff (cfg1.win 4) _ _).mpr fun a => ?_
    refine lt_of_lt_of_eq ?_ (xsz4 t a).symm
    match a with
    | ⟨0, _⟩ => exact Nat.zero_lt_one
    | ⟨1, _⟩ => show l.val < min 256 (50368 - 256 * t.val); omega
  · have hi : (cfg1.win 4).index t = ![0, t.val] := idx1_4 t
    rw [hi]
    match ax with
    | ⟨0, _⟩ => rfl
    | ⟨1, _⟩ => show t.val * 256 + l.val = v.val; omega

/-- The packed table, its scales and the words' offsets, as launched. -/
def packed : IVec S50368x512 8 := m ((c : Thread nD τ).loc main_arg8)
def gscale : FVec Ideal S50368x8 .f32 := m ((c : Thread nD τ).loc main_arg9)
def offset : FVec Ideal S50368 .f32 := m ((c : Thread nD τ).loc main_arg10)

/-- The table's element that meets the codes' column `k`. -/
def wOf (v : Fin 50368) (k : Fin 1024) : EReal :=
  (((nibInt ⟨k.val % 256 / 128, by omega⟩ (packed m c (ix2 v ⟨128 * (k.val / 256) + k.val % 128, by omega⟩)) : ℤ) : ℝ) : EReal)
    * gscale m c (ix2 v ⟨(128 * (k.val / 256) + k.val % 128) / 64, by omega⟩)
/-- A document's largest score against a word. -/
def scoreK (d : Fin 12) (v : Fin 50368) : EReal :=
  (Finset.univ.sup fun x : Fin 128 => (∑ k : Fin 1024, zAll m c (ix3 d x k) * wOf m c v k) * zsAll m c (ix3 d x (0 : Fin 128))) + offset m c (ix1 v)
/-- The representation's element. -/
def repK (d : Fin 12) (v : Fin 50368) : EReal := Ideal.log1p (max (scoreK m c d v) 0)

theorem voc_row : ∀ l : Fin 256, vocOf (rowAt l) = l := by decide +kernel

theorem lg_apply (x : Vocab.In Ideal) (hx : InAt c (A1 m c) t x) (s : St Ideal) (d : Fin 16) (hd : d.val < 12) (l : Fin 256) (v : Fin 50368) (hv : v.val = 256 * t.val + l.val) :
    x.lg (grid1.coords t) s (ix2 d l) = max (scoreK m c ⟨d.val, hd⟩ v) 0 := by
  obtain ⟨⟨d0, h0⟩, ⟨d1, h1⟩, ⟨d2, h2⟩, ⟨d3, h3⟩, ⟨d4, h4⟩⟩ := hx
  have e0 : ∀ j, x.x1 j = zAll m c j := fun j => (congrFun h0 j).trans ((in0 c _ t d0 j).trans (congrFun (A1_0 m c) j))
  have e1 : ∀ j, x.x2 j = zsAll m c j := fun j => (congrFun h1 j).trans ((in1 c _ t d1 j).trans (congrFun (A1_1 m c) j))
  have e2 : ∀ k, x.x3 (ix2 l k) = packed m c (ix2 v k) := fun k => (congrFun h2 _).trans ((in2 c _ t d2 l k v hv).trans (congrFun (A1_2 m c) _))
  have e3 : ∀ g, x.x4 (ix2 g l) = gscale m c (ix2 v g) := fun g => (congrFun h3 _).trans ((in3 c _ t d3 g l v hv).trans (A1_3 m c g v))
  have e4 : x.x5 (ix2 (0 : Fin 1) l) = offset m c (ix1 v) := (congrFun h4 _).trans ((in4 c _ t d4 l v hv).trans (A1_4 m c v))
  have ew : ∀ k, wTile x.x3 x.x4 (ix2 (rowAt l) k) = wOf m c v k := fun k => by
    refine (wTile_apply x.x3 x.x4 (rowAt l) k).trans ?_
    rw [voc_row]
    unfold wAt wOf
    rw [e2, e3]
  unfold Vocab.In.lg lgOf
  refine (logitT_apply _ _ d l).trans ?_
  rw [e4]
  refine congrArg (fun q => max (q + offset m c (ix1 v)) 0) ?_
  refine (mxStep_apply _ _ _ _ d hd _).trans ?_
  unfold topOf
  refine congrArg (Finset.univ.sup) (funext fun y => ?_)
  exact congrArg₂ (· * ·) (Finset.sum_congr rfl fun k _ => congrArg₂ (· * ·) (e0 _) (ew k)) (e1 _)

/-- A lane of a tile is live when it is a word's and its row a document's. -/
theorem slt_nat (a b : ℕ) (ha : a < 2 ^ 31) (hb : b < 2 ^ 31) : IntOp.cmpi .slt (BitVec.ofNat 32 a) (BitVec.ofNat 32 b) = BitVec.ofBool (decide (a < b)) := by
  have h1 : (BitVec.ofNat 32 a).toInt = a := by
    rw [BitVec.toInt_eq_toNat_of_lt (by rw [BitVec.toNat_ofNat]; omega), BitVec.toNat_ofNat]; omega
  have h2 : (BitVec.ofNat 32 b).toInt = b := by
    rw [BitVec.toInt_eq_toNat_of_lt (by rw [BitVec.toNat_ofNat]; omega), BitVec.toNat_ofNat]; omega
  show BitVec.ofBool (BitVec.slt _ _) = _
  unfold BitVec.slt
  rw [h1, h2]
  congr 1
  simp
theorem live_apply (d : Fin 16) (l : Fin 256) : liveT (grid1.coords t) (ix2 d l) = BitVec.ofBool (decide (256 * t.val + l.val < 50368)) &&& BitVec.ofBool (decide (d.val < 12)) := by
  have ht : t.val < 197 := t.isLt
  have e : liveT (grid1.coords t) (ix2 d l) = IntOp.cmpi .slt (BitVec.ofNat 32 ((grid1.coords t) 0).val * 256#32 + BitVec.ofNat 32 l.val) (BitVec.ofNat 32 50368) &&& IntOp.cmpi .slt (BitVec.ofNat 32 d.val) (BitVec.ofNat 32 12) := by
    show k1_pay77 _ (ix2 d l) = _
    generalize BitVec.ofNat 32 ((grid1.coords t) 0).val = q
    pointwise [k1_pay77]
    rfl
  rw [e, coords_val, show BitVec.ofNat 32 t.val * 256#32 + BitVec.ofNat 32 l.val = BitVec.ofNat 32 (256 * t.val + l.val) from by
    rw [Nat.mul_comm, BitVec.ofNat_add, BitVec.ofNat_mul], slt_nat _ _ (by omega) (by omega), slt_nat _ _ (by omega) (by omega)]

theorem pay79_at (lv : IVec S16x256 1) (x : FVec Ideal S16x256 .f32) (d : Fin 16) (l : Fin 256) : k1_pay79 lv x (ix2 d l) = if lv (ix2 d l) = 1#1 then Ideal.log1p (x (ix2 d l)) else 0 := by
  pointwise [k1_pay79]
  rfl
theorem pay80_at (lv : IVec S16x256 1) (x : FVec Ideal S16x256 .f32) (d : Fin 12) (l : Fin 256) : k1_pay80 lv x (ix2 d l) = k1_pay79 lv x (ix2 (⟨d.val, by omega⟩ : Fin 16) l) := by
  unfold k1_pay80
  generalize k1_pay79 lv x = q
  pointwise
theorem pay82_at (lv : IVec S16x256 1) (x : FVec Ideal S16x256 .f32) (l : Fin 256) : k1_pay82 lv x (ix2 (0 : Fin 1) l) = Ideal.div (∑ d : Fin 16, k1_pay79 lv x (ix2 d l)) (Ideal.ofBits .f32 0x41400000#32) := by
  unfold k1_pay82
  generalize k1_pay79 lv x = q
  pointwise

section Values

variable (x : Vocab.In Ideal) (hx : InAt c (A1 m c) t x) (s : St Ideal) (l : Fin 256) (v : Fin 50368) (hv : v.val = 256 * t.val + l.val)
include hx hv

theorem masked_row (d : Fin 16) : k1_pay79 (liveT (grid1.coords t)) (x.lg (grid1.coords t) s) (ix2 d l) = if hd : d.val < 12 then repK m c ⟨d.val, hd⟩ v else 0 := by
  have hvl := v.isLt
  refine (pay79_at _ _ d l).trans ?_
  rw [live_apply t d l, show decide (256 * t.val + l.val < 50368) = true from by rw [decide_eq_true_eq]; omega]
  by_cases hd : d.val < 12
  · rw [dif_pos hd, decide_eq_true hd, if_pos (by decide)]
    exact congrArg Ideal.log1p (lg_apply m c t x hx s d hd l v hv)
  · rw [dif_neg hd, decide_eq_false hd, if_neg (by decide)]
theorem rep_block (d : Fin 12) : k1_pay80 (liveT (grid1.coords t)) (x.lg (grid1.coords t) s) (ix2 d l) = repK m c d v :=
  (pay80_at _ _ d l).trans ((masked_row m c t x hx s l v hv _).trans (dif_pos d.isLt))
theorem mean_block : k1_pay82 (liveT (grid1.coords t)) (x.lg (grid1.coords t) s) (ix2 (0 : Fin 1) l) = Ideal.div (∑ d : Fin 12, repK m c d v) (Ideal.ofBits .f32 0x41400000#32) := by
  refine (pay82_at _ _ l).trans (congrArg (fun q => Ideal.div q (Ideal.ofBits .f32 0x41400000#32)) ?_)
  refine (Finset.sum_congr rfl fun d _ => masked_row m c t x hx s l v hv d).trans ?_
  refine (Fin.sum_univ_add (a := 12) (b := 4) _).trans ?_
  refine (congrArg₂ (· + ·) (Finset.sum_congr rfl fun d _ => dif_pos d.isLt) (Finset.sum_eq_zero fun d _ => dif_neg (by show ¬ 12 + d.val < 12; omega))).trans ?_
  exact add_zero _

end Values

end Cert.KernelIdeal.Whole

end
-- ==== Proof.VocabEnd.lean ====
/-
  The program's first and third results: the representation and its mean, block by block of words.
-/
module

public import proofs.«01_k».proof.Proof.VocabArr

@[expose] public section

set_option maxRecDepth 16384

noncomputable section

namespace Cert.KernelIdeal.Whole

open Cert.KernelIdeal Cert.KernelIdeal.Gen Cert.TransformValue Cert.KernelIdeal.ZValue Cert.KernelIdeal.Vocab
open Idealize.ShloMosaic
open Idealize.ShloMosaic.TcCoe Idealize.ShloMosaic.Tactic
open Idealize.ShloMosaic.Pipeline (Dat RDat Cfg Window)

variable (m : (ℓ : Loc nD τ sig) → Buf (Elt Ideal) ℓ) (c : Dev nD)

/-- The representation, and its mean, as arrays. -/
def repAll : FVec Ideal S12x50368 .f32 := fun i => repK m c ⟨(i 0).val, (i 0).isLt⟩ ⟨(i 1).val, (i 1).isLt⟩
def meanK (v : Fin 50368) : EReal := Ideal.div (∑ d : Fin 12, repK m c d v) (Ideal.ofBits .f32 0x41400000#32)
def meanAll : FVec Ideal S1x50368 .f32 := fun i => meanK m c ⟨(i 1).val, (i 1).isLt⟩

theorem fl1_5 : ∀ t : Fin grid1.N, win1_5.flush t = true := by decide +kernel
theorem fl1_6 : ∀ t : Fin grid1.N, win1_6.flush t = true := by decide +kernel

theorem emb1_5 (t : Fin cfg1.N) (y : ((cfg1.win 5).xblock (cfg1.grid.coords t)).Idx) (i : S12x50368.Idx) (h0 : (i 0).val = (y 0).val) (h1 : (i 1).val = 256 * t.val + (y 1).val) :
    ((cfg1.win 5).blk t).view.emb y = i := by
  funext ax
  apply Fin.ext
  refine (Window.rect_emb_val (cfg1.win 5) t y ax).trans ?_
  have hi : (cfg1.win 5).index t = ![0, t.val] := idx1_5 t
  rw [hi]
  match ax with
  | ⟨0, _⟩ => show 0 * 12 + (y 0).val = (i 0).val; omega
  | ⟨1, _⟩ => show t.val * 256 + (y 1).val = (i 1).val; omega
theorem emb1_6 (t : Fin cfg1.N) (y : ((cfg1.win 6).xblock (cfg1.grid.coords t)).Idx) (i : S1x50368.Idx) (h0 : (i 0).val = (y 0).val) (h1 : (i 1).val = 256 * t.val + (y 1).val) :
    ((cfg1.win 6).blk t).view.emb y = i := by
  funext ax
  apply Fin.ext
  refine (Window.rect_emb_val (cfg1.win 6) t y ax).trans ?_
  have hi : (cfg1.win 6).index t = ![0, t.val] := idx1_6 t
  rw [hi]
  match ax with
  | ⟨0, _⟩ => show 0 * 1 + (y 0).val = (i 0).val; omega
  | ⟨1, _⟩ => show t.val * 256 + (y 1).val = (i 1).val; omega

/-- The block that a word is in. -/
def blockOf (v : ℕ) (h : v < 50368) : Fin cfg1.N := (⟨v / 256, by omega⟩ : Fin 197)

theorem cover5 (i : S12x50368.Idx) : ∃ t : Fin cfg1.N, (cfg1.win 5).flush t = true ∧ i ∈ ((cfg1.win 5).blk t).view.set := by
  have hi1 : (i 1).val < 50368 := (i 1).isLt
  have hi0 : (i 0).val < 12 := (i 0).isLt
  refine ⟨blockOf (i 1).val hi1, fl1_5 _, ?_⟩
  have hx := xsz5 (blockOf (i 1).val hi1)
  have hb : (blockOf (i 1).val hi1).val = (i 1).val / 256 := rfl
  refine mem_of_emb _ (fun a => match a with
    | ⟨0, _⟩ => ⟨(i 0).val, lt_of_lt_of_eq hi0 (hx 0).symm⟩
    | ⟨1, _⟩ => ⟨(i 1).val % 256, lt_of_lt_of_eq (by show (i 1).val % 256 < min 256 (50368 - 256 * (blockOf (i 1).val hi1).val); rw [hb]; omega) (hx 1).symm⟩) _ (emb1_5 _ _ _ rfl ?_)
  show (i 1).val = 256 * (blockOf (i 1).val hi1).val + (i 1).val % 256
  rw [hb]; omega
theorem cover6 (i : S1x50368.Idx) : ∃ t : Fin cfg1.N, (cfg1.win 6).flush t = true ∧ i ∈ ((cfg1.win 6).blk t).view.set := by
  have hi1 : (i 1).val < 50368 := (i 1).isLt
  have hi0 : (i 0).val < 1 := (i 0).isLt
  refine ⟨blockOf (i 1).val hi1, fl1_6 _, ?_⟩
  have hx := xsz6 (blockOf (i 1).val hi1)
  have hb : (blockOf (i 1).val hi1).val = (i 1).val / 256 := rfl
  refine mem_of_emb _ (fun a => match a with
    | ⟨0, _⟩ => ⟨(i 0).val, lt_of_lt_of_eq hi0 (hx 0).symm⟩
    | ⟨1, _⟩ => ⟨(i 1).val % 256, lt_of_lt_of_eq (by show (i 1).val % 256 < min 256 (50368 - 256 * (blockOf (i 1).val hi1).val); rw [hb]; omega) (hx 1).symm⟩) _ (emb1_6 _ _ _ rfl ?_)
  show (i 1).val = 256 * (blockOf (i 1).val hi1).val + (i 1).val % 256
  rw [hb]; omega

/-- What the body may leave in the windows of the representation and of its mean. -/
theorem left5 (t : Fin cfg1.N) (X) (h : (rd1 c (A1 m c)).Leaves 5 t X) (y : ((cfg1.win 5).xblock (cfg1.grid.coords t)).Idx) (i : S12x50368.Idx) (h0 : (i 0).val = (y 0).val) (h1 : (i 1).val = 256 * t.val + (y 1).val) :
    X ((cfg1.win 5).xinj (cfg1.grid.coords t) y) = repAll m c i := by
  obtain ⟨Y, -, s, x, hx, rfl⟩ := h
  have hl : (y 1).val < 256 := lt_of_lt_of_le (lt_of_lt_of_eq (y 1).isLt (xsz5 t 1)) (Nat.min_le_left _ _)
  have hd : (y 0).val < 12 := lt_of_lt_of_eq (y 0).isLt (xsz5 t 0)
  refine Eq.trans (congrArg (k1_pay80 (liveT (grid1.coords t)) (x.lg (grid1.coords t) s)) (?_ : _ = (ix2 (⟨(y 0).val, hd⟩ : Fin 12) (⟨(y 1).val, hl⟩ : Fin 256) : S12x256.Idx))) ?_
  · funext ax
    match ax with
    | ⟨0, _⟩ => rfl
    | ⟨1, _⟩ => rfl
  · refine (rep_block m c t x hx.2 s ⟨(y 1).val, hl⟩ ⟨(i 1).val, (i 1).isLt⟩ h1 _).trans ?_
    exact congrArg (fun q => repK m c q _) (Fin.ext h0.symm)
theorem left6 (t : Fin cfg1.N) (X) (h : (rd1 c (A1 m c)).Leaves 6 t X) (y : ((cfg1.win 6).xblock (cfg1.grid.coords t)).Idx) (i : S1x50368.Idx) (h0 : (i 0).val = (y 0).val) (h1 : (i 1).val = 256 * t.val + (y 1).val) :
    X ((cfg1.win 6).xinj (cfg1.grid.coords t) y) = meanAll m c i := by
  obtain ⟨Y, -, s, x, hx, rfl⟩ := h
  have hl : (y 1).val < 256 := lt_of_lt_of_le (lt_of_lt_of_eq (y 1).isLt (xsz6 t 1)) (Nat.min_le_left _ _)
  have hd : (y 0).val < 1 := lt_of_lt_of_eq (y 0).isLt (xsz6 t 0)
  refine Eq.trans (congrArg (k1_pay82 (liveT (grid1.coords t)) (x.lg (grid1.coords t) s)) (?_ : _ = (ix2 (0 : Fin 1) (⟨(y 1).val, hl⟩ : Fin 256) : S1x256.Idx))) ?_
  · funext ax
    match ax with
    | ⟨0, _⟩ => exact Fin.ext (show (y 0).val = 0 by omega)
    | ⟨1, _⟩ => rfl
  · exact mean_block m c t x hx.2 s ⟨(y 1).val, hl⟩ ⟨(i 1).val, (i 1).isLt⟩ h1

def G15 : Buf (Elt Ideal) ((cfg1.win 5).arr.view.loc (c : Thread nD τ)) := repAll m c
def G16 : Buf (Elt Ideal) ((cfg1.win 6).arr.view.loc (c : Thread nD τ)) := meanAll m c

theorem place5 (t : Fin cfg1.N) (y : ((cfg1.win 5).xblock (cfg1.grid.coords t)).Idx) : ∃ i : S12x50368.Idx, (i 0).val = (y 0).val ∧ (i 1).val = 256 * t.val + (y 1).val := by
  have ht : t.val < 197 := t.isLt
  have hl : (y 1).val < min 256 (50368 - 256 * t.val) := lt_of_lt_of_eq (y 1).isLt (xsz5 t 1)
  have hd : (y 0).val < 12 := lt_of_lt_of_eq (y 0).isLt (xsz5 t 0)
  exact ⟨ix2 (⟨(y 0).val, hd⟩ : Fin 12) (⟨256 * t.val + (y 1).val, by omega⟩ : Fin 50368), rfl, rfl⟩
theorem place6 (t : Fin cfg1.N) (y : ((cfg1.win 6).xblock (cfg1.grid.coords t)).Idx) : ∃ i : S1x50368.Idx, (i 0).val = (y 0).val ∧ (i 1).val = 256 * t.val + (y 1).val := by
  have ht : t.val < 197 := t.isLt
  have hl : (y 1).val < min 256 (50368 - 256 * t.val) := lt_of_lt_of_eq (y 1).isLt (xsz6 t 1)
  have hd : (y 0).val < 1 := lt_of_lt_of_eq (y 0).isLt (xsz6 t 0)
  exact ⟨ix2 (⟨(y 0).val, hd⟩ : Fin 1) (⟨256 * t.val + (y 1).val, by omega⟩ : Fin 50368), rfl, rfl⟩

theorem arr15 (V : Valuation τ sig (Elt Ideal)) (hV : LeftBy m c V) : V main_v7_0 = (repAll m c : Buf (Elt Ideal) ((c : Thread nD τ).loc main_v7_0)) := by
  obtain ⟨after, hL, hA⟩ := RDat.ArrAt.exists_exact_all (rd := rd1 c (A1 m c)) hV.1
  refine (hA 5).trans (((rd1 c (A1 m c)).withAfter after).arrAt_eq_of_emb 5 (G15 m c) (fun t hf y => ?_) (cover5))
  obtain ⟨i, h0, h1⟩ := place5 t y
  exact (left5 m c t _ (hL 5 t t.isLt hf) y i h0 h1).trans (congrArg (repAll m c) (emb1_5 t y i h0 h1).symm)
theorem arr16 (V : Valuation τ sig (Elt Ideal)) (hV : LeftBy m c V) : V main_v7_1 = (meanAll m c : Buf (Elt Ideal) ((c : Thread nD τ).loc main_v7_1)) := by
  obtain ⟨after, hL, hA⟩ := RDat.ArrAt.exists_exact_all (rd := rd1 c (A1 m c)) hV.1
  refine (hA 6).trans (((rd1 c (A1 m c)).withAfter after).arrAt_eq_of_emb 6 (G16 m c) (fun t hf y => ?_) (cover6))
  obtain ⟨i, h0, h1⟩ := place6 t y
  exact (left6 m c t _ (hL 6 t t.isLt hf) y i h0 h1).trans (congrArg (meanAll m c) (emb1_6 t y i h0 h1).symm)

/-- The program's first result. -/
theorem rep_end (V : Valuation τ sig (Elt Ideal)) (hV : LeftBy m c V) : StableHlo.after hostOps2 V main_v7_0 = (repAll m c : Buf (Elt Ideal) ((c : Thread nD τ).loc main_v7_0)) :=
  (StableHlo.after_of_writes_sub hostOps2 _ hostOps2_writes (by decide)).trans (arr15 m c V hV)

theorem flat_at (x : FVec Ideal S1x50368 .f32) (v : Fin 50368) : shapeCast (s := S1x50368) S50368 x shapeCasts_S1x50368_S50368 (ix1 v) = x (ix2 (0 : Fin 1) v) := by
  pointwise
/-- The program's third result. -/
theorem mean_end (V : Valuation τ sig (Elt Ideal)) (hV : LeftBy m c V) (v : Fin 50368) : (StableHlo.after hostOps2 V main_v9 : FVec Ideal S50368 .f32) (ix1 v) = meanK m c v := by
  have e : (StableHlo.after hostOps2 V main_v9 : FVec Ideal S50368 .f32) = shapeCast (s := S1x50368) S50368 (V main_v7_1 : FVec Ideal S1x50368 .f32) shapeCasts_S1x50368_S50368 := by
    show StableHlo.after hostOps2 _ _ = _
    after_results
    rfl
  exact (congrFun e _).trans ((flat_at _ v).trans (congrFun (arr16 m c V hV) _))

end Cert.KernelIdeal.Whole

end
-- ==== Proof.RefArr.lean ====
/-
  The reference's transform call: its arrays as functions of the launched arrays, and its results at the end of a run.
-/
module

public import proofs.«01_k».proof.Proof.TransformValue
public import Idealize.ShloMosaic.Lib.Pipeline.ValueKit
public import Idealize.ShloMosaic.Lib.Pointwise
public import Idealize.ShloMosaic.Lib.StableHlo.RunHlo

@[expose] public section

set_option maxRecDepth 16384

noncomputable section

namespace Cert.ReferenceIdeal.Hand

open Cert.ReferenceIdeal Cert.ReferenceIdeal.Gen Cert.TransformValue
open Idealize.ShloMosaic
open Idealize.ShloMosaic.TcCoe Idealize.ShloMosaic.Tactic
open Idealize.SL.Sem
open Idealize.ShloMosaic.Pipeline (Dat RDat Cfg Window)

variable (m : (ℓ : Loc nD τ sig) → Buf (Elt Ideal) ℓ) (ρ : Dev nD → PrngReg) (c : Dev nD)

/-- The launched arrays as the transform reads them. -/
def tarr : TArr where
  x := m ((c : Thread nD τ).loc main_arg0)
  xs := fun i => (m ((c : Thread nD τ).loc main_arg1) : FVec Ideal S12x128 .f32) (ix2 (i 0) (i 1))
  w := m ((c : Thread nD τ).loc main_arg3)
  ws := fun i => (m ((c : Thread nD τ).loc main_arg4) : FVec Ideal S1024 .f32) (ix1 (i 2))
  bt := fun i => (m ((c : Thread nD τ).loc main_arg5) : FVec Ideal S1024 .f32) (ix1 (i 2))
  gamma := fun i => (m ((c : Thread nD τ).loc main_arg6) : FVec Ideal S1024 .f32) (ix1 (i 2))
  beta := fun i => (m ((c : Thread nD τ).loc main_arg7) : FVec Ideal S1024 .f32) (ix1 (i 2))

theorem V_v0 : (V m c main_v0 : FVec Ideal S12x128x1 .f32) = (tarr m c).xs := by
  have e : (V m c main_v0 : FVec Ideal S12x128x1 .f32) = shapeCast (s := S12x128) S12x128x1 (m ((c : Thread nD τ).loc main_arg1) : FVec Ideal S12x128 .f32) shapeCasts_S12x128_S12x128x1 := by
    show StableHlo.after hostOps0 _ _ = _
    after_results
    rfl
  rw [e]
  funext j
  idx_vars j
  pointwise [tarr]
theorem V_v1 : (V m c main_v1 : FVec Ideal S1x1x1024 .f32) = (tarr m c).ws := by
  have e : (V m c main_v1 : FVec Ideal S1x1x1024 .f32) = shapeCast (s := S1024) S1x1x1024 (m ((c : Thread nD τ).loc main_arg4) : FVec Ideal S1024 .f32) shapeCasts_S1024_S1x1x1024 := by
    show StableHlo.after hostOps0 _ _ = _
    after_results
    rfl
  rw [e]
  funext j
  idx_vars j
  pointwise [tarr]
theorem V_v2 : (V m c main_v2 : FVec Ideal S1x1x1024 .f32) = (tarr m c).bt := by
  have e : (V m c main_v2 : FVec Ideal S1x1x1024 .f32) = shapeCast (s := S1024) S1x1x1024 (m ((c : Thread nD τ).loc main_arg5) : FVec Ideal S1024 .f32) shapeCasts_S1024_S1x1x1024 := by
    show StableHlo.after hostOps0 _ _ = _
    after_results
    rfl
  rw [e]
  funext j
  idx_vars j
  pointwise [tarr]
theorem V_v3 : (V m c main_v3 : FVec Ideal S1x1x1024 .f32) = (tarr m c).gamma := by
  have e : (V m c main_v3 : FVec Ideal S1x1x1024 .f32) = shapeCast (s := S1024) S1x1x1024 (m ((c : Thread nD τ).loc main_arg6) : FVec Ideal S1024 .f32) shapeCasts_S1024_S1x1x1024 := by
    show StableHlo.after hostOps0 _ _ = _
    after_results
    rfl
  rw [e]
  funext j
  idx_vars j
  pointwise [tarr]
theorem V_v4 : (V m c main_v4 : FVec Ideal S1x1x1024 .f32) = (tarr m c).beta := by
  have e : (V m c main_v4 : FVec Ideal S1x1x1024 .f32) = shapeCast (s := S1024) S1x1x1024 (m ((c : Thread nD τ).loc main_arg7) : FVec Ideal S1024 .f32) shapeCasts_S1024_S1x1x1024 := by
    show StableHlo.after hostOps0 _ _ = _
    after_results
    rfl
  rw [e]
  funext j
  idx_vars j
  pointwise [tarr]

theorem hz3 : (![0, 0, 0] : Fin 3 → Nat) = fun _ => 0 := funext fun a => by fin_cases a <;> rfl
theorem hz2 : (![0, 0] : Fin 2 → Nat) = fun _ => 0 := funext fun a => by fin_cases a <;> rfl

/-- The one point. -/
def pt : Fin cfg0.N := ⟨0, by decide⟩

theorem whole (w : Fin 10) : ∀ (h : 7 ≤ w.val), (cfg0.win w).WholeAt pt := by revert w; decide +kernel

theorem out7 (x0 x1 x2 x3 x4 x5 x6) : out0_7 (F := Ideal) x0 x1 x2 x3 x4 x5 x6 = refCodes ⟨x0, x1, x2, x3, x4, x5, x6⟩ := by
  unfold out0_7
  rw [View.canon_unit_zero hz3]
  unfold k0_pay8 k0_pay9 k0_pay10 refCodes
  simp only [View.ld_unit_zero (S := S12x128x1024) hz3, View.ld_unit_zero (S := S12x128x1) hz3, View.ld_unit_zero (S := S1x1x1024) hz3, View.ld_unit_zero (S := S1024x1024) hz2]

theorem out8 (x0 x1 x2 x3 x4 x5 x6) : out0_8 (F := Ideal) x0 x1 x2 x3 x4 x5 x6 = refScale ⟨x0, x1, x2, x3, x4, x5, x6⟩ := by
  unfold out0_8
  rw [View.canon_unit_zero hz3]
  unfold k0_pay8 k0_pay9 k0_pay10 refScale
  simp only [View.ld_unit_zero (S := S12x128x1024) hz3, View.ld_unit_zero (S := S12x128x1) hz3, View.ld_unit_zero (S := S1x1x1024) hz3, View.ld_unit_zero (S := S1024x1024) hz2]

/-- The one point's blocks are the whole arrays. -/
theorem embIn : ∀ w : Fin 10, ∀ ax, (cfg0.win w).index pt ax = 0 := by decide +kernel
theorem blk_whole (w : Fin 10) (y : ((cfg0.win w).xblock (cfg0.grid.coords pt)).Idx) (ax) : (((cfg0.win w).rect pt).emb y ax : ℕ) = y ax :=
  Window.rect_emb_val_of_index_zero _ _ _ (embIn w ax) y
theorem iblk0 : iblk m c 0 pt = (tarr m c).x := funext fun y => (congrArg (V m c main_arg0 : FVec Ideal S12x128x1024 .fp8e4m3) (funext fun ax => Fin.ext (blk_whole 0 y ax))).trans (congrFun (V_main_arg0 m c) _)
theorem iblk1 : iblk m c 1 pt = (tarr m c).xs := funext fun y => (congrArg (V m c main_v0 : FVec Ideal S12x128x1 .f32) (funext fun ax => Fin.ext (blk_whole 1 y ax))).trans (congrFun (V_v0 m c) _)
theorem iblk2 : iblk m c 2 pt = (tarr m c).w := funext fun y => (congrArg (V m c main_arg3 : FVec Ideal S1024x1024 .fp8e4m3) (funext fun ax => Fin.ext (blk_whole 2 y ax))).trans (congrFun (V_main_arg3 m c) _)
theorem iblk3 : iblk m c 3 pt = (tarr m c).ws := funext fun y => (congrArg (V m c main_v1 : FVec Ideal S1x1x1024 .f32) (funext fun ax => Fin.ext (blk_whole 3 y ax))).trans (congrFun (V_v1 m c) _)
theorem iblk4 : iblk m c 4 pt = (tarr m c).bt := funext fun y => (congrArg (V m c main_v2 : FVec Ideal S1x1x1024 .f32) (funext fun ax => Fin.ext (blk_whole 4 y ax))).trans (congrFun (V_v2 m c) _)
theorem iblk5 : iblk m c 5 pt = (tarr m c).gamma := funext fun y => (congrArg (V m c main_v3 : FVec Ideal S1x1x1024 .f32) (funext fun ax => Fin.ext (blk_whole 5 y ax))).trans (congrFun (V_v3 m c) _)
theorem iblk6 : iblk m c 6 pt = (tarr m c).beta := funext fun y => (congrArg (V m c main_v4 : FVec Ideal S1x1x1024 .f32) (funext fun ax => Fin.ext (blk_whole 6 y ax))).trans (congrFun (V_v4 m c) _)

def G7 : Buf (Elt Ideal) ((cfg0.win 7).arr.view.loc (c : Thread nD τ)) := refCodes (tarr m c)
def G8 : Buf (Elt Ideal) ((cfg0.win 8).arr.view.loc (c : Thread nD τ)) := refScale (tarr m c)

theorem after7 : (dats m 0 c).after 7 pt = refCodes (tarr m c) := by
  rw [after0_7, iblk0, iblk1, iblk2, iblk3, iblk4, iblk5, iblk6]
  exact out7 ..
theorem after8 : (dats m 0 c).after 8 pt = refScale (tarr m c) := by
  rw [after0_8, iblk0, iblk1, iblk2, iblk3, iblk4, iblk5, iblk6]
  exact out8 ..

/-- The call's arrays of codes and of scales. -/
theorem arr7 : (dats m 0 c).arrAt 7 cfg0.N = G7 m c :=
  (dats m 0 c).arrAt_eq_of_after_last 7 pt (whole 7 (by decide)) (G7 m c) (fun j => congrFun (after7 m c) j)
theorem arr8 : (dats m 0 c).arrAt 8 cfg0.N = G8 m c :=
  (dats m 0 c).arrAt_eq_of_after_last 8 pt (whole 8 (by decide)) (G8 m c) (fun j => congrFun (after8 m c) j)

end Cert.ReferenceIdeal.Hand

end
-- ==== Proof.RefEnd.lean ====
/-
  What the reference's result buffers hold at the end of a run: the transform call's arrays, and what the host operations
  after it make of them.
-/
module

public import proofs.«01_k».proof.Proof.RefArr

@[expose] public section

set_option maxRecDepth 16384

noncomputable section

namespace Cert.ReferenceIdeal.Hand

open Cert.ReferenceIdeal Cert.ReferenceIdeal.Gen Cert.TransformValue
open Idealize.ShloMosaic
open Idealize.ShloMosaic.TcCoe Idealize.ShloMosaic.Tactic
open Idealize.SL.Sem
open Idealize.ShloMosaic.Pipeline (Dat RDat Cfg Window)

variable (m : (ℓ : Loc nD τ sig) → Buf (Elt Ideal) ℓ) (ρ : Dev nD → PrngReg) (c : Dev nD)

/-- The unscoped buffers after the call, and after each stretch of host operations. -/
def E0 : Valuation τ sig (Elt Ideal) := Pipeline.withArrays (cfgs 0).spec c (V0 m c) fun w => (dats m 0 c).arrAt w (cfgs 0).N
def E1 : Valuation τ sig (Elt Ideal) := StableHlo.after hostOps1 (E0 m c)
def E2 : Valuation τ sig (Elt Ideal) := StableHlo.after hostOps1_1 (E1 m c)
def E3 : Valuation τ sig (Elt Ideal) := StableHlo.after hostOps1_2 (E2 m c)
def E4 : Valuation τ sig (Elt Ideal) := StableHlo.after hostOps1_3 (E3 m c)
def E5 : Valuation τ sig (Elt Ideal) := StableHlo.after hostOps1_4 (E4 m c)
def E6 : Valuation τ sig (Elt Ideal) := StableHlo.after hostOps1_5 (E5 m c)
def E7 : Valuation τ sig (Elt Ideal) := StableHlo.after hostOps1_6 (E6 m c)
def E8 : Valuation τ sig (Elt Ideal) := StableHlo.after hostOps1_7 (E7 m c)
def E9 : Valuation τ sig (Elt Ideal) := StableHlo.after hostOps1_8 (E8 m c)

theorem tail_eq (b : Ref sig .tc) :
    Pipeline.afterTail₀ cfgs (dats m) 0 (V0 m) [hostOps1, hostOps1_1, hostOps1_2, hostOps1_3, hostOps1_4, hostOps1_5, hostOps1_6, hostOps1_7, hostOps1_8] c b = E9 m c b := by
  unfold Pipeline.afterTail₀
  rw [List.flatten_cons, List.flatten_cons, List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append, StableHlo.after_append, StableHlo.after_append]
  rfl

/-- The call's array of scales, kept by the host operations that follow. -/
theorem E0_v5_1 : E0 m c main_v5_1 = G8 m c := (Pipeline.withArrays_arr spec0 launch0.win.arr_inj c (V0 m c) (fun w => (dats m 0 c).arrAt w (cfgs 0).N) 8).trans (arr8 m c)
theorem E8_v5_1 : E8 m c main_v5_1 = G8 m c := by
  unfold E8 E7 E6 E5 E4 E3 E2 E1
  rw [StableHlo.after_of_writes_sub (r := main_v5_1) hostOps1_7 _ hostOps1_7_writes (by decide +kernel),
    StableHlo.after_of_writes_sub (r := main_v5_1) hostOps1_6 _ hostOps1_6_writes (by decide +kernel),
    StableHlo.after_of_writes_sub (r := main_v5_1) hostOps1_5 _ hostOps1_5_writes (by decide +kernel),
    StableHlo.after_of_writes_sub (r := main_v5_1) hostOps1_4 _ hostOps1_4_writes (by decide +kernel),
    StableHlo.after_of_writes_sub (r := main_v5_1) hostOps1_3 _ hostOps1_3_writes (by decide +kernel),
    StableHlo.after_of_writes_sub (r := main_v5_1) hostOps1_2 _ hostOps1_2_writes (by decide +kernel),
    StableHlo.after_of_writes_sub (r := main_v5_1) hostOps1_1 _ hostOps1_1_writes (by decide +kernel),
    StableHlo.after_of_writes_sub (r := main_v5_1) hostOps1 _ hostOps1_writes (by decide +kernel)]
  exact E0_v5_1 m c

/-- The sixth result: the scales, as a matrix. -/
theorem E9_v68 (i : S12x128.Idx) : (E9 m c main_v68 : FVec Ideal S12x128 .f32) i = refScale (tarr m c) (ix3 (⟨(i 0).val, (i 0).isLt⟩ : Fin 12) (⟨(i 1).val, (i 1).isLt⟩ : Fin 128) (0 : Fin 1)) := by
  have e : (E9 m c main_v68 : FVec Ideal S12x128 .f32) = shapeCast (s := S12x128x1) S12x128 (E8 m c main_v5_1 : FVec Ideal S12x128x1 .f32) shapeCasts_S12x128x1_S12x128 := by
    show StableHlo.after hostOps1_8 _ _ = _
    after_results
    rfl
  rw [e, E8_v5_1]
  show shapeCast (s := S12x128x1) S12x128 (refScale (tarr m c)) shapeCasts_S12x128x1_S12x128 i = _
  idx_vars i
  pointwise

/-- Every run ends with the call's codes and scales where the fifth and sixth results are. -/
theorem run : θ_run defs (onTc (τ := τ) (main (F := Ideal))) ⟨m, fun _ => 0, ρ⟩ (fun r => ∀ c : Dev nD,
    (∀ b ∈ Pipeline.restRefs sig spec0, r.2.mem ((c : Thread nD τ).loc b) = E9 m c b)
    ∧ r.2.mem ((c : Thread nD τ).loc main_v5_0) = G7 m c) :=
  (θ_run defs _ _).mono (fun r h c => ⟨fun b hb => ((h.1 c).2 b hb).trans (tail_eq m c b), ((h.1 c).1 7).trans (arr7 m c)⟩) (run_main_quiescent m ρ)

end Cert.ReferenceIdeal.Hand

end
-- ==== Proof.RefVocab.lean ====
/-
  The reference's scores: the logits of every position against every word, their largest over a document's positions, and
  the representation made of it.
-/
module

public import proofs.«01_k».proof.Proof.RefEnd
public import Idealize.ShloMosaic.Lib.KernelVsHost

@[expose] public section

set_option maxRecDepth 16384

noncomputable section

namespace Cert.ReferenceIdeal.Hand

open Cert.ReferenceIdeal Cert.ReferenceIdeal.Gen Cert.TransformValue
open Idealize.ShloMosaic
open Idealize.ShloMosaic.TcCoe Idealize.ShloMosaic.Tactic
open Idealize.SL.Sem
open Idealize.ShloMosaic.Pipeline (Dat RDat Cfg Window)

variable (m : (ℓ : Loc nD τ sig) → Buf (Elt Ideal) ℓ) (ρ : Dev nD → PrngReg) (c : Dev nD)

/-- The low halves of the packed codes, sign-extended. -/
def lowNum (p : IVec S50368x512 8) : IVec S50368x512 32 :=
  Host.shrsi (Host.shli (extsi 32 p natLt_8_32) (broadcastInDim S50368x512 ![] bcast_S_S50368x512 (constantI S_ 32 28#32))) (broadcastInDim S50368x512 ![] bcast_S_S50368x512 (constantI S_ 32 28#32))
/-- The high halves. -/
def highNum (p : IVec S50368x512 8) : IVec S50368x512 32 :=
  Host.shrsi (extsi 32 p natLt_8_32) (broadcastInDim S50368x512 ![] bcast_S_S50368x512 (constantI S_ 32 4#32))
/-- A half of the table: its numbers times their groups' scales. -/
def half (n : IVec S50368x512 32) (g : FVec Ideal S50368x8 .f32) : FVec Ideal S50368x512 .bf16 :=
  shapeCast (s := S50368x8x64) S50368x512
    (mulf (shapeCast (s := S50368x512) S50368x8x64 (sitofp .bf16 n : FVec Ideal S50368x512 .bf16) shapeCasts_S50368x512_S50368x8x64)
      (broadcastInDim S50368x8x64 ![0, 1, 2] bcast_S50368x8x1_S50368x8x64_0_1_2 (broadcastInDim S50368x8x1 ![0, 1] bcast_S50368x8_S50368x8x1_0_1 (truncf .bf16 g bitsLt_bf16_f32))))
    shapeCasts_S50368x8x64_S50368x512
/-- The logits. -/
def logits (z : FVec Ideal S12x128x1024 .bf16) (sc : FVec Ideal S12x128x1 .f32) (p : IVec S50368x512 8) (g : FVec Ideal S50368x8 .f32) (b : FVec Ideal S50368 .f32) : FVec Ideal S12x128x50368 .f32 :=
  addf (mulf (addf
      (Host.dotGeneral dot_S12x128x512_S50368x512_S12x128x50368_2_1_01_0_n_n none (Host.slice S12x128x512 ![0, 0, 0] ![1, 1, 2] z slicesBy_S12x128x1024_S12x128x512_0s1_0s1_0s2) (half (lowNum p) g))
      (Host.dotGeneral dot_S12x128x512_S50368x512_S12x128x50368_2_1_01_0_n_n none (Host.slice S12x128x512 ![0, 0, 1] ![1, 1, 2] z slicesBy_S12x128x1024_S12x128x512_0s1_0s1_1s2) (half (highNum p) g)))
    (broadcastInDim S12x128x50368 ![0, 1, 2] bcast_S12x128x1_S12x128x50368_0_1_2 sc))
    (broadcastInDim S12x128x50368 ![0, 1, 2] bcast_S1x1x50368_S12x128x50368_0_1_2 (broadcastInDim S1x1x50368 ![2] bcast_S50368_S1x1x50368_2 b))
/-- Which positions are within their document. -/
def within (l : IVec S12 32) : IVec S12x128x1 1 :=
  cmpi .slt (broadcastInDim S12x128x1 ![0, 1, 2] bcast_S1x128x1_S12x128x1_0_1_2 (broadcastInDim S1x128x1 ![1] bcast_S128_S1x128x1_1 (iotaInDim S128 32 0)))
    (broadcastInDim S12x128x1 ![0, 1, 2] bcast_S12x1x1_S12x128x1_0_1_2 (broadcastInDim S12x1x1 ![0] bcast_S12_S12x1x1_0 l))
/-- The logits, those past the document's length at the least value. -/
def masked (w : IVec S12x128x1 1) (l : FVec Ideal S12x128x50368 .f32) : FVec Ideal S12x128x50368 .f32 :=
  select (broadcastInDim S12x128x50368 ![0, 1, 2] bcast_S12x128x1_S12x128x50368_0_1_2 w) l (broadcastInDim S12x128x50368 ![] bcast_S_S12x128x50368 (constant S_ .f32 0xFF800000#32))
/-- The representation. -/
def repOf (l : FVec Ideal S12x128x50368 .f32) : FVec Ideal S12x50368 .f32 :=
  Host.log1p (maximumf (Host.reduce FloatOps.maximumf l (constant S_ .f32 0xFF800000#32) reducesTo_S12x128x50368_S12x50368_d1 h_S_) (broadcastInDim S12x50368 ![] bcast_S_S12x50368 (constant S_ .f32 0x00000000#32)))
/-- Its mean over the documents. -/
def meanOf (r : FVec Ideal S12x50368 .f32) : FVec Ideal S50368 .f32 :=
  Host.divf (Host.reduceAdd r (constant S_ .f32 0x00000000#32) reducesTo_S12x50368_S50368_d0 h_S_) (broadcastInDim S50368 ![] bcast_S_S50368 (constant S_ .f32 0x41400000#32))

/-- One element of a half of the table. -/
theorem half_apply (n : IVec S50368x512 32) (g : FVec Ideal S50368x8 .f32) (v : Fin 50368) (j : Fin 512) :
    half n g (ix2 v j) = (((n (ix2 v j)).toInt : ℝ) : EReal) * g (ix2 v ⟨j.val / 64, by omega⟩) := by
  unfold half
  pointwise
  rfl
theorem low_apply (p : IVec S50368x512 8) (v : Fin 50368) (j : Fin 512) : lowNum p (ix2 v j) = IntOp.shrsi .host (IntOp.shli .host ((p (ix2 v j)).signExtend 32) 28#32) 28#32 := rfl
theorem high_apply (p : IVec S50368x512 8) (v : Fin 50368) (j : Fin 512) : highNum p (ix2 v j) = IntOp.shrsi .host ((p (ix2 v j)).signExtend 32) 4#32 := rfl
/-- One logit. -/
theorem logits_apply (z : FVec Ideal S12x128x1024 .bf16) (sc : FVec Ideal S12x128x1 .f32) (p : IVec S50368x512 8) (g : FVec Ideal S50368x8 .f32) (b : FVec Ideal S50368 .f32) (d : Fin 12) (s : Fin 128) (v : Fin 50368) :
    logits z sc p g b (ix3 d s v) = ((∑ j : Fin 512, z (ix3 d s ⟨2 * j.val, by omega⟩) * half (lowNum p) g (ix2 v j)) + (∑ j : Fin 512, z (ix3 d s ⟨1 + 2 * j.val, by omega⟩) * half (highNum p) g (ix2 v j))) * sc (ix3 d s 0) + b (ix1 v) := by
  unfold logits
  generalize half (lowNum p) g = w0
  generalize half (highNum p) g = w1
  pointwise
theorem within_apply (l : IVec S12 32) (d : Fin 12) (s : Fin 128) : within l (ix3 d s 0) = IntOp.cmpi .slt (BitVec.ofNat 32 s.val) (l (ix1 d)) := by
  unfold within
  pointwise
theorem bot_bits : Ideal.ofBits .f32 0xFF800000#32 = ⊥ := by
  simp [Ideal.ofBits, Ideal.ieee]
theorem top_apply (x : FVec Ideal S12x128x50368 .f32) (d : Fin 12) (v : Fin 50368) :
    Host.reduce FloatOps.maximumf x (constant S_ .f32 0xFF800000#32) reducesTo_S12x128x50368_S12x50368_d1 h_S_ (ix2 d v) = Finset.univ.sup fun s : Fin 128 => x (ix3 d s v) := by
  rw [hostReduce_maximumf_eq_multiReduction x 0xFF800000#32 reducesTo_S12x128x50368_S12x50368_d1 h_S_ (by decide) (Or.inl rfl) rfl]
  pointwise
  rw [bot_bits]
  rfl
theorem rep_of (x : FVec Ideal S12x50368 .f32) (d : Fin 12) (v : Fin 50368) :
    (Host.log1p (maximumf x (broadcastInDim S12x50368 ![] bcast_S_S12x50368 (constant S_ .f32 0x00000000#32))) : FVec Ideal S12x50368 .f32) (ix2 d v) = Ideal.log1p (max (x (ix2 d v)) 0) := by
  pointwise
theorem masked_at (w : IVec S12x128x1 1) (l : FVec Ideal S12x128x50368 .f32) (d : Fin 12) (s : Fin 128) (v : Fin 50368) :
    masked w l (ix3 d s v) = if w (ix3 d s 0) = 1#1 then l (ix3 d s v) else ⊥ := by
  unfold masked
  pointwise
  rw [bot_bits]
  rfl
/-- One element of the representation. -/
theorem rep_apply (w : IVec S12x128x1 1) (l : FVec Ideal S12x128x50368 .f32) (d : Fin 12) (v : Fin 50368) :
    repOf (masked w l) (ix2 d v) = Ideal.log1p (max (Finset.univ.sup fun s : Fin 128 => if w (ix3 d s 0) = 1#1 then l (ix3 d s v) else ⊥) 0) := by
  unfold repOf
  refine (rep_of _ d v).trans (congrArg (fun q => Ideal.log1p (max q 0)) ((top_apply _ d v).trans ?_))
  exact congrArg (Finset.univ.sup) (funext fun s => masked_at w l d s v)
theorem mean_apply (r : FVec Ideal S12x50368 .f32) (v : Fin 50368) :
    meanOf r (ix1 v) = Ideal.div (∑ d : Fin 12, r (ix2 d v)) (Ideal.ofBits .f32 0x41400000#32) := by
  unfold meanOf
  pointwise

/-- The call's third array is its codes again. -/
theorem out9 (x0 x1 x2 x3 x4 x5 x6) : out0_9 (F := Ideal) x0 x1 x2 x3 x4 x5 x6 = refCodes ⟨x0, x1, x2, x3, x4, x5, x6⟩ := by
  unfold out0_9
  rw [View.canon_unit_zero hz3]
  unfold k0_pay8 k0_pay9 k0_pay10 refCodes
  simp only [View.ld_unit_zero (S := S12x128x1024) hz3, View.ld_unit_zero (S := S12x128x1) hz3, View.ld_unit_zero (S := S1x1x1024) hz3, View.ld_unit_zero (S := S1024x1024) hz2]
  rfl
theorem after9 : (dats m 0 c).after 9 pt = refCodes (tarr m c) := by
  rw [after0_9, iblk0, iblk1, iblk2, iblk3, iblk4, iblk5, iblk6]
  exact out9 ..
def G9 : Buf (Elt Ideal) ((cfg0.win 9).arr.view.loc (c : Thread nD τ)) := refCodes (tarr m c)
theorem arr9 : (dats m 0 c).arrAt 9 cfg0.N = G9 m c :=
  (dats m 0 c).arrAt_eq_of_after_last 9 pt (whole 9 (by decide)) (G9 m c) (fun j => congrFun (after9 m c) j)
theorem E0_v5_2 : E0 m c main_v5_2 = G9 m c := (Pipeline.withArrays_arr spec0 launch0.win.arr_inj c (V0 m c) (fun w => (dats m 0 c).arrAt w (cfgs 0).N) 9).trans (arr9 m c)

attribute [local irreducible] E0 E1 E2 E3 E8

theorem E1_v37 : (E1 m c main_v37 : FVec Ideal S12x128x50368 .f32) = logits (E0 m c main_v5_2) (E0 m c main_v5_1) (E0 m c main_arg8) (E0 m c main_arg9) (E0 m c main_arg10) := by
  unfold E1
  show StableHlo.after hostOps1 _ _ = _
  after_results
  rfl
theorem E1_v43 : (E1 m c main_v43 : IVec S12x128x1 1) = within (E0 m c main_arg2) := by
  unfold E1
  show StableHlo.after hostOps1 _ _ = _
  after_results
  rfl
theorem E1_cst : (E1 m c main_cst : FVec Ideal S_ .f32) = (constant S_ .f32 0xFF800000#32 : FVec Ideal S_ .f32) := by
  unfold E1
  show StableHlo.after hostOps1 _ _ = _
  after_results
theorem E2_v44 : (E2 m c main_v44 : FVec Ideal S12x128x50368 .f32) = masked (E1 m c main_v43) (E1 m c main_v37) := by
  have e : (E2 m c main_v44 : FVec Ideal S12x128x50368 .f32) = select (broadcastInDim S12x128x50368 ![0, 1, 2] bcast_S12x128x1_S12x128x50368_0_1_2 (E1 m c main_v43 : IVec S12x128x1 1)) (E1 m c main_v37 : FVec Ideal S12x128x50368 .f32) (broadcastInDim S12x128x50368 ![] bcast_S_S12x128x50368 (E1 m c main_cst : FVec Ideal S_ .f32)) := by
    unfold E2
    show StableHlo.after hostOps1_1 _ _ = _
    after_results
    rfl
  exact e.trans (congrArg (fun q => select (broadcastInDim S12x128x50368 ![0, 1, 2] bcast_S12x128x1_S12x128x50368_0_1_2 (E1 m c main_v43 : IVec S12x128x1 1)) (E1 m c main_v37 : FVec Ideal S12x128x50368 .f32) (broadcastInDim S12x128x50368 ![] bcast_S_S12x128x50368 q)) (E1_cst m c))
theorem E3_v48 : (E3 m c main_v48 : FVec Ideal S12x50368 .f32) = repOf (E2 m c main_v44) := by
  unfold E3
  show StableHlo.after hostOps1_2 _ _ = _
  after_results
  rfl
theorem E8_v48 : E8 m c main_v48 = E3 m c main_v48 := by
  unfold E8 E7 E6 E5 E4
  rw [StableHlo.after_of_writes_sub (r := main_v48) hostOps1_7 _ hostOps1_7_writes (by decide +kernel),
    StableHlo.after_of_writes_sub (r := main_v48) hostOps1_6 _ hostOps1_6_writes (by decide +kernel),
    StableHlo.after_of_writes_sub (r := main_v48) hostOps1_5 _ hostOps1_5_writes (by decide +kernel),
    StableHlo.after_of_writes_sub (r := main_v48) hostOps1_4 _ hostOps1_4_writes (by decide +kernel),
    StableHlo.after_of_writes_sub (r := main_v48) hostOps1_3 _ hostOps1_3_writes (by decide +kernel)]
theorem E9_v48 : E9 m c main_v48 = E3 m c main_v48 :=
  (StableHlo.after_of_writes_sub (r := main_v48) hostOps1_8 _ hostOps1_8_writes (by decide +kernel)).trans (E8_v48 m c)
theorem E9_v65 : (E9 m c main_v65 : FVec Ideal S50368 .f32) = meanOf (E8 m c main_v48) := by
  unfold E9
  show StableHlo.after hostOps1_8 _ _ = _
  after_results
  rfl

end Cert.ReferenceIdeal.Hand

end
-- ==== Proof.ScoreSum.lean ====
/-
  Two spellings of a document's largest score against a word: the codes' columns in the kernel's order with the first row
  standing in for the rows past the document's length, and the even and the odd channels apart with those rows left out.
-/
module

public import proofs.«01_k».proof.Proof.ZValue
public import proofs.«01_k».proof.Proof.VocabTile

@[expose] public section

set_option maxRecDepth 16384

noncomputable section

namespace Cert.ScoreSum

open Cert.KernelIdeal.ZValue
open Idealize.ShloMosaic

theorem left_of_chan : ∀ k : Fin 1024, (⟨256 * ((chan k).val / 256) + 128 * ((chan k).val % 2) + (chan k).val % 256 / 2, by omega⟩ : Fin 1024) = k := by decide +kernel
theorem right_of_chan : ∀ c : Fin 1024, chan ⟨256 * (c.val / 256) + 128 * (c.val % 2) + c.val % 256 / 2, by omega⟩ = c := by decide +kernel
/-- The kernel's order of the channels. -/
def order : Fin 1024 ≃ Fin 1024 where
  toFun := chan
  invFun c := ⟨256 * (c.val / 256) + 128 * (c.val % 2) + c.val % 256 / 2, by omega⟩
  left_inv := left_of_chan
  right_inv := right_of_chan

/-- A sum over the channels, the even and the odd ones apart. -/
theorem sum_halves (g : Fin 1024 → EReal) : ∑ c : Fin 1024, g c = (∑ j : Fin 512, g ⟨2 * j.val, by omega⟩) + ∑ j : Fin 512, g ⟨1 + 2 * j.val, by omega⟩ := by
  refine ((finProdFinEquiv (m := 512) (n := 2)).sum_comp g).symm.trans ?_
  rw [Fintype.sum_prod_type, ← Finset.sum_add_distrib]
  refine Finset.sum_congr rfl fun j _ => ?_
  rw [Fin.sum_univ_two]
  refine congrArg₂ (· + ·) (congrArg g (Fin.ext ?_)) (congrArg g (Fin.ext ?_))
  · show 0 + 2 * j.val = 2 * j.val; omega
  · show 1 + 2 * j.val = 1 + 2 * j.val; omega

/-- One score: the columns in the kernel's order against the channels' halves. -/
theorem dot_eq (z : Fin 1024 → EReal) (w : Fin 512 → Fin 2 → EReal) :
    (∑ k : Fin 1024, z (chan k) * w ⟨128 * (k.val / 256) + k.val % 128, by omega⟩ ⟨k.val % 256 / 128, by omega⟩)
      = (∑ j : Fin 512, z ⟨2 * j.val, by omega⟩ * w j 0) + ∑ j : Fin 512, z ⟨1 + 2 * j.val, by omega⟩ * w j 1 := by
  have h := order.sum_comp fun c => z c * w ⟨c.val / 2, by omega⟩ ⟨c.val % 2, by omega⟩
  refine Eq.trans (Finset.sum_congr rfl fun k _ => ?_) (h.trans ((sum_halves _).trans ?_))
  · refine congrArg (z (chan k) * ·) (congrArg₂ w (Fin.ext ?_) (Fin.ext ?_))
    · show 128 * (k.val / 256) + k.val % 128 = (256 * (k.val / 256) + 2 * (k.val % 128) + k.val % 256 / 128) / 2; omega
    · show k.val % 256 / 128 = (256 * (k.val / 256) + 2 * (k.val % 128) + k.val % 256 / 128) % 2; omega
  · refine congrArg₂ (· + ·) (Finset.sum_congr rfl fun j _ => ?_) (Finset.sum_congr rfl fun j _ => ?_)
    · refine congrArg (_ * ·) (congrArg₂ w (Fin.ext ?_) (Fin.ext ?_))
      · show 2 * j.val / 2 = j.val; omega
      · show 2 * j.val % 2 = 0; omega
    · refine congrArg (_ * ·) (congrArg₂ w (Fin.ext ?_) (Fin.ext ?_))
      · show (1 + 2 * j.val) / 2 = j.val; omega
      · show (1 + 2 * j.val) % 2 = 1; omega

/-- Adding the same to every value adds it to the largest. -/
theorem sup_add (f : Fin 128 → EReal) (b : EReal) : (Finset.univ.sup f) + b = Finset.univ.sup fun x => f x + b :=
  Finset.comp_sup_eq_sup_comp_of_is_total (· + b) (fun _ _ h => add_le_add_left h b) (EReal.bot_add b)

/-- A row of a document stands in for those past its length. -/
theorem sup_rows (h : Fin 128 → EReal) (len : BitVec 32) (h0 : IntOp.cmpi .slt (BitVec.ofNat 32 0) len = 1#1) :
    (Finset.univ.sup fun x => h (rowIn len x)) = Finset.univ.sup fun x : Fin 128 => if IntOp.cmpi .slt (BitVec.ofNat 32 x.val) len = 1#1 then h x else ⊥ := by
  have z0 : IntOp.cmpi .slt (BitVec.ofNat 32 (0 : Fin 128).val) len = 1#1 := h0
  refine le_antisymm (Finset.sup_le fun x _ => ?_) (Finset.sup_le fun x _ => ?_)
  · unfold rowIn
    by_cases hx : IntOp.cmpi .slt (BitVec.ofNat 32 x.val) len = 1#1
    · rw [if_pos hx]
      exact le_of_eq_of_le (if_pos hx).symm (Finset.le_sup (f := fun x : Fin 128 => if IntOp.cmpi .slt (BitVec.ofNat 32 x.val) len = 1#1 then h x else ⊥) (Finset.mem_univ x))
    · rw [if_neg hx]
      exact le_of_eq_of_le (if_pos z0).symm (Finset.le_sup (f := fun x : Fin 128 => if IntOp.cmpi .slt (BitVec.ofNat 32 x.val) len = 1#1 then h x else ⊥) (Finset.mem_univ 0))
  · by_cases hx : IntOp.cmpi .slt (BitVec.ofNat 32 x.val) len = 1#1
    · rw [if_pos hx]
      refine le_of_eq_of_le ?_ (Finset.le_sup (f := fun x => h (rowIn len x)) (Finset.mem_univ x))
      unfold rowIn
      rw [if_pos hx]
    · rw [if_neg hx]; exact bot_le

end Cert.ScoreSum

end
-- ==== Proof.ScoreEq.lean ====
/-
  The reference's representation and its mean are the kernel's, where every document has a position.
-/
module

public import proofs.«01_k».proof.Proof.VocabEnd
public import proofs.«01_k».proof.Proof.RefVocab
public import proofs.«01_k».proof.Proof.ScoreSum

@[expose] public section

set_option maxRecDepth 16384

noncomputable section

namespace Cert.ReferenceIdeal.Hand

open Cert.ReferenceIdeal Cert.ReferenceIdeal.Gen Cert.TransformValue Cert.ScoreSum
open Cert.KernelIdeal.ZValue (rowIn chan)
open Cert.KernelIdeal.Vocab (nibInt)
open Idealize.ShloMosaic
open Idealize.ShloMosaic.TcCoe Idealize.ShloMosaic.Tactic
open Idealize.SL.Sem

/-- An element of the table: a byte's half, signed, times its group's scale. -/
def cell (p : IVec S50368x512 8) (g : FVec Ideal S50368x8 .f32) (v : Fin 50368) (j : Fin 512) (b : Fin 2) : EReal :=
  (((nibInt b (p (ix2 v j)) : ℤ) : ℝ) : EReal) * g (ix2 v ⟨j.val / 64, by omega⟩)

theorem half_low (p : IVec S50368x512 8) (g : FVec Ideal S50368x8 .f32) (v : Fin 50368) (j : Fin 512) : half (lowNum p) g (ix2 v j) = cell p g v j 0 := by
  rw [half_apply, low_apply]
  unfold cell nibInt
  rw [if_pos (show (0 : Fin 2).val = 0 from rfl)]
theorem half_high (p : IVec S50368x512 8) (g : FVec Ideal S50368x8 .f32) (v : Fin 50368) (j : Fin 512) : half (highNum p) g (ix2 v j) = cell p g v j 1 := by
  rw [half_apply, high_apply]
  unfold cell nibInt
  rw [if_neg (show ¬ (1 : Fin 2).val = 0 by decide)]

/-- A logit, with the channels in the kernel's order. -/
theorem logits_chan (z : FVec Ideal S12x128x1024 .bf16) (sc : FVec Ideal S12x128x1 .f32) (p : IVec S50368x512 8) (g : FVec Ideal S50368x8 .f32) (b : FVec Ideal S50368 .f32) (d : Fin 12) (s : Fin 128) (v : Fin 50368) :
    logits z sc p g b (ix3 d s v)
      = (∑ k : Fin 1024, z (ix3 d s (chan k)) * cell p g v ⟨128 * (k.val / 256) + k.val % 128, by omega⟩ ⟨k.val % 256 / 128, by omega⟩) * sc (ix3 d s 0) + b (ix1 v) := by
  rw [logits_apply, dot_eq (fun k => z (ix3 d s k)) (cell p g v)]
  refine congrArg (fun q => q * sc (ix3 d s 0) + b (ix1 v)) (congrArg₂ (· + ·) ?_ ?_)
  · exact Finset.sum_congr rfl fun j _ => congrArg (_ * ·) (half_low p g v j)
  · exact Finset.sum_congr rfl fun j _ => congrArg (_ * ·) (half_high p g v j)

/-- A document's largest logit against a word: the kernel's. -/
theorem top_eq (z : FVec Ideal S12x128x1024 .bf16) (sc : FVec Ideal S12x128x1 .f32) (p : IVec S50368x512 8) (g : FVec Ideal S50368x8 .f32) (b : FVec Ideal S50368 .f32) (l : IVec S12 32) (d : Fin 12) (v : Fin 50368)
    (h0 : IntOp.cmpi .slt (BitVec.ofNat 32 0) (l (ix1 d)) = 1#1) :
    (Finset.univ.sup fun s : Fin 128 => if within l (ix3 d s 0) = 1#1 then logits z sc p g b (ix3 d s v) else ⊥)
      = (Finset.univ.sup fun x : Fin 128 => (∑ k : Fin 1024, z (ix3 d (rowIn (l (ix1 d)) x) (chan k)) * cell p g v ⟨128 * (k.val / 256) + k.val % 128, by omega⟩ ⟨k.val % 256 / 128, by omega⟩) * sc (ix3 d (rowIn (l (ix1 d)) x) 0)) + b (ix1 v) := by
  refine Eq.trans ?_ (sup_add _ _).symm
  refine Eq.trans ?_ (sup_rows (fun x => (∑ k : Fin 1024, z (ix3 d x (chan k)) * cell p g v ⟨128 * (k.val / 256) + k.val % 128, by omega⟩ ⟨k.val % 256 / 128, by omega⟩) * sc (ix3 d x 0) + b (ix1 v)) (l (ix1 d)) h0).symm
  refine congrArg (Finset.univ.sup) (funext fun s => ?_)
  rw [within_apply, logits_chan]

variable (m' : (ℓ : Loc nD τ sig) → Buf (Elt Ideal) ℓ) (c : Dev nD)

theorem E0_arg2 : E0 m' c main_arg2 = m' ((c : Thread nD τ).loc main_arg2) := by
  unfold E0
  rw [Pipeline.withArrays_of_ne _ c (V0 m' c) _ main_arg2 (by exact (by decide : ∀ w, Pipeline.arrRef spec0 w ≠ main_arg2))]
  exact V_main_arg2 m' c
theorem E0_arg8 : E0 m' c main_arg8 = m' ((c : Thread nD τ).loc main_arg8) := by
  unfold E0
  rw [Pipeline.withArrays_of_ne _ c (V0 m' c) _ main_arg8 (by exact (by decide : ∀ w, Pipeline.arrRef spec0 w ≠ main_arg8))]
  exact V_main_arg8 m' c
theorem E0_arg9 : E0 m' c main_arg9 = m' ((c : Thread nD τ).loc main_arg9) := by
  unfold E0
  rw [Pipeline.withArrays_of_ne _ c (V0 m' c) _ main_arg9 (by exact (by decide : ∀ w, Pipeline.arrRef spec0 w ≠ main_arg9))]
  exact V_main_arg9 m' c
theorem E0_arg10 : E0 m' c main_arg10 = m' ((c : Thread nD τ).loc main_arg10) := by
  unfold E0
  rw [Pipeline.withArrays_of_ne _ c (V0 m' c) _ main_arg10 (by exact (by decide : ∀ w, Pipeline.arrRef spec0 w ≠ main_arg10))]
  exact V_main_arg10 m' c

attribute [local irreducible] E0 E1 E2 E3 E8 E9

variable (m : (ℓ : Loc Cert.KernelIdeal.nD Cert.KernelIdeal.τ Cert.KernelIdeal.sig) → Buf (Elt Ideal) ℓ)

/-- The representation of the two programs, from the same arguments. -/
theorem rep_eq (e : tarr m' c = Cert.KernelIdeal.Whole.tarr m c)
    (h2 : (m' ((c : Thread nD τ).loc main_arg2) : IVec S12 32) = m ((c.tc : Thread Cert.KernelIdeal.nD Cert.KernelIdeal.τ).loc Cert.KernelIdeal.main_arg2))
    (h8 : (m' ((c : Thread nD τ).loc main_arg8) : IVec S50368x512 8) = Cert.KernelIdeal.Whole.packed m c)
    (h9 : (m' ((c : Thread nD τ).loc main_arg9) : FVec Ideal S50368x8 .f32) = Cert.KernelIdeal.Whole.gscale m c)
    (h10 : (m' ((c : Thread nD τ).loc main_arg10) : FVec Ideal S50368 .f32) = Cert.KernelIdeal.Whole.offset m c)
    (h0 : ∀ d : Fin 12, IntOp.cmpi .slt (BitVec.ofNat 32 0) (Cert.KernelIdeal.Whole.lenOf m c d) = 1#1) (d : Fin 12) (v : Fin 50368) :
    (E3 m' c main_v48 : FVec Ideal S12x50368 .f32) (ix2 d v) = Cert.KernelIdeal.Whole.repK m c d v := by
  rw [E3_v48, E2_v44, rep_apply, E1_v43, E1_v37]
  refine congrArg (fun q => Ideal.log1p (max q 0)) ?_
  have a2 : (E0 m' c main_arg2 : IVec S12 32) = m ((c.tc : Thread Cert.KernelIdeal.nD Cert.KernelIdeal.τ).loc Cert.KernelIdeal.main_arg2) := (E0_arg2 m' c).trans h2
  have a8 : (E0 m' c main_arg8 : IVec S50368x512 8) = Cert.KernelIdeal.Whole.packed m c := (E0_arg8 m' c).trans h8
  have a9 : (E0 m' c main_arg9 : FVec Ideal S50368x8 .f32) = Cert.KernelIdeal.Whole.gscale m c := (E0_arg9 m' c).trans h9
  have a10 : (E0 m' c main_arg10 : FVec Ideal S50368 .f32) = Cert.KernelIdeal.Whole.offset m c := (E0_arg10 m' c).trans h10
  have az : (E0 m' c main_v5_2 : FVec Ideal S12x128x1024 .bf16) = refCodes (Cert.KernelIdeal.Whole.tarr m c) := (E0_v5_2 m' c).trans (congrArg refCodes e)
  have asc : (E0 m' c main_v5_1 : FVec Ideal S12x128x1 .f32) = refScale (Cert.KernelIdeal.Whole.tarr m c) := (E0_v5_1 m' c).trans (congrArg refScale e)
  rw [a2, a8, a9, a10, az, asc]
  exact top_eq _ _ _ _ _ _ d v (h0 d)

/-- The mean of the two programs, from the same arguments. -/
theorem mean_eq (h : ∀ (d : Fin 12) (v : Fin 50368), (E3 m' c main_v48 : FVec Ideal S12x50368 .f32) (ix2 d v) = Cert.KernelIdeal.Whole.repK m c d v) (v : Fin 50368) :
    (E9 m' c main_v65 : FVec Ideal S50368 .f32) (ix1 v) = Cert.KernelIdeal.Whole.meanK m c v := by
  rw [E9_v65, mean_apply, E8_v48]
  exact congrArg (fun q => Ideal.div q _) (Finset.sum_congr rfl fun d _ => h d v)

/-- A length of at least one has its first position within it. -/
theorem slt_of_sge (l : BitVec 32) (h : IntOp.cmpi .sge l 1#32 = 1#1) : IntOp.cmpi .slt (BitVec.ofNat 32 0) l = 1#1 := by
  have e : ∀ b : Bool, BitVec.ofBool b = 1#1 ↔ b = true := by decide
  have h' : (1#32).sle l = true := (e _).mp h
  refine (e _).mpr ?_
  show (BitVec.ofNat 32 0).slt l = true
  rw [BitVec.sle_iff_toInt_le] at h'
  rw [BitVec.slt_iff_toInt_lt]
  have h1 : (1#32 : BitVec 32).toInt = 1 := by decide
  have hz : (BitVec.ofNat 32 0).toInt = 0 := by decide
  omega

end Cert.ReferenceIdeal.Hand

end
-- ==== Proof.lean ====
/-
  The certificate of the claims in Defs.lean: the two frames from the whole program's run (Proof/WholeRun.lean for the
  idealized print, Proof/Bits/WholeRun.lean for the print as it is), the two statements of the one rewrite rule, and the
  values of results 5 and 6 (Proof/TransformArr.lean) and of results 1 and 3 (Proof/VocabEnd.lean, Proof/ScoreEq.lean).
-/
module

public import proofs.«01_k».proof.Defs
public import proofs.«01_k».proof.Proof.WholeRun
public import proofs.«01_k».proof.Proof.Bits.WholeRun
public import proofs.«01_k».proof.Proof.TransformArr
public import proofs.«01_k».proof.Proof.ScoreEq
public import Idealize.ShloMosaic.Lib.Bf16Pair
public import Idealize.ShloMosaic.Lib.ReduceAll

@[expose] public section

set_option maxRecDepth 16384

noncomputable section

namespace Cert.Proof

open Idealize.ShloMosaic Idealize.ShloMosaic.Tactic Idealize.SL.Sem

/-- The kernel as printed ends, its arguments unchanged and every counter at zero. -/
theorem quiescent_Kernel : Cert.quiescent_Kernel (hKernel := Cert.Kernel.Gen.facts) := fun m g _ => Cert.Kernel.Whole.frame m g

/-- The idealized kernel ends, its arguments unchanged and every counter at zero. -/
theorem quiescent_KernelIdeal : Cert.quiescent_KernelIdeal (hKernelIdeal := Cert.KernelIdeal.Gen.facts) := fun m g _ => Cert.KernelIdeal.Whole.frame m g

/-- The rewrites of the scale words, each as its rule's statement. -/
theorem preserves_Kernel_KernelIdeal : Cert.preserves_Kernel_KernelIdeal :=
  ⟨IdealRules.bf16_pair.packStatement _, IdealRules.bf16_pair.statement _ _ (by decide)⟩

/-- The reference ends, its arguments unchanged and every counter at zero. -/
theorem quiescent_ReferenceIdeal : Cert.quiescent_ReferenceIdeal (hReferenceIdeal := Cert.ReferenceIdeal.Gen.facts) := fun m g _ => Cert.ReferenceIdeal.Gen.frame m g

theorem transformFacts : Cert.On_transform_results.Facts where
  bcast_S_S12x50368 := by decide
  bcast_S_S12 := by decide
  bcast_S_S50368 := by decide
  bcast_S_S12x128x1024 := by decide
  bcast_S_S12x128 := by decide

theorem preFacts : Cert.Pre_nonempty.Facts where
  bcast_S_S12 := by decide
  reducesTo_S12_S_d0 := by decide
  h_S_ := by decide

/-- The same two of the launches the value claim reads. -/
theorem quiescent_KernelIdeal_pre : Cert.quiescent_KernelIdeal_pre_nonempty (hKernelIdeal := Cert.KernelIdeal.Gen.facts) (hPre_nonempty := preFacts) := fun m g _ => Cert.KernelIdeal.Whole.frame m g
theorem quiescent_ReferenceIdeal_pre : Cert.quiescent_ReferenceIdeal_pre_nonempty (hReferenceIdeal := Cert.ReferenceIdeal.Gen.facts) (hPre_nonempty := preFacts) := fun m g _ => Cert.ReferenceIdeal.Gen.frame m g

theorem maskFacts : Cert.On_scored_results.Facts where
  bcast_S_S12x50368 := by decide
  bcast_S_S12 := by decide
  bcast_S_S50368 := by decide
  bcast_S_S12x128x1024 := by decide
  bcast_S_S12x128 := by decide

/-- The two programs' transforms read the same arrays. -/
theorem tarr_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : (m' ((c.tc : Thread Cert.ReferenceIdeal.nD Cert.ReferenceIdeal.τ).loc Cert.ReferenceIdeal.main_arg0) : FVec Ideal Cert.KernelIdeal.S12x128x1024 .fp8e4m3) = m ((c.tc : Thread Cert.KernelIdeal.nD Cert.KernelIdeal.τ).loc Cert.KernelIdeal.main_arg0))
    (h1 : (m' ((c.tc : Thread Cert.ReferenceIdeal.nD Cert.ReferenceIdeal.τ).loc Cert.ReferenceIdeal.main_arg1) : FVec Ideal Cert.KernelIdeal.S12x128 .f32) = m ((c.tc : Thread Cert.KernelIdeal.nD Cert.KernelIdeal.τ).loc Cert.KernelIdeal.main_arg1))
    (h3 : (m' ((c.tc : Thread Cert.ReferenceIdeal.nD Cert.ReferenceIdeal.τ).loc Cert.ReferenceIdeal.main_arg3) : FVec Ideal Cert.KernelIdeal.S1024x1024 .fp8e4m3) = m ((c.tc : Thread Cert.KernelIdeal.nD Cert.KernelIdeal.τ).loc Cert.KernelIdeal.main_arg3))
    (h4 : (m' ((c.tc : Thread Cert.ReferenceIdeal.nD Cert.ReferenceIdeal.τ).loc Cert.ReferenceIdeal.main_arg4) : FVec Ideal Cert.KernelIdeal.S1024 .f32) = m ((c.tc : Thread Cert.KernelIdeal.nD Cert.KernelIdeal.τ).loc Cert.KernelIdeal.main_arg4))
    (h5 : (m' ((c.tc : Thread Cert.ReferenceIdeal.nD Cert.ReferenceIdeal.τ).loc Cert.ReferenceIdeal.main_arg5) : FVec Ideal Cert.KernelIdeal.S1024 .f32) = m ((c.tc : Thread Cert.KernelIdeal.nD Cert.KernelIdeal.τ).loc Cert.KernelIdeal.main_arg5))
    (h6 : (m' ((c.tc : Thread Cert.ReferenceIdeal.nD Cert.ReferenceIdeal.τ).loc Cert.ReferenceIdeal.main_arg6) : FVec Ideal Cert.KernelIdeal.S1024 .f32) = m ((c.tc : Thread Cert.KernelIdeal.nD Cert.KernelIdeal.τ).loc Cert.KernelIdeal.main_arg6))
    (h7 : (m' ((c.tc : Thread Cert.ReferenceIdeal.nD Cert.ReferenceIdeal.τ).loc Cert.ReferenceIdeal.main_arg7) : FVec Ideal Cert.KernelIdeal.S1024 .f32) = m ((c.tc : Thread Cert.KernelIdeal.nD Cert.KernelIdeal.τ).loc Cert.KernelIdeal.main_arg7)) :
    Cert.ReferenceIdeal.Hand.tarr m' c = Cert.KernelIdeal.Whole.tarr m c := by
  unfold Cert.ReferenceIdeal.Hand.tarr Cert.KernelIdeal.Whole.tarr
  rw [Cert.TransformValue.TArr.mk.injEq]
  exact ⟨h0, funext fun i => congrFun h1 _, h3, funext fun i => congrFun h4 _, funext fun i => congrFun h5 _, funext fun i => congrFun h6 _, funext fun i => congrFun h7 _⟩

theorem no : (0#1 : BitVec 1) ≠ 1#1 := by decide

/-- The codes and the scales of the kernel are the reference's. -/
theorem algebraic_transform : Cert.algebraic_KernelIdeal_ReferenceIdeal_on_transform_results (hKernelIdeal := Cert.KernelIdeal.Gen.facts) (hReferenceIdeal := Cert.ReferenceIdeal.Gen.facts) (hOn_transform_results := transformFacts) := by
  intro m g m' g' _ hm
  refine ⟨fun c _ => (0 : EReal), fun c _ => (0 : EReal), fun c _ => (0 : EReal), fun c _ => (0 : EReal),
    fun c => Cert.TransformValue.refCodes (Cert.KernelIdeal.Whole.tarr m c), fun c => Cert.KernelIdeal.Whole.scales m c, fun c _ => (0#8 : BitVec 8), fun c _ => (0 : EReal), ?_, ?_⟩
  · refine (θ_run Cert.KernelIdeal.defs _ _).mono (fun r h c => ?_) (θ_run_and (Cert.KernelIdeal.Whole.run m g) (Cert.KernelIdeal.Whole.frame m g))
    obtain ⟨V, hV, hr⟩ := h.1.1 c
    refine ⟨fun i hi => absurd hi no, fun i hi => absurd hi no, fun i hi => absurd hi no, fun i hi => absurd hi no, fun i _ => ?_, fun i _ => ?_, fun i hi => absurd hi no, fun i hi => absurd hi no, h.2.1 c⟩
    · exact congrFun ((hr (Proc.devRef .tc Cert.KernelIdeal.main_v4_0) (Finset.mem_filter.mpr ⟨StableHlo.devRef_mem_tcRefs Cert.KernelIdeal.main_v4_0, by decide⟩)).trans (Cert.KernelIdeal.Whole.codes_end m c V hV)) i
    · exact congrFun ((hr (Proc.devRef .tc Cert.KernelIdeal.main_v4_1) (Finset.mem_filter.mpr ⟨StableHlo.devRef_mem_tcRefs Cert.KernelIdeal.main_v4_1, by decide⟩)).trans (Cert.KernelIdeal.Whole.scale_end m c V hV)) i
  · refine (θ_run Cert.ReferenceIdeal.defs _ _).mono (fun r h c => ?_) (θ_run_and (Cert.ReferenceIdeal.Hand.run m' g') (Cert.ReferenceIdeal.Gen.frame m' g'))
    obtain ⟨h0, h1, _, h3, h4, h5, h6, h7, _⟩ := hm c
    have e := tarr_eq m m' c h0 h1 h3 h4 h5 h6 h7
    refine ⟨fun i hi => absurd hi no, fun i hi => absurd hi no, fun i hi => absurd hi no, fun i hi => absurd hi no, fun i _ => ?_, fun i _ => ?_, fun i hi => absurd hi no, fun i hi => absurd hi no, h.2.1 c⟩
    · exact congrFun ((h.1 c).2.trans (congrArg Cert.TransformValue.refCodes e)) i
    · exact (congrFun ((h.1 c).1 Cert.ReferenceIdeal.main_v68 (Pipeline.mem_restRefs_of Cert.ReferenceIdeal.main_v68 (by decide) (by decide))) i).trans
        ((Cert.ReferenceIdeal.Hand.E9_v68 m' c i).trans (congrFun (congrArg Cert.TransformValue.refScale e) _))

/-- Every document has a position: the precondition, read. -/
theorem has_position (m : (ℓ : Loc Cert.KernelIdeal.nD Cert.KernelIdeal.τ Cert.KernelIdeal.sig) → Buf (Elt Ideal) ℓ) (h : Cert.Pre_KernelIdeal_nonempty (hPre_nonempty := preFacts) m) (c : Dev Cert.KernelIdeal.nD) (d : Fin 12) :
    IntOp.cmpi .slt (BitVec.ofNat 32 0) (Cert.KernelIdeal.Whole.lenOf m c d) = 1#1 := by
  refine Cert.ReferenceIdeal.Hand.slt_of_sge _ ?_
  have e := h c
  unfold Cert.Pre_nonempty.fn at e
  haveI : Subsingleton (Cert.Pre_nonempty.S_).Idx := ⟨fun a b => funext fun i => i.elim0⟩
  exact Host.reduce_andi_all _ _ _ _ (fun i => i.elim0) (congrFun e _) (ix1 d)

/-- The representation, its mean, the codes and the scales of the kernel are the reference's. -/
theorem algebraic : Cert.algebraic_KernelIdeal_ReferenceIdeal_on_scored_results_pre_nonempty (hKernelIdeal := Cert.KernelIdeal.Gen.facts) (hReferenceIdeal := Cert.ReferenceIdeal.Gen.facts) (hPre_nonempty := preFacts) (hOn_scored_results := maskFacts) := by
  intro m g m' g' hp hm
  refine ⟨fun c => Cert.KernelIdeal.Whole.repAll m c, fun c _ => (0 : EReal), fun c i => Cert.KernelIdeal.Whole.meanK m c ⟨(i 0).val, (i 0).isLt⟩, fun c _ => (0 : EReal),
    fun c => Cert.TransformValue.refCodes (Cert.KernelIdeal.Whole.tarr m c), fun c => Cert.KernelIdeal.Whole.scales m c, fun c _ => (0#8 : BitVec 8), fun c _ => (0 : EReal), ?_, ?_⟩
  · refine (θ_run Cert.KernelIdeal.defs _ _).mono (fun r h c => ?_) (θ_run_and (Cert.KernelIdeal.Whole.run m g) (Cert.KernelIdeal.Whole.frame m g))
    obtain ⟨V, hV, hr⟩ := h.1.1 c
    refine ⟨fun i _ => ?_, fun i hi => absurd hi no, fun i _ => ?_, fun i hi => absurd hi no, fun i _ => ?_, fun i _ => ?_, fun i hi => absurd hi no, fun i hi => absurd hi no, h.2.1 c⟩
    · exact congrFun ((hr (Proc.devRef .tc Cert.KernelIdeal.main_v7_0) (Finset.mem_filter.mpr ⟨StableHlo.devRef_mem_tcRefs Cert.KernelIdeal.main_v7_0, by decide⟩)).trans (Cert.KernelIdeal.Whole.rep_end m c V hV)) i
    · obtain ⟨v, rfl⟩ : ∃ v : Fin 50368, i = ix1 v := ⟨i 0, funext fun a => by fin_cases a; rfl⟩
      exact (congrFun (hr (Proc.devRef .tc Cert.KernelIdeal.main_v9) (Finset.mem_filter.mpr ⟨StableHlo.devRef_mem_tcRefs Cert.KernelIdeal.main_v9, by decide⟩)) (ix1 v)).trans (Cert.KernelIdeal.Whole.mean_end m c V hV v)
    · exact congrFun ((hr (Proc.devRef .tc Cert.KernelIdeal.main_v4_0) (Finset.mem_filter.mpr ⟨StableHlo.devRef_mem_tcRefs Cert.KernelIdeal.main_v4_0, by decide⟩)).trans (Cert.KernelIdeal.Whole.codes_end m c V hV)) i
    · exact congrFun ((hr (Proc.devRef .tc Cert.KernelIdeal.main_v4_1) (Finset.mem_filter.mpr ⟨StableHlo.devRef_mem_tcRefs Cert.KernelIdeal.main_v4_1, by decide⟩)).trans (Cert.KernelIdeal.Whole.scale_end m c V hV)) i
  · refine (θ_run Cert.ReferenceIdeal.defs _ _).mono (fun r h c => ?_) (θ_run_and (Cert.ReferenceIdeal.Hand.run m' g') (Cert.ReferenceIdeal.Gen.frame m' g'))
    obtain ⟨h0, h1, h2, h3, h4, h5, h6, h7, h8, h9, h10⟩ := hm c
    have e := tarr_eq m m' c h0 h1 h3 h4 h5 h6 h7
    have er := Cert.ReferenceIdeal.Hand.rep_eq m' c m e h2 h8 h9 h10 (has_position m hp c)
    refine ⟨fun i _ => ?_, fun i hi => absurd hi no, fun i _ => ?_, fun i hi => absurd hi no, fun i _ => ?_, fun i _ => ?_, fun i hi => absurd hi no, fun i hi => absurd hi no, h.2.1 c⟩
    · obtain ⟨d, v, rfl⟩ : ∃ (d : Fin 12) (v : Fin 50368), i = ix2 d v := ⟨i 0, i 1, funext fun a => by fin_cases a <;> rfl⟩
      exact (congrFun (((h.1 c).1 Cert.ReferenceIdeal.main_v48 (Pipeline.mem_restRefs_of Cert.ReferenceIdeal.main_v48 (by decide) (by decide))).trans (Cert.ReferenceIdeal.Hand.E9_v48 m' c)) (ix2 d v)).trans (er d v)
    · obtain ⟨v, rfl⟩ : ∃ v : Fin 50368, i = ix1 v := ⟨i 0, funext fun a => by fin_cases a; rfl⟩
      exact (congrFun ((h.1 c).1 Cert.ReferenceIdeal.main_v65 (Pipeline.mem_restRefs_of Cert.ReferenceIdeal.main_v65 (by decide) (by decide))) (ix1 v)).trans (Cert.ReferenceIdeal.Hand.mean_eq m' c m er v)
    · exact congrFun ((h.1 c).2.trans (congrArg Cert.TransformValue.refCodes e)) i
    · exact (congrFun ((h.1 c).1 Cert.ReferenceIdeal.main_v68 (Pipeline.mem_restRefs_of Cert.ReferenceIdeal.main_v68 (by decide) (by decide))) i).trans
        ((Cert.ReferenceIdeal.Hand.E9_v68 m' c i).trans (congrFun (congrArg Cert.TransformValue.refScale e) _))

theorem claim : Cert.Claim :=
  ⟨Cert.Kernel.Gen.facts, Cert.KernelIdeal.Gen.facts, Cert.ReferenceIdeal.Gen.facts, preFacts, transformFacts, maskFacts, quiescent_Kernel, quiescent_KernelIdeal, quiescent_KernelIdeal_pre, quiescent_ReferenceIdeal, quiescent_ReferenceIdeal_pre, preserves_Kernel_KernelIdeal, algebraic_transform, algebraic⟩

end Cert.Proof

end
